-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S1x32 : Shape := ⟨2, ![1, 32]⟩
abbrev S2x128x2048 : Shape := ⟨3, ![2, 128, 2048]⟩
abbrev S2 : Shape := ⟨1, ![2]⟩
abbrev S_ : Shape := ⟨0, ![]⟩
abbrev S1x1x32 : Shape := ⟨3, ![1, 1, 32]⟩
abbrev S1 : Shape := ⟨1, ![1]⟩
abbrev S1x1x1 : Shape := ⟨3, ![1, 1, 1]⟩
abbrev S128x128 : Shape := ⟨2, ![128, 128]⟩
abbrev S128x2048 : Shape := ⟨2, ![128, 2048]⟩
abbrev S1x128x2048 : Shape := ⟨3, ![1, 128, 2048]⟩

abbrev nBuf : Space → Nat
  | .hbm => 7
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S32, .i32⟩
  | .hbm, ⟨3, _⟩ => ⟨S32, .i32⟩
  | .hbm, ⟨4, _⟩ => ⟨S1x32, .i32⟩
  | .hbm, ⟨5, _⟩ => ⟨S1x32, .i32⟩
  | .hbm, ⟨6, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S1x32, .i32⟩
  | .local _ .vmem, ⟨3, _⟩ => ⟨S1x32, .i32⟩
  | .local _ .vmem, ⟨4, _⟩ => ⟨S128x8192, .f32⟩
  | .local _ .vmem, ⟨5, _⟩ => ⟨S2x128x2048, .f32⟩
  | .local _ .vmem, ⟨6, _⟩ => ⟨S2x128x2048, .f32⟩
  | .local _ .vmem, ⟨7, _⟩ => ⟨S2x128x2048, .f32⟩
  | .local _ .vmem, ⟨8, _⟩ => ⟨S2x128x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 5 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 32
abbrev τ : Topo := Topo.v7x

variable {F : FTy → Type} [FloatOps F]

abbrev grid0 : Pipeline.Grid := .none

def k0_dev1 (v53 : BitVec 32) : Nat :=
  let c0_i32_23 : BitVec 32 := 0#32
  let c1_i32_22 : BitVec 32 := 1#32
  let v55 : BitVec 32 := Scalar.muli v53 c1_i32_22
  let v56 : BitVec 32 := Scalar.addi c0_i32_23 v55
  v56.toNat

def k0_dev2 (v34 : BitVec 32) : Nat :=
  let c0_i32_26 : BitVec 32 := 0#32
  let c1_i32_25 : BitVec 32 := 1#32
  let v57 : BitVec 32 := Scalar.muli v34 c1_i32_25
  let v58 : BitVec 32 := Scalar.addi c0_i32_26 v57
  v58.toNat

def k0_off1 (v77 : BitVec 32) : Fin 2 → Nat :=
  let c128_i32 : BitVec 32 := 128#32
  let v97 : BitVec 32 := Scalar.muli v77 c128_i32
  let v98 : Index := Scalar.indexCast v97
  let c0_45 : Index := 0#32
  ![v98.toNat, 0]

def k0_chk3 (v77 : BitVec 32) : Prop :=
  (∀ a, (k0_off1 v77) a + S128x128.size a ≤ S4096x128.size a)
theorem k0_off1_inb : ∀ (v77 : BitVec 32) (k0_hw3 : k0_chk3 v77), ∀ a, (k0_off1 v77) a + S128x128.size a ≤ S4096x128.size a := fun v77 k0_hw3 => k0_hw3

def k0_off2 (v96 : BitVec 32) : Fin 2 → Nat :=
  let c128_i32_59 : BitVec 32 := 128#32
  let v117 : BitVec 32 := Scalar.muli v96 c128_i32_59
  let v118 : Index := Scalar.indexCast v117
  let c0_60 : Index := 0#32
  ![v118.toNat, 0]

def k0_chk4 (v96 : BitVec 32) : Prop :=
  (∀ a, (k0_off2 v96) a + S128x128.size a ≤ S4096x128.size a)
theorem k0_off2_inb : ∀ (v96 : BitVec 32) (k0_hw4 : k0_chk4 v96), ∀ a, (k0_off2 v96) a + S128x128.size a ≤ S4096x128.size a := fun v96 k0_hw4 => k0_hw4

def k0_dev3 (v34 : BitVec 32) : Nat :=
  let c0_i32_78 : BitVec 32 := 0#32
  let c1_i32_77 : BitVec 32 := 1#32
  let v137 : BitVec 32 := Scalar.muli v34 c1_i32_77
  let v138 : BitVec 32 := Scalar.addi c0_i32_78 v137
  v138.toNat
def k0_dev4 (v34 : BitVec 32) : Nat :=
  let c0_i32_88 : BitVec 32 := 0#32
  let c1_i32_87 : BitVec 32 := 1#32
  let v147 : BitVec 32 := Scalar.muli v34 c1_i32_87
  let v148 : BitVec 32 := Scalar.addi c0_i32_88 v147
  v148.toNat
def k0_dev5 (v53 : BitVec 32) : Nat :=
  let c0_i32_98 : BitVec 32 := 0#32
  let c1_i32_97 : BitVec 32 := 1#32
  let v157 : BitVec 32 := Scalar.muli v53 c1_i32_97
  let v158 : BitVec 32 := Scalar.addi c0_i32_98 v157
  v158.toNat
def k0_dev6 (v53 : BitVec 32) : Nat :=
  let c0_i32_108 : BitVec 32 := 0#32
  let c1_i32_107 : BitVec 32 := 1#32
  let v167 : BitVec 32 := Scalar.muli v53 c1_i32_107
  let v168 : BitVec 32 := Scalar.addi c0_i32_108 v167
  v168.toNat
def k0_off3 (v196 : BitVec 32) : Fin 2 → Nat :=
  let c128_i32_123 : BitVec 32 := 128#32
  let v197 : BitVec 32 := Scalar.muli v196 c128_i32_123
  let v198 : Index := Scalar.indexCast v197
  let c0_124 : Index := 0#32
  ![v198.toNat, 0]

def k0_chk5 (v196 : BitVec 32) : Prop :=
  (∀ a, (k0_off3 v196) a + S128x128.size a ≤ S4096x128.size a)
theorem k0_off3_inb : ∀ (v196 : BitVec 32) (k0_hw5 : k0_chk5 v196), ∀ a, (k0_off3 v196) a + S128x128.size a ≤ S4096x128.size a := fun v196 k0_hw5 => k0_hw5

def k0_off4 (v223 : BitVec 32) : Fin 2 → Nat :=
  let c128_i32_138 : BitVec 32 := 128#32
  let v224 : BitVec 32 := Scalar.muli v223 c128_i32_138
  let v225 : Index := Scalar.indexCast v224
  let c0_139 : Index := 0#32
  ![v225.toNat, 0]

def k0_chk6 (v223 : BitVec 32) : Prop :=
  (∀ a, (k0_off4 v223) a + S128x128.size a ≤ S4096x128.size a)
theorem k0_off4_inb : ∀ (v223 : BitVec 32) (k0_hw6 : k0_chk6 v223), ∀ a, (k0_off4 v223) a + S128x128.size a ≤ S4096x128.size a := fun v223 k0_hw6 => k0_hw6

def k0_off5 (v250 : BitVec 32) : Fin 2 → Nat :=
  let c128_i32_153 : BitVec 32 := 128#32
  let v251 : BitVec 32 := Scalar.muli v250 c128_i32_153
  let v252 : Index := Scalar.indexCast v251
  let c0_154 : Index := 0#32
  ![v252.toNat, 0]

def k0_chk7 (v250 : BitVec 32) : Prop :=
  (∀ a, (k0_off5 v250) a + S128x128.size a ≤ S4096x128.size a)
theorem k0_off5_inb : ∀ (v250 : BitVec 32) (k0_hw7 : k0_chk7 v250), ∀ a, (k0_off5 v250) a + S128x128.size a ≤ S4096x128.size a := fun v250 k0_hw7 => k0_hw7

def k0_off6 (v277 : BitVec 32) : Fin 2 → Nat :=
  let c128_i32_168 : BitVec 32 := 128#32
  let v278 : BitVec 32 := Scalar.muli v277 c128_i32_168
  let v279 : Index := Scalar.indexCast v278
  let c0_169 : Index := 0#32
  ![v279.toNat, 0]

def k0_chk8 (v277 : BitVec 32) : Prop :=
  (∀ a, (k0_off6 v277) a + S128x128.size a ≤ S4096x128.size a)
theorem k0_off6_inb : ∀ (v277 : BitVec 32) (k0_hw8 : k0_chk8 v277), ∀ a, (k0_off6 v277) a + S128x128.size a ≤ S4096x128.size a := fun v277 k0_hw8 => k0_hw8

def k0_dev7 (v53 : BitVec 32) : Nat :=
  let c0_i32_194 : BitVec 32 := 0#32
  let c1_i32_193 : BitVec 32 := 1#32
  let v299 : BitVec 32 := Scalar.muli v53 c1_i32_193
  let v300 : BitVec 32 := Scalar.addi c0_i32_194 v299
  v300.toNat
def k0_dev8 (v34 : BitVec 32) : Nat :=
  let c0_i32_207 : BitVec 32 := 0#32
  let c1_i32_206 : BitVec 32 := 1#32
  let v307 : BitVec 32 := Scalar.muli v34 c1_i32_206
  let v308 : BitVec 32 := Scalar.addi c0_i32_207 v307
  v308.toNat
def k0_off7 (v336 : BitVec 32) : Fin 2 → Nat :=
  let c128_i32_222 : BitVec 32 := 128#32
  let v337 : BitVec 32 := Scalar.muli v336 c128_i32_222
  let v338 : Index := Scalar.indexCast v337
  let c0_223 : Index := 0#32
  ![v338.toNat, 0]

def k0_chk9 (v336 : BitVec 32) : Prop :=
  (∀ a, (k0_off7 v336) a + S128x128.size a ≤ S4096x128.size a)
theorem k0_off7_inb : ∀ (v336 : BitVec 32) (k0_hw9 : k0_chk9 v336), ∀ a, (k0_off7 v336) a + S128x128.size a ≤ S4096x128.size a := fun v336 k0_hw9 => k0_hw9

def k0_dev9 (v53 : BitVec 32) : Nat :=
  let c0_i32_248 : BitVec 32 := 0#32
  let c1_i32_247 : BitVec 32 := 1#32
  let v358 : BitVec 32 := Scalar.muli v53 c1_i32_247
  let v359 : BitVec 32 := Scalar.addi c0_i32_248 v358
  v359.toNat
def k0_dev10 (v34 : BitVec 32) : Nat :=
  let c0_i32_262 : BitVec 32 := 0#32
  let c1_i32_261 : BitVec 32 := 1#32
  let v366 : BitVec 32 := Scalar.muli v34 c1_i32_261
  let v367 : BitVec 32 := Scalar.addi c0_i32_262 v366
  v367.toNat
def k0_off8 (v395 : BitVec 32) : Fin 2 → Nat :=
  let c128_i32_277 : BitVec 32 := 128#32
  let v396 : BitVec 32 := Scalar.muli v395 c128_i32_277
  let v397 : Index := Scalar.indexCast v396
  let c0_278 : Index := 0#32
  ![v397.toNat, 0]

def k0_chk10 (v395 : BitVec 32) : Prop :=
  (∀ a, (k0_off8 v395) a + S128x128.size a ≤ S4096x128.size a)
theorem k0_off8_inb : ∀ (v395 : BitVec 32) (k0_hw10 : k0_chk10 v395), ∀ a, (k0_off8 v395) a + S128x128.size a ≤ S4096x128.size a := fun v395 k0_hw10 => k0_hw10

def k0_dev11 (v34 : BitVec 32) : Nat :=
  let c0_i32_303 : BitVec 32 := 0#32
  let c1_i32_302 : BitVec 32 := 1#32
  let v417 : BitVec 32 := Scalar.muli v34 c1_i32_302
  let v418 : BitVec 32 := Scalar.addi c0_i32_303 v417
  v418.toNat
def k0_dev12 (v53 : BitVec 32) : Nat :=
  let c0_i32_317 : BitVec 32 := 0#32
  let c1_i32_316 : BitVec 32 := 1#32
  let v425 : BitVec 32 := Scalar.muli v53 c1_i32_316
  let v426 : BitVec 32 := Scalar.addi c0_i32_317 v425
  v426.toNat
def k0_off9 (v454 : BitVec 32) : Fin 2 → Nat :=
  let c128_i32_332 : BitVec 32 := 128#32
  let v455 : BitVec 32 := Scalar.muli v454 c128_i32_332
  let v456 : Index := Scalar.indexCast v455
  let c0_333 : Index := 0#32
  ![v456.toNat, 0]

def k0_chk11 (v454 : BitVec 32) : Prop :=
  (∀ a, (k0_off9 v454) a + S128x128.size a ≤ S4096x128.size a)
theorem k0_off9_inb : ∀ (v454 : BitVec 32) (k0_hw11 : k0_chk11 v454), ∀ a, (k0_off9 v454) a + S128x128.size a ≤ S4096x128.size a := fun v454 k0_hw11 => k0_hw11

def k0_dev13 (v34 : BitVec 32) : Nat :=
  let c0_i32_358 : BitVec 32 := 0#32
  let c1_i32_357 : BitVec 32 := 1#32
  let v476 : BitVec 32 := Scalar.muli v34 c1_i32_357
  let v477 : BitVec 32 := Scalar.addi c0_i32_358 v476
  v477.toNat
def k0_dev14 (v53 : BitVec 32) : Nat :=
  let c0_i32_372 : BitVec 32 := 0#32
  let c1_i32_371 : BitVec 32 := 1#32
  let v484 : BitVec 32 := Scalar.muli v53 c1_i32_371
  let v485 : BitVec 32 := Scalar.addi c0_i32_372 v484
  v485.toNat
def k0_off10 (v513 : BitVec 32) : Fin 2 → Nat :=
  let c128_i32_387 : BitVec 32 := 128#32
  let v514 : BitVec 32 := Scalar.muli v513 c128_i32_387
  let v515 : Index := Scalar.indexCast v514
  let c0_388 : Index := 0#32
  ![v515.toNat, 0]

def k0_chk12 (v513 : BitVec 32) : Prop :=
  (∀ a, (k0_off10 v513) a + S128x128.size a ≤ S4096x128.size a)
theorem k0_off10_inb : ∀ (v513 : BitVec 32) (k0_hw12 : k0_chk12 v513), ∀ a, (k0_off10 v513) a + S128x128.size a ≤ S4096x128.size a := fun v513 k0_hw12 => k0_hw12

def k0_dev15 (v53 : BitVec 32) : Nat :=
  let c0_i32_413 : BitVec 32 := 0#32
  let c1_i32_412 : BitVec 32 := 1#32
  let v535 : BitVec 32 := Scalar.muli v53 c1_i32_412
  let v536 : BitVec 32 := Scalar.addi c0_i32_413 v535
  v536.toNat
def k0_dev16 (v34 : BitVec 32) : Nat :=
  let c0_i32_427 : BitVec 32 := 0#32
  let c1_i32_426 : BitVec 32 := 1#32
  let v543 : BitVec 32 := Scalar.muli v34 c1_i32_426
  let v544 : BitVec 32 := Scalar.addi c0_i32_427 v543
  v544.toNat
def k0_off11 (v572 : BitVec 32) : Fin 2 → Nat :=
  let c128_i32_442 : BitVec 32 := 128#32
  let v573 : BitVec 32 := Scalar.muli v572 c128_i32_442
  let v574 : Index := Scalar.indexCast v573
  let c0_443 : Index := 0#32
  ![v574.toNat, 0]

def k0_chk13 (v572 : BitVec 32) : Prop :=
  (∀ a, (k0_off11 v572) a + S128x128.size a ≤ S4096x128.size a)
theorem k0_off11_inb : ∀ (v572 : BitVec 32) (k0_hw13 : k0_chk13 v572), ∀ a, (k0_off11 v572) a + S128x128.size a ≤ S4096x128.size a := fun v572 k0_hw13 => k0_hw13

def k0_dev17 (v53 : BitVec 32) : Nat :=
  let c0_i32_468 : BitVec 32 := 0#32
  let c1_i32_467 : BitVec 32 := 1#32
  let v594 : BitVec 32 := Scalar.muli v53 c1_i32_467
  let v595 : BitVec 32 := Scalar.addi c0_i32_468 v594
  v595.toNat
def k0_dev18 (v34 : BitVec 32) : Nat :=
  let c0_i32_482 : BitVec 32 := 0#32
  let c1_i32_481 : BitVec 32 := 1#32
  let v602 : BitVec 32 := Scalar.muli v34 c1_i32_481
  let v603 : BitVec 32 := Scalar.addi c0_i32_482 v602
  v603.toNat
def k0_off12 (v631 : BitVec 32) : Fin 2 → Nat :=
  let c128_i32_497 : BitVec 32 := 128#32
  let v632 : BitVec 32 := Scalar.muli v631 c128_i32_497
  let v633 : Index := Scalar.indexCast v632
  let c0_498 : Index := 0#32
  ![v633.toNat, 0]

def k0_chk14 (v631 : BitVec 32) : Prop :=
  (∀ a, (k0_off12 v631) a + S128x128.size a ≤ S4096x128.size a)
theorem k0_off12_inb : ∀ (v631 : BitVec 32) (k0_hw14 : k0_chk14 v631), ∀ a, (k0_off12 v631) a + S128x128.size a ≤ S4096x128.size a := fun v631 k0_hw14 => k0_hw14

def k0_dev19 (v34 : BitVec 32) : Nat :=
  let c0_i32_523 : BitVec 32 := 0#32
  let c1_i32_522 : BitVec 32 := 1#32
  let v653 : BitVec 32 := Scalar.muli v34 c1_i32_522
  let v654 : BitVec 32 := Scalar.addi c0_i32_523 v653
  v654.toNat
def k0_dev20 (v53 : BitVec 32) : Nat :=
  let c0_i32_537 : BitVec 32 := 0#32
  let c1_i32_536 : BitVec 32 := 1#32
  let v661 : BitVec 32 := Scalar.muli v53 c1_i32_536
  let v662 : BitVec 32 := Scalar.addi c0_i32_537 v661
  v662.toNat
def k0_off13 (v690 : BitVec 32) : Fin 2 → Nat :=
  let c128_i32_552 : BitVec 32 := 128#32
  let v691 : BitVec 32 := Scalar.muli v690 c128_i32_552
  let v692 : Index := Scalar.indexCast v691
  let c0_553 : Index := 0#32
  ![v692.toNat, 0]

def k0_chk15 (v690 : BitVec 32) : Prop :=
  (∀ a, (k0_off13 v690) a + S128x128.size a ≤ S4096x128.size a)
theorem k0_off13_inb : ∀ (v690 : BitVec 32) (k0_hw15 : k0_chk15 v690), ∀ a, (k0_off13 v690) a + S128x128.size a ≤ S4096x128.size a := fun v690 k0_hw15 => k0_hw15

def k0_dev21 (v34 : BitVec 32) : Nat :=
  let c0_i32_578 : BitVec 32 := 0#32
  let c1_i32_577 : BitVec 32 := 1#32
  let v712 : BitVec 32 := Scalar.muli v34 c1_i32_577
  let v713 : BitVec 32 := Scalar.addi c0_i32_578 v712
  v713.toNat
def k0_dev22 (v53 : BitVec 32) : Nat :=
  let c0_i32_592 : BitVec 32 := 0#32
  let c1_i32_591 : BitVec 32 := 1#32
  let v720 : BitVec 32 := Scalar.muli v53 c1_i32_591
  let v721 : BitVec 32 := Scalar.addi c0_i32_592 v720
  v721.toNat
def k0_off14 (v749 : BitVec 32) : Fin 2 → Nat :=
  let c128_i32_607 : BitVec 32 := 128#32
  let v750 : BitVec 32 := Scalar.muli v749 c128_i32_607
  let v751 : Index := Scalar.indexCast v750
  let c0_608 : Index := 0#32
  ![v751.toNat, 0]

def k0_chk16 (v749 : BitVec 32) : Prop :=
  (∀ a, (k0_off14 v749) a + S128x128.size a ≤ S4096x128.size a)
theorem k0_off14_inb : ∀ (v749 : BitVec 32) (k0_hw16 : k0_chk16 v749), ∀ a, (k0_off14 v749) a + S128x128.size a ≤ S4096x128.size a := fun v749 k0_hw16 => k0_hw16

def k0_dev23 (v53 : BitVec 32) : Nat :=
  let c0_i32_633 : BitVec 32 := 0#32
  let c1_i32_632 : BitVec 32 := 1#32
  let v771 : BitVec 32 := Scalar.muli v53 c1_i32_632
  let v772 : BitVec 32 := Scalar.addi c0_i32_633 v771
  v772.toNat
def k0_dev24 (v34 : BitVec 32) : Nat :=
  let c0_i32_647 : BitVec 32 := 0#32
  let c1_i32_646 : BitVec 32 := 1#32
  let v779 : BitVec 32 := Scalar.muli v34 c1_i32_646
  let v780 : BitVec 32 := Scalar.addi c0_i32_647 v779
  v780.toNat
def k0_off15 (v808 : BitVec 32) : Fin 2 → Nat :=
  let c128_i32_661 : BitVec 32 := 128#32
  let v809 : BitVec 32 := Scalar.muli v808 c128_i32_661
  let v810 : Index := Scalar.indexCast v809
  let c0_662 : Index := 0#32
  ![v810.toNat, 0]

def k0_chk17 (v808 : BitVec 32) : Prop :=
  (∀ a, (k0_off15 v808) a + S128x128.size a ≤ S4096x128.size a)
theorem k0_off15_inb : ∀ (v808 : BitVec 32) (k0_hw17 : k0_chk17 v808), ∀ a, (k0_off15 v808) a + S128x128.size a ≤ S4096x128.size a := fun v808 k0_hw17 => k0_hw17

def k0_dev25 (v53 : BitVec 32) : Nat :=
  let c0_i32_687 : BitVec 32 := 0#32
  let c1_i32_686 : BitVec 32 := 1#32
  let v830 : BitVec 32 := Scalar.muli v53 c1_i32_686
  let v831 : BitVec 32 := Scalar.addi c0_i32_687 v830
  v831.toNat
def k0_dev26 (v34 : BitVec 32) : Nat :=
  let c0_i32_701 : BitVec 32 := 0#32
  let c1_i32_700 : BitVec 32 := 1#32
  let v838 : BitVec 32 := Scalar.muli v34 c1_i32_700
  let v839 : BitVec 32 := Scalar.addi c0_i32_701 v838
  v839.toNat
def k0_off16 (v867 : BitVec 32) : Fin 2 → Nat :=
  let c128_i32_716 : BitVec 32 := 128#32
  let v868 : BitVec 32 := Scalar.muli v867 c128_i32_716
  let v869 : Index := Scalar.indexCast v868
  let c0_717 : Index := 0#32
  ![v869.toNat, 0]

def k0_chk18 (v867 : BitVec 32) : Prop :=
  (∀ a, (k0_off16 v867) a + S128x128.size a ≤ S4096x128.size a)
theorem k0_off16_inb : ∀ (v867 : BitVec 32) (k0_hw18 : k0_chk18 v867), ∀ a, (k0_off16 v867) a + S128x128.size a ≤ S4096x128.size a := fun v867 k0_hw18 => k0_hw18

def k0_dev27 (v34 : BitVec 32) : Nat :=
  let c0_i32_742 : BitVec 32 := 0#32
  let c1_i32_741 : BitVec 32 := 1#32
  let v889 : BitVec 32 := Scalar.muli v34 c1_i32_741
  let v890 : BitVec 32 := Scalar.addi c0_i32_742 v889
  v890.toNat
def k0_dev28 (v53 : BitVec 32) : Nat :=
  let c0_i32_756 : BitVec 32 := 0#32
  let c1_i32_755 : BitVec 32 := 1#32
  let v897 : BitVec 32 := Scalar.muli v53 c1_i32_755
  let v898 : BitVec 32 := Scalar.addi c0_i32_756 v897
  v898.toNat
def k0_off17 (v926 : BitVec 32) : Fin 2 → Nat :=
  let c128_i32_771 : BitVec 32 := 128#32
  let v927 : BitVec 32 := Scalar.muli v926 c128_i32_771
  let v928 : Index := Scalar.indexCast v927
  let c0_772 : Index := 0#32
  ![v928.toNat, 0]

def k0_chk19 (v926 : BitVec 32) : Prop :=
  (∀ a, (k0_off17 v926) a + S128x128.size a ≤ S4096x128.size a)
theorem k0_off17_inb : ∀ (v926 : BitVec 32) (k0_hw19 : k0_chk19 v926), ∀ a, (k0_off17 v926) a + S128x128.size a ≤ S4096x128.size a := fun v926 k0_hw19 => k0_hw19

def k0_dev29 (v34 : BitVec 32) : Nat :=
  let c0_i32_797 : BitVec 32 := 0#32
  let c1_i32_796 : BitVec 32 := 1#32
  let v948 : BitVec 32 := Scalar.muli v34 c1_i32_796
  let v949 : BitVec 32 := Scalar.addi c0_i32_797 v948
  v949.toNat
def k0_dev30 (v53 : BitVec 32) : Nat :=
  let c0_i32_811 : BitVec 32 := 0#32
  let c1_i32_810 : BitVec 32 := 1#32
  let v956 : BitVec 32 := Scalar.muli v53 c1_i32_810
  let v957 : BitVec 32 := Scalar.addi c0_i32_811 v956
  v957.toNat
def k0_off18 (v985 : BitVec 32) : Fin 2 → Nat :=
  let c128_i32_826 : BitVec 32 := 128#32
  let v986 : BitVec 32 := Scalar.muli v985 c128_i32_826
  let v987 : Index := Scalar.indexCast v986
  let c0_827 : Index := 0#32
  ![v987.toNat, 0]

def k0_chk20 (v985 : BitVec 32) : Prop :=
  (∀ a, (k0_off18 v985) a + S128x128.size a ≤ S4096x128.size a)
theorem k0_off18_inb : ∀ (v985 : BitVec 32) (k0_hw20 : k0_chk20 v985), ∀ a, (k0_off18 v985) a + S128x128.size a ≤ S4096x128.size a := fun v985 k0_hw20 => k0_hw20

def k0_dev31 (v53 : BitVec 32) : Nat :=
  let c0_i32_852 : BitVec 32 := 0#32
  let c1_i32_851 : BitVec 32 := 1#32
  let v1007 : BitVec 32 := Scalar.muli v53 c1_i32_851
  let v1008 : BitVec 32 := Scalar.addi c0_i32_852 v1007
  v1008.toNat
def k0_dev32 (v34 : BitVec 32) : Nat :=
  let c0_i32_866 : BitVec 32 := 0#32
  let c1_i32_865 : BitVec 32 := 1#32
  let v1015 : BitVec 32 := Scalar.muli v34 c1_i32_865
  let v1016 : BitVec 32 := Scalar.addi c0_i32_866 v1015
  v1016.toNat
def k0_off19 (v1044 : BitVec 32) : Fin 2 → Nat :=
  let c128_i32_880 : BitVec 32 := 128#32
  let v1045 : BitVec 32 := Scalar.muli v1044 c128_i32_880
  let v1046 : Index := Scalar.indexCast v1045
  let c0_881 : Index := 0#32
  ![v1046.toNat, 0]

def k0_chk21 (v1044 : BitVec 32) : Prop :=
  (∀ a, (k0_off19 v1044) a + S128x128.size a ≤ S4096x128.size a)
theorem k0_off19_inb : ∀ (v1044 : BitVec 32) (k0_hw21 : k0_chk21 v1044), ∀ a, (k0_off19 v1044) a + S128x128.size a ≤ S4096x128.size a := fun v1044 k0_hw21 => k0_hw21

def k0_dev33 (v53 : BitVec 32) : Nat :=
  let c0_i32_906 : BitVec 32 := 0#32
  let c1_i32_905 : BitVec 32 := 1#32
  let v1066 : BitVec 32 := Scalar.muli v53 c1_i32_905
  let v1067 : BitVec 32 := Scalar.addi c0_i32_906 v1066
  v1067.toNat
def k0_dev34 (v34 : BitVec 32) : Nat :=
  let c0_i32_920 : BitVec 32 := 0#32
  let c1_i32_919 : BitVec 32 := 1#32
  let v1074 : BitVec 32 := Scalar.muli v34 c1_i32_919
  let v1075 : BitVec 32 := Scalar.addi c0_i32_920 v1074
  v1075.toNat
def k0_off20 (v1103 : BitVec 32) : Fin 2 → Nat :=
  let c128_i32_935 : BitVec 32 := 128#32
  let v1104 : BitVec 32 := Scalar.muli v1103 c128_i32_935
  let v1105 : Index := Scalar.indexCast v1104
  let c0_936 : Index := 0#32
  ![v1105.toNat, 0]

def k0_chk22 (v1103 : BitVec 32) : Prop :=
  (∀ a, (k0_off20 v1103) a + S128x128.size a ≤ S4096x128.size a)
theorem k0_off20_inb : ∀ (v1103 : BitVec 32) (k0_hw22 : k0_chk22 v1103), ∀ a, (k0_off20 v1103) a + S128x128.size a ≤ S4096x128.size a := fun v1103 k0_hw22 => k0_hw22

def k0_dev35 (v34 : BitVec 32) : Nat :=
  let c0_i32_961 : BitVec 32 := 0#32
  let c1_i32_960 : BitVec 32 := 1#32
  let v1125 : BitVec 32 := Scalar.muli v34 c1_i32_960
  let v1126 : BitVec 32 := Scalar.addi c0_i32_961 v1125
  v1126.toNat
def k0_dev36 (v53 : BitVec 32) : Nat :=
  let c0_i32_975 : BitVec 32 := 0#32
  let c1_i32_974 : BitVec 32 := 1#32
  let v1133 : BitVec 32 := Scalar.muli v53 c1_i32_974
  let v1134 : BitVec 32 := Scalar.addi c0_i32_975 v1133
  v1134.toNat
def k0_off21 (v1162 : BitVec 32) : Fin 2 → Nat :=
  let c128_i32_990 : BitVec 32 := 128#32
  let v1163 : BitVec 32 := Scalar.muli v1162 c128_i32_990
  let v1164 : Index := Scalar.indexCast v1163
  let c0_991 : Index := 0#32
  ![v1164.toNat, 0]

def k0_chk23 (v1162 : BitVec 32) : Prop :=
  (∀ a, (k0_off21 v1162) a + S128x128.size a ≤ S4096x128.size a)
theorem k0_off21_inb : ∀ (v1162 : BitVec 32) (k0_hw23 : k0_chk23 v1162), ∀ a, (k0_off21 v1162) a + S128x128.size a ≤ S4096x128.size a := fun v1162 k0_hw23 => k0_hw23

def k0_dev37 (v34 : BitVec 32) : Nat :=
  let c0_i32_1016 : BitVec 32 := 0#32
  let c1_i32_1015 : BitVec 32 := 1#32
  let v1184 : BitVec 32 := Scalar.muli v34 c1_i32_1015
  let v1185 : BitVec 32 := Scalar.addi c0_i32_1016 v1184
  v1185.toNat
def k0_dev38 (v53 : BitVec 32) : Nat :=
  let c0_i32_1030 : BitVec 32 := 0#32
  let c1_i32_1029 : BitVec 32 := 1#32
  let v1192 : BitVec 32 := Scalar.muli v53 c1_i32_1029
  let v1193 : BitVec 32 := Scalar.addi c0_i32_1030 v1192
  v1193.toNat
def k0_off22 (v1221 : BitVec 32) : Fin 2 → Nat :=
  let c128_i32_1045 : BitVec 32 := 128#32
  let v1222 : BitVec 32 := Scalar.muli v1221 c128_i32_1045
  let v1223 : Index := Scalar.indexCast v1222
  let c0_1046 : Index := 0#32
  ![v1223.toNat, 0]

def k0_chk24 (v1221 : BitVec 32) : Prop :=
  (∀ a, (k0_off22 v1221) a + S128x128.size a ≤ S4096x128.size a)
theorem k0_off22_inb : ∀ (v1221 : BitVec 32) (k0_hw24 : k0_chk24 v1221), ∀ a, (k0_off22 v1221) a + S128x128.size a ≤ S4096x128.size a := fun v1221 k0_hw24 => k0_hw24

def k0_dev39 (v53 : BitVec 32) : Nat :=
  let c0_i32_1071 : BitVec 32 := 0#32
  let c1_i32_1070 : BitVec 32 := 1#32
  let v1243 : BitVec 32 := Scalar.muli v53 c1_i32_1070
  let v1244 : BitVec 32 := Scalar.addi c0_i32_1071 v1243
  v1244.toNat
def k0_dev40 (v34 : BitVec 32) : Nat :=
  let c0_i32_1085 : BitVec 32 := 0#32
  let c1_i32_1084 : BitVec 32 := 1#32
  let v1251 : BitVec 32 := Scalar.muli v34 c1_i32_1084
  let v1252 : BitVec 32 := Scalar.addi c0_i32_1085 v1251
  v1252.toNat
def k0_off23 (v1280 : BitVec 32) : Fin 2 → Nat :=
  let c128_i32_1099 : BitVec 32 := 128#32
  let v1281 : BitVec 32 := Scalar.muli v1280 c128_i32_1099
  let v1282 : Index := Scalar.indexCast v1281
  let c0_1100 : Index := 0#32
  ![v1282.toNat, 0]

def k0_chk25 (v1280 : BitVec 32) : Prop :=
  (∀ a, (k0_off23 v1280) a + S128x128.size a ≤ S4096x128.size a)
theorem k0_off23_inb : ∀ (v1280 : BitVec 32) (k0_hw25 : k0_chk25 v1280), ∀ a, (k0_off23 v1280) a + S128x128.size a ≤ S4096x128.size a := fun v1280 k0_hw25 => k0_hw25

def k0_dev41 (v53 : BitVec 32) : Nat :=
  let c0_i32_1125 : BitVec 32 := 0#32
  let c1_i32_1124 : BitVec 32 := 1#32
  let v1302 : BitVec 32 := Scalar.muli v53 c1_i32_1124
  let v1303 : BitVec 32 := Scalar.addi c0_i32_1125 v1302
  v1303.toNat
def k0_dev42 (v34 : BitVec 32) : Nat :=
  let c0_i32_1139 : BitVec 32 := 0#32
  let c1_i32_1138 : BitVec 32 := 1#32
  let v1310 : BitVec 32 := Scalar.muli v34 c1_i32_1138
  let v1311 : BitVec 32 := Scalar.addi c0_i32_1139 v1310
  v1311.toNat
def k0_off24 (v1339 : BitVec 32) : Fin 2 → Nat :=
  let c128_i32_1154 : BitVec 32 := 128#32
  let v1340 : BitVec 32 := Scalar.muli v1339 c128_i32_1154
  let v1341 : Index := Scalar.indexCast v1340
  let c0_1155 : Index := 0#32
  ![v1341.toNat, 0]

def k0_chk26 (v1339 : BitVec 32) : Prop :=
  (∀ a, (k0_off24 v1339) a + S128x128.size a ≤ S4096x128.size a)
theorem k0_off24_inb : ∀ (v1339 : BitVec 32) (k0_hw26 : k0_chk26 v1339), ∀ a, (k0_off24 v1339) a + S128x128.size a ≤ S4096x128.size a := fun v1339 k0_hw26 => k0_hw26

def k0_dev43 (v34 : BitVec 32) : Nat :=
  let c0_i32_1180 : BitVec 32 := 0#32
  let c1_i32_1179 : BitVec 32 := 1#32
  let v1361 : BitVec 32 := Scalar.muli v34 c1_i32_1179
  let v1362 : BitVec 32 := Scalar.addi c0_i32_1180 v1361
  v1362.toNat
def k0_dev44 (v53 : BitVec 32) : Nat :=
  let c0_i32_1194 : BitVec 32 := 0#32
  let c1_i32_1193 : BitVec 32 := 1#32
  let v1369 : BitVec 32 := Scalar.muli v53 c1_i32_1193
  let v1370 : BitVec 32 := Scalar.addi c0_i32_1194 v1369
  v1370.toNat
def k0_off25 (v1398 : BitVec 32) : Fin 2 → Nat :=
  let c128_i32_1209 : BitVec 32 := 128#32
  let v1399 : BitVec 32 := Scalar.muli v1398 c128_i32_1209
  let v1400 : Index := Scalar.indexCast v1399
  let c0_1210 : Index := 0#32
  ![v1400.toNat, 0]

def k0_chk27 (v1398 : BitVec 32) : Prop :=
  (∀ a, (k0_off25 v1398) a + S128x128.size a ≤ S4096x128.size a)
theorem k0_off25_inb : ∀ (v1398 : BitVec 32) (k0_hw27 : k0_chk27 v1398), ∀ a, (k0_off25 v1398) a + S128x128.size a ≤ S4096x128.size a := fun v1398 k0_hw27 => k0_hw27

def k0_dev45 (v34 : BitVec 32) : Nat :=
  let c0_i32_1235 : BitVec 32 := 0#32
  let c1_i32_1234 : BitVec 32 := 1#32
  let v1420 : BitVec 32 := Scalar.muli v34 c1_i32_1234
  let v1421 : BitVec 32 := Scalar.addi c0_i32_1235 v1420
  v1421.toNat
def k0_dev46 (v53 : BitVec 32) : Nat :=
  let c0_i32_1249 : BitVec 32 := 0#32
  let c1_i32_1248 : BitVec 32 := 1#32
  let v1428 : BitVec 32 := Scalar.muli v53 c1_i32_1248
  let v1429 : BitVec 32 := Scalar.addi c0_i32_1249 v1428
  v1429.toNat
def k0_off26 (v1457 : BitVec 32) : Fin 2 → Nat :=
  let c128_i32_1264 : BitVec 32 := 128#32
  let v1458 : BitVec 32 := Scalar.muli v1457 c128_i32_1264
  let v1459 : Index := Scalar.indexCast v1458
  let c0_1265 : Index := 0#32
  ![v1459.toNat, 0]

def k0_chk28 (v1457 : BitVec 32) : Prop :=
  (∀ a, (k0_off26 v1457) a + S128x128.size a ≤ S4096x128.size a)
theorem k0_off26_inb : ∀ (v1457 : BitVec 32) (k0_hw28 : k0_chk28 v1457), ∀ a, (k0_off26 v1457) a + S128x128.size a ≤ S4096x128.size a := fun v1457 k0_hw28 => k0_hw28

def k0_dev47 (v53 : BitVec 32) : Nat :=
  let c0_i32_1290 : BitVec 32 := 0#32
  let c1_i32_1289 : BitVec 32 := 1#32
  let v1479 : BitVec 32 := Scalar.muli v53 c1_i32_1289
  let v1480 : BitVec 32 := Scalar.addi c0_i32_1290 v1479
  v1480.toNat
def k0_dev48 (v34 : BitVec 32) : Nat :=
  let c0_i32_1304 : BitVec 32 := 0#32
  let c1_i32_1303 : BitVec 32 := 1#32
  let v1487 : BitVec 32 := Scalar.muli v34 c1_i32_1303
  let v1488 : BitVec 32 := Scalar.addi c0_i32_1304 v1487
  v1488.toNat
def k0_off27 (v1516 : BitVec 32) : Fin 2 → Nat :=
  let c128_i32_1318 : BitVec 32 := 128#32
  let v1517 : BitVec 32 := Scalar.muli v1516 c128_i32_1318
  let v1518 : Index := Scalar.indexCast v1517
  let c0_1319 : Index := 0#32
  ![v1518.toNat, 0]

def k0_chk29 (v1516 : BitVec 32) : Prop :=
  (∀ a, (k0_off27 v1516) a + S128x128.size a ≤ S4096x128.size a)
theorem k0_off27_inb : ∀ (v1516 : BitVec 32) (k0_hw29 : k0_chk29 v1516), ∀ a, (k0_off27 v1516) a + S128x128.size a ≤ S4096x128.size a := fun v1516 k0_hw29 => k0_hw29

def k0_dev49 (v53 : BitVec 32) : Nat :=
  let c0_i32_1344 : BitVec 32 := 0#32
  let c1_i32_1343 : BitVec 32 := 1#32
  let v1538 : BitVec 32 := Scalar.muli v53 c1_i32_1343
  let v1539 : BitVec 32 := Scalar.addi c0_i32_1344 v1538
  v1539.toNat
def k0_dev50 (v34 : BitVec 32) : Nat :=
  let c0_i32_1358 : BitVec 32 := 0#32
  let c1_i32_1357 : BitVec 32 := 1#32
  let v1546 : BitVec 32 := Scalar.muli v34 c1_i32_1357
  let v1547 : BitVec 32 := Scalar.addi c0_i32_1358 v1546
  v1547.toNat
def k0_off28 (v1575 : BitVec 32) : Fin 2 → Nat :=
  let c128_i32_1373 : BitVec 32 := 128#32
  let v1576 : BitVec 32 := Scalar.muli v1575 c128_i32_1373
  let v1577 : Index := Scalar.indexCast v1576
  let c0_1374 : Index := 0#32
  ![v1577.toNat, 0]

def k0_chk30 (v1575 : BitVec 32) : Prop :=
  (∀ a, (k0_off28 v1575) a + S128x128.size a ≤ S4096x128.size a)
theorem k0_off28_inb : ∀ (v1575 : BitVec 32) (k0_hw30 : k0_chk30 v1575), ∀ a, (k0_off28 v1575) a + S128x128.size a ≤ S4096x128.size a := fun v1575 k0_hw30 => k0_hw30

def k0_dev51 (v34 : BitVec 32) : Nat :=
  let c0_i32_1399 : BitVec 32 := 0#32
  let c1_i32_1398 : BitVec 32 := 1#32
  let v1597 : BitVec 32 := Scalar.muli v34 c1_i32_1398
  let v1598 : BitVec 32 := Scalar.addi c0_i32_1399 v1597
  v1598.toNat
def k0_dev52 (v53 : BitVec 32) : Nat :=
  let c0_i32_1413 : BitVec 32 := 0#32
  let c1_i32_1412 : BitVec 32 := 1#32
  let v1605 : BitVec 32 := Scalar.muli v53 c1_i32_1412
  let v1606 : BitVec 32 := Scalar.addi c0_i32_1413 v1605
  v1606.toNat
def k0_off29 (v1634 : BitVec 32) : Fin 2 → Nat :=
  let c128_i32_1428 : BitVec 32 := 128#32
  let v1635 : BitVec 32 := Scalar.muli v1634 c128_i32_1428
  let v1636 : Index := Scalar.indexCast v1635
  let c0_1429 : Index := 0#32
  ![v1636.toNat, 0]

def k0_chk31 (v1634 : BitVec 32) : Prop :=
  (∀ a, (k0_off29 v1634) a + S128x128.size a ≤ S4096x128.size a)
theorem k0_off29_inb : ∀ (v1634 : BitVec 32) (k0_hw31 : k0_chk31 v1634), ∀ a, (k0_off29 v1634) a + S128x128.size a ≤ S4096x128.size a := fun v1634 k0_hw31 => k0_hw31

def k0_dev53 (v34 : BitVec 32) : Nat :=
  let c0_i32_1454 : BitVec 32 := 0#32
  let c1_i32_1453 : BitVec 32 := 1#32
  let v1656 : BitVec 32 := Scalar.muli v34 c1_i32_1453
  let v1657 : BitVec 32 := Scalar.addi c0_i32_1454 v1656
  v1657.toNat
def k0_dev54 (v53 : BitVec 32) : Nat :=
  let c0_i32_1468 : BitVec 32 := 0#32
  let c1_i32_1467 : BitVec 32 := 1#32
  let v1664 : BitVec 32 := Scalar.muli v53 c1_i32_1467
  let v1665 : BitVec 32 := Scalar.addi c0_i32_1468 v1664
  v1665.toNat
def k0_off30 (v1693 : BitVec 32) : Fin 2 → Nat :=
  let c128_i32_1483 : BitVec 32 := 128#32
  let v1694 : BitVec 32 := Scalar.muli v1693 c128_i32_1483
  let v1695 : Index := Scalar.indexCast v1694
  let c0_1484 : Index := 0#32
  ![v1695.toNat, 0]

def k0_chk32 (v1693 : BitVec 32) : Prop :=
  (∀ a, (k0_off30 v1693) a + S128x128.size a ≤ S4096x128.size a)
theorem k0_off30_inb : ∀ (v1693 : BitVec 32) (k0_hw32 : k0_chk32 v1693), ∀ a, (k0_off30 v1693) a + S128x128.size a ≤ S4096x128.size a := fun v1693 k0_hw32 => k0_hw32

def k0_dev55 (v53 : BitVec 32) : Nat :=
  let c0_i32_1509 : BitVec 32 := 0#32
  let c1_i32_1508 : BitVec 32 := 1#32
  let v1715 : BitVec 32 := Scalar.muli v53 c1_i32_1508
  let v1716 : BitVec 32 := Scalar.addi c0_i32_1509 v1715
  v1716.toNat
def k0_dev56 (v34 : BitVec 32) : Nat :=
  let c0_i32_1523 : BitVec 32 := 0#32
  let c1_i32_1522 : BitVec 32 := 1#32
  let v1723 : BitVec 32 := Scalar.muli v34 c1_i32_1522
  let v1724 : BitVec 32 := Scalar.addi c0_i32_1523 v1723
  v1724.toNat
def k0_off31 (v1752 : BitVec 32) : Fin 2 → Nat :=
  let c128_i32_1537 : BitVec 32 := 128#32
  let v1753 : BitVec 32 := Scalar.muli v1752 c128_i32_1537
  let v1754 : Index := Scalar.indexCast v1753
  let c0_1538 : Index := 0#32
  ![v1754.toNat, 0]

def k0_chk33 (v1752 : BitVec 32) : Prop :=
  (∀ a, (k0_off31 v1752) a + S128x128.size a ≤ S4096x128.size a)
theorem k0_off31_inb : ∀ (v1752 : BitVec 32) (k0_hw33 : k0_chk33 v1752), ∀ a, (k0_off31 v1752) a + S128x128.size a ≤ S4096x128.size a := fun v1752 k0_hw33 => k0_hw33

def k0_dev57 (v53 : BitVec 32) : Nat :=
  let c0_i32_1563 : BitVec 32 := 0#32
  let c1_i32_1562 : BitVec 32 := 1#32
  let v1774 : BitVec 32 := Scalar.muli v53 c1_i32_1562
  let v1775 : BitVec 32 := Scalar.addi c0_i32_1563 v1774
  v1775.toNat
def k0_dev58 (v34 : BitVec 32) : Nat :=
  let c0_i32_1577 : BitVec 32 := 0#32
  let c1_i32_1576 : BitVec 32 := 1#32
  let v1782 : BitVec 32 := Scalar.muli v34 c1_i32_1576
  let v1783 : BitVec 32 := Scalar.addi c0_i32_1577 v1782
  v1783.toNat
def k0_off32 (v1811 : BitVec 32) : Fin 2 → Nat :=
  let c128_i32_1592 : BitVec 32 := 128#32
  let v1812 : BitVec 32 := Scalar.muli v1811 c128_i32_1592
  let v1813 : Index := Scalar.indexCast v1812
  let c0_1593 : Index := 0#32
  ![v1813.toNat, 0]

def k0_chk34 (v1811 : BitVec 32) : Prop :=
  (∀ a, (k0_off32 v1811) a + S128x128.size a ≤ S4096x128.size a)
theorem k0_off32_inb : ∀ (v1811 : BitVec 32) (k0_hw34 : k0_chk34 v1811), ∀ a, (k0_off32 v1811) a + S128x128.size a ≤ S4096x128.size a := fun v1811 k0_hw34 => k0_hw34

def k0_dev59 (v34 : BitVec 32) : Nat :=
  let c0_i32_1618 : BitVec 32 := 0#32
  let c1_i32_1617 : BitVec 32 := 1#32
  let v1833 : BitVec 32 := Scalar.muli v34 c1_i32_1617
  let v1834 : BitVec 32 := Scalar.addi c0_i32_1618 v1833
  v1834.toNat
def k0_dev60 (v53 : BitVec 32) : Nat :=
  let c0_i32_1632 : BitVec 32 := 0#32
  let c1_i32_1631 : BitVec 32 := 1#32
  let v1841 : BitVec 32 := Scalar.muli v53 c1_i32_1631
  let v1842 : BitVec 32 := Scalar.addi c0_i32_1632 v1841
  v1842.toNat
def k0_off33 (v1870 : BitVec 32) : Fin 2 → Nat :=
  let c128_i32_1647 : BitVec 32 := 128#32
  let v1871 : BitVec 32 := Scalar.muli v1870 c128_i32_1647
  let v1872 : Index := Scalar.indexCast v1871
  let c0_1648 : Index := 0#32
  ![v1872.toNat, 0]

def k0_chk35 (v1870 : BitVec 32) : Prop :=
  (∀ a, (k0_off33 v1870) a + S128x128.size a ≤ S4096x128.size a)
theorem k0_off33_inb : ∀ (v1870 : BitVec 32) (k0_hw35 : k0_chk35 v1870), ∀ a, (k0_off33 v1870) a + S128x128.size a ≤ S4096x128.size a := fun v1870 k0_hw35 => k0_hw35

def k0_dev61 (v34 : BitVec 32) : Nat :=
  let c0_i32_1673 : BitVec 32 := 0#32
  let c1_i32_1672 : BitVec 32 := 1#32
  let v1892 : BitVec 32 := Scalar.muli v34 c1_i32_1672
  let v1893 : BitVec 32 := Scalar.addi c0_i32_1673 v1892
  v1893.toNat
def k0_dev62 (v53 : BitVec 32) : Nat :=
  let c0_i32_1687 : BitVec 32 := 0#32
  let c1_i32_1686 : BitVec 32 := 1#32
  let v1900 : BitVec 32 := Scalar.muli v53 c1_i32_1686
  let v1901 : BitVec 32 := Scalar.addi c0_i32_1687 v1900
  v1901.toNat
def k0_off34 (v1929 : BitVec 32) : Fin 2 → Nat :=
  let c128_i32_1702 : BitVec 32 := 128#32
  let v1930 : BitVec 32 := Scalar.muli v1929 c128_i32_1702
  let v1931 : Index := Scalar.indexCast v1930
  let c0_1703 : Index := 0#32
  ![v1931.toNat, 0]

def k0_chk36 (v1929 : BitVec 32) : Prop :=
  (∀ a, (k0_off34 v1929) a + S128x128.size a ≤ S4096x128.size a)
theorem k0_off34_inb : ∀ (v1929 : BitVec 32) (k0_hw36 : k0_chk36 v1929), ∀ a, (k0_off34 v1929) a + S128x128.size a ≤ S4096x128.size a := fun v1929 k0_hw36 => k0_hw36

def k0_dev63 (v53 : BitVec 32) : Nat :=
  let c0_i32_1728 : BitVec 32 := 0#32
  let c1_i32_1727 : BitVec 32 := 1#32
  let v1951 : BitVec 32 := Scalar.muli v53 c1_i32_1727
  let v1952 : BitVec 32 := Scalar.addi c0_i32_1728 v1951
  v1952.toNat
def k0_dev64 (v34 : BitVec 32) : Nat :=
  let c0_i32_1742 : BitVec 32 := 0#32
  let c1_i32_1741 : BitVec 32 := 1#32
  let v1959 : BitVec 32 := Scalar.muli v34 c1_i32_1741
  let v1960 : BitVec 32 := Scalar.addi c0_i32_1742 v1959
  v1960.toNat
def k0_off35 (v1988 : BitVec 32) : Fin 2 → Nat :=
  let c128_i32_1756 : BitVec 32 := 128#32
  let v1989 : BitVec 32 := Scalar.muli v1988 c128_i32_1756
  let v1990 : Index := Scalar.indexCast v1989
  let c0_1757 : Index := 0#32
  ![v1990.toNat, 0]

def k0_chk37 (v1988 : BitVec 32) : Prop :=
  (∀ a, (k0_off35 v1988) a + S128x128.size a ≤ S4096x128.size a)
theorem k0_off35_inb : ∀ (v1988 : BitVec 32) (k0_hw37 : k0_chk37 v1988), ∀ a, (k0_off35 v1988) a + S128x128.size a ≤ S4096x128.size a := fun v1988 k0_hw37 => k0_hw37

def k0_dev65 (v53 : BitVec 32) : Nat :=
  let c0_i32_1782 : BitVec 32 := 0#32
  let c1_i32_1781 : BitVec 32 := 1#32
  let v2010 : BitVec 32 := Scalar.muli v53 c1_i32_1781
  let v2011 : BitVec 32 := Scalar.addi c0_i32_1782 v2010
  v2011.toNat
def k0_dev66 (v34 : BitVec 32) : Nat :=
  let c0_i32_1796 : BitVec 32 := 0#32
  let c1_i32_1795 : BitVec 32 := 1#32
  let v2018 : BitVec 32 := Scalar.muli v34 c1_i32_1795
  let v2019 : BitVec 32 := Scalar.addi c0_i32_1796 v2018
  v2019.toNat
def k0_off36 (v2047 : BitVec 32) : Fin 2 → Nat :=
  let c128_i32_1811 : BitVec 32 := 128#32
  let v2048 : BitVec 32 := Scalar.muli v2047 c128_i32_1811
  let v2049 : Index := Scalar.indexCast v2048
  let c0_1812 : Index := 0#32
  ![v2049.toNat, 0]

def k0_chk38 (v2047 : BitVec 32) : Prop :=
  (∀ a, (k0_off36 v2047) a + S128x128.size a ≤ S4096x128.size a)
theorem k0_off36_inb : ∀ (v2047 : BitVec 32) (k0_hw38 : k0_chk38 v2047), ∀ a, (k0_off36 v2047) a + S128x128.size a ≤ S4096x128.size a := fun v2047 k0_hw38 => k0_hw38

def k0_dev67 (v34 : BitVec 32) : Nat :=
  let c0_i32_1837 : BitVec 32 := 0#32
  let c1_i32_1836 : BitVec 32 := 1#32
  let v2069 : BitVec 32 := Scalar.muli v34 c1_i32_1836
  let v2070 : BitVec 32 := Scalar.addi c0_i32_1837 v2069
  v2070.toNat
def k0_dev68 (v53 : BitVec 32) : Nat :=
  let c0_i32_1851 : BitVec 32 := 0#32
  let c1_i32_1850 : BitVec 32 := 1#32
  let v2077 : BitVec 32 := Scalar.muli v53 c1_i32_1850
  let v2078 : BitVec 32 := Scalar.addi c0_i32_1851 v2077
  v2078.toNat
def k0_off37 (v2106 : BitVec 32) : Fin 2 → Nat :=
  let c128_i32_1866 : BitVec 32 := 128#32
  let v2107 : BitVec 32 := Scalar.muli v2106 c128_i32_1866
  let v2108 : Index := Scalar.indexCast v2107
  let c0_1867 : Index := 0#32
  ![v2108.toNat, 0]

def k0_chk39 (v2106 : BitVec 32) : Prop :=
  (∀ a, (k0_off37 v2106) a + S128x128.size a ≤ S4096x128.size a)
theorem k0_off37_inb : ∀ (v2106 : BitVec 32) (k0_hw39 : k0_chk39 v2106), ∀ a, (k0_off37 v2106) a + S128x128.size a ≤ S4096x128.size a := fun v2106 k0_hw39 => k0_hw39

def k0_dev69 (v34 : BitVec 32) : Nat :=
  let c0_i32_1892 : BitVec 32 := 0#32
  let c1_i32_1891 : BitVec 32 := 1#32
  let v2128 : BitVec 32 := Scalar.muli v34 c1_i32_1891
  let v2129 : BitVec 32 := Scalar.addi c0_i32_1892 v2128
  v2129.toNat
def k0_dev70 (v53 : BitVec 32) : Nat :=
  let c0_i32_1906 : BitVec 32 := 0#32
  let c1_i32_1905 : BitVec 32 := 1#32
  let v2136 : BitVec 32 := Scalar.muli v53 c1_i32_1905
  let v2137 : BitVec 32 := Scalar.addi c0_i32_1906 v2136
  v2137.toNat
def k0_off38 (v2165 : BitVec 32) : Fin 2 → Nat :=
  let c128_i32_1921 : BitVec 32 := 128#32
  let v2166 : BitVec 32 := Scalar.muli v2165 c128_i32_1921
  let v2167 : Index := Scalar.indexCast v2166
  let c0_1922 : Index := 0#32
  ![v2167.toNat, 0]

def k0_chk40 (v2165 : BitVec 32) : Prop :=
  (∀ a, (k0_off38 v2165) a + S128x128.size a ≤ S4096x128.size a)
theorem k0_off38_inb : ∀ (v2165 : BitVec 32) (k0_hw40 : k0_chk40 v2165), ∀ a, (k0_off38 v2165) a + S128x128.size a ≤ S4096x128.size a := fun v2165 k0_hw40 => k0_hw40

def k0_dev71 (v53 : BitVec 32) : Nat :=
  let c0_i32_1947 : BitVec 32 := 0#32
  let c1_i32_1946 : BitVec 32 := 1#32
  let v2187 : BitVec 32 := Scalar.muli v53 c1_i32_1946
  let v2188 : BitVec 32 := Scalar.addi c0_i32_1947 v2187
  v2188.toNat
def k0_dev72 (v34 : BitVec 32) : Nat :=
  let c0_i32_1961 : BitVec 32 := 0#32
  let c1_i32_1960 : BitVec 32 := 1#32
  let v2195 : BitVec 32 := Scalar.muli v34 c1_i32_1960
  let v2196 : BitVec 32 := Scalar.addi c0_i32_1961 v2195
  v2196.toNat
def k0_off39 (v2224 : BitVec 32) : Fin 2 → Nat :=
  let c128_i32_1975 : BitVec 32 := 128#32
  let v2225 : BitVec 32 := Scalar.muli v2224 c128_i32_1975
  let v2226 : Index := Scalar.indexCast v2225
  let c0_1976 : Index := 0#32
  ![v2226.toNat, 0]

def k0_chk41 (v2224 : BitVec 32) : Prop :=
  (∀ a, (k0_off39 v2224) a + S128x128.size a ≤ S4096x128.size a)
theorem k0_off39_inb : ∀ (v2224 : BitVec 32) (k0_hw41 : k0_chk41 v2224), ∀ a, (k0_off39 v2224) a + S128x128.size a ≤ S4096x128.size a := fun v2224 k0_hw41 => k0_hw41

def k0_dev73 (v53 : BitVec 32) : Nat :=
  let c0_i32_2001 : BitVec 32 := 0#32
  let c1_i32_2000 : BitVec 32 := 1#32
  let v2246 : BitVec 32 := Scalar.muli v53 c1_i32_2000
  let v2247 : BitVec 32 := Scalar.addi c0_i32_2001 v2246
  v2247.toNat
def k0_dev74 (v34 : BitVec 32) : Nat :=
  let c0_i32_2015 : BitVec 32 := 0#32
  let c1_i32_2014 : BitVec 32 := 1#32
  let v2254 : BitVec 32 := Scalar.muli v34 c1_i32_2014
  let v2255 : BitVec 32 := Scalar.addi c0_i32_2015 v2254
  v2255.toNat
def k0_off40 (v2283 : BitVec 32) : Fin 2 → Nat :=
  let c128_i32_2030 : BitVec 32 := 128#32
  let v2284 : BitVec 32 := Scalar.muli v2283 c128_i32_2030
  let v2285 : Index := Scalar.indexCast v2284
  let c0_2031 : Index := 0#32
  ![v2285.toNat, 0]

def k0_chk42 (v2283 : BitVec 32) : Prop :=
  (∀ a, (k0_off40 v2283) a + S128x128.size a ≤ S4096x128.size a)
theorem k0_off40_inb : ∀ (v2283 : BitVec 32) (k0_hw42 : k0_chk42 v2283), ∀ a, (k0_off40 v2283) a + S128x128.size a ≤ S4096x128.size a := fun v2283 k0_hw42 => k0_hw42

def k0_dev75 (v34 : BitVec 32) : Nat :=
  let c0_i32_2056 : BitVec 32 := 0#32
  let c1_i32_2055 : BitVec 32 := 1#32
  let v2305 : BitVec 32 := Scalar.muli v34 c1_i32_2055
  let v2306 : BitVec 32 := Scalar.addi c0_i32_2056 v2305
  v2306.toNat
def k0_dev76 (v53 : BitVec 32) : Nat :=
  let c0_i32_2070 : BitVec 32 := 0#32
  let c1_i32_2069 : BitVec 32 := 1#32
  let v2313 : BitVec 32 := Scalar.muli v53 c1_i32_2069
  let v2314 : BitVec 32 := Scalar.addi c0_i32_2070 v2313
  v2314.toNat
def k0_off41 (v2342 : BitVec 32) : Fin 2 → Nat :=
  let c128_i32_2085 : BitVec 32 := 128#32
  let v2343 : BitVec 32 := Scalar.muli v2342 c128_i32_2085
  let v2344 : Index := Scalar.indexCast v2343
  let c0_2086 : Index := 0#32
  ![v2344.toNat, 0]

def k0_chk43 (v2342 : BitVec 32) : Prop :=
  (∀ a, (k0_off41 v2342) a + S128x128.size a ≤ S4096x128.size a)
theorem k0_off41_inb : ∀ (v2342 : BitVec 32) (k0_hw43 : k0_chk43 v2342), ∀ a, (k0_off41 v2342) a + S128x128.size a ≤ S4096x128.size a := fun v2342 k0_hw43 => k0_hw43

def k0_dev77 (v34 : BitVec 32) : Nat :=
  let c0_i32_2111 : BitVec 32 := 0#32
  let c1_i32_2110 : BitVec 32 := 1#32
  let v2364 : BitVec 32 := Scalar.muli v34 c1_i32_2110
  let v2365 : BitVec 32 := Scalar.addi c0_i32_2111 v2364
  v2365.toNat
def k0_dev78 (v53 : BitVec 32) : Nat :=
  let c0_i32_2125 : BitVec 32 := 0#32
  let c1_i32_2124 : BitVec 32 := 1#32
  let v2372 : BitVec 32 := Scalar.muli v53 c1_i32_2124
  let v2373 : BitVec 32 := Scalar.addi c0_i32_2125 v2372
  v2373.toNat
def k0_off42 (v2401 : BitVec 32) : Fin 2 → Nat :=
  let c128_i32_2140 : BitVec 32 := 128#32
  let v2402 : BitVec 32 := Scalar.muli v2401 c128_i32_2140
  let v2403 : Index := Scalar.indexCast v2402
  let c0_2141 : Index := 0#32
  ![v2403.toNat, 0]

def k0_chk44 (v2401 : BitVec 32) : Prop :=
  (∀ a, (k0_off42 v2401) a + S128x128.size a ≤ S4096x128.size a)
theorem k0_off42_inb : ∀ (v2401 : BitVec 32) (k0_hw44 : k0_chk44 v2401), ∀ a, (k0_off42 v2401) a + S128x128.size a ≤ S4096x128.size a := fun v2401 k0_hw44 => k0_hw44

def k0_dev79 (v53 : BitVec 32) : Nat :=
  let c0_i32_2166 : BitVec 32 := 0#32
  let c1_i32_2165 : BitVec 32 := 1#32
  let v2423 : BitVec 32 := Scalar.muli v53 c1_i32_2165
  let v2424 : BitVec 32 := Scalar.addi c0_i32_2166 v2423
  v2424.toNat
def k0_dev80 (v34 : BitVec 32) : Nat :=
  let c0_i32_2180 : BitVec 32 := 0#32
  let c1_i32_2179 : BitVec 32 := 1#32
  let v2431 : BitVec 32 := Scalar.muli v34 c1_i32_2179
  let v2432 : BitVec 32 := Scalar.addi c0_i32_2180 v2431
  v2432.toNat
def k0_off43 (v2460 : BitVec 32) : Fin 2 → Nat :=
  let c128_i32_2194 : BitVec 32 := 128#32
  let v2461 : BitVec 32 := Scalar.muli v2460 c128_i32_2194
  let v2462 : Index := Scalar.indexCast v2461
  let c0_2195 : Index := 0#32
  ![v2462.toNat, 0]

def k0_chk45 (v2460 : BitVec 32) : Prop :=
  (∀ a, (k0_off43 v2460) a + S128x128.size a ≤ S4096x128.size a)
theorem k0_off43_inb : ∀ (v2460 : BitVec 32) (k0_hw45 : k0_chk45 v2460), ∀ a, (k0_off43 v2460) a + S128x128.size a ≤ S4096x128.size a := fun v2460 k0_hw45 => k0_hw45

def k0_dev81 (v53 : BitVec 32) : Nat :=
  let c0_i32_2220 : BitVec 32 := 0#32
  let c1_i32_2219 : BitVec 32 := 1#32
  let v2482 : BitVec 32 := Scalar.muli v53 c1_i32_2219
  let v2483 : BitVec 32 := Scalar.addi c0_i32_2220 v2482
  v2483.toNat
def k0_dev82 (v34 : BitVec 32) : Nat :=
  let c0_i32_2234 : BitVec 32 := 0#32
  let c1_i32_2233 : BitVec 32 := 1#32
  let v2490 : BitVec 32 := Scalar.muli v34 c1_i32_2233
  let v2491 : BitVec 32 := Scalar.addi c0_i32_2234 v2490
  v2491.toNat
def k0_off44 (v2519 : BitVec 32) : Fin 2 → Nat :=
  let c128_i32_2249 : BitVec 32 := 128#32
  let v2520 : BitVec 32 := Scalar.muli v2519 c128_i32_2249
  let v2521 : Index := Scalar.indexCast v2520
  let c0_2250 : Index := 0#32
  ![v2521.toNat, 0]

def k0_chk46 (v2519 : BitVec 32) : Prop :=
  (∀ a, (k0_off44 v2519) a + S128x128.size a ≤ S4096x128.size a)
theorem k0_off44_inb : ∀ (v2519 : BitVec 32) (k0_hw46 : k0_chk46 v2519), ∀ a, (k0_off44 v2519) a + S128x128.size a ≤ S4096x128.size a := fun v2519 k0_hw46 => k0_hw46

def k0_dev83 (v34 : BitVec 32) : Nat :=
  let c0_i32_2275 : BitVec 32 := 0#32
  let c1_i32_2274 : BitVec 32 := 1#32
  let v2541 : BitVec 32 := Scalar.muli v34 c1_i32_2274
  let v2542 : BitVec 32 := Scalar.addi c0_i32_2275 v2541
  v2542.toNat
def k0_dev84 (v53 : BitVec 32) : Nat :=
  let c0_i32_2289 : BitVec 32 := 0#32
  let c1_i32_2288 : BitVec 32 := 1#32
  let v2549 : BitVec 32 := Scalar.muli v53 c1_i32_2288
  let v2550 : BitVec 32 := Scalar.addi c0_i32_2289 v2549
  v2550.toNat
def k0_off45 (v2578 : BitVec 32) : Fin 2 → Nat :=
  let c128_i32_2304 : BitVec 32 := 128#32
  let v2579 : BitVec 32 := Scalar.muli v2578 c128_i32_2304
  let v2580 : Index := Scalar.indexCast v2579
  let c0_2305 : Index := 0#32
  ![v2580.toNat, 0]

def k0_chk47 (v2578 : BitVec 32) : Prop :=
  (∀ a, (k0_off45 v2578) a + S128x128.size a ≤ S4096x128.size a)
theorem k0_off45_inb : ∀ (v2578 : BitVec 32) (k0_hw47 : k0_chk47 v2578), ∀ a, (k0_off45 v2578) a + S128x128.size a ≤ S4096x128.size a := fun v2578 k0_hw47 => k0_hw47

def k0_dev85 (v34 : BitVec 32) : Nat :=
  let c0_i32_2330 : BitVec 32 := 0#32
  let c1_i32_2329 : BitVec 32 := 1#32
  let v2600 : BitVec 32 := Scalar.muli v34 c1_i32_2329
  let v2601 : BitVec 32 := Scalar.addi c0_i32_2330 v2600
  v2601.toNat
def k0_dev86 (v53 : BitVec 32) : Nat :=
  let c0_i32_2344 : BitVec 32 := 0#32
  let c1_i32_2343 : BitVec 32 := 1#32
  let v2608 : BitVec 32 := Scalar.muli v53 c1_i32_2343
  let v2609 : BitVec 32 := Scalar.addi c0_i32_2344 v2608
  v2609.toNat
def k0_off46 (v2637 : BitVec 32) : Fin 2 → Nat :=
  let c128_i32_2359 : BitVec 32 := 128#32
  let v2638 : BitVec 32 := Scalar.muli v2637 c128_i32_2359
  let v2639 : Index := Scalar.indexCast v2638
  let c0_2360 : Index := 0#32
  ![v2639.toNat, 0]

def k0_chk48 (v2637 : BitVec 32) : Prop :=
  (∀ a, (k0_off46 v2637) a + S128x128.size a ≤ S4096x128.size a)
theorem k0_off46_inb : ∀ (v2637 : BitVec 32) (k0_hw48 : k0_chk48 v2637), ∀ a, (k0_off46 v2637) a + S128x128.size a ≤ S4096x128.size a := fun v2637 k0_hw48 => k0_hw48

def k0_dev87 (v53 : BitVec 32) : Nat :=
  let c0_i32_2385 : BitVec 32 := 0#32
  let c1_i32_2384 : BitVec 32 := 1#32
  let v2659 : BitVec 32 := Scalar.muli v53 c1_i32_2384
  let v2660 : BitVec 32 := Scalar.addi c0_i32_2385 v2659
  v2660.toNat
def k0_dev88 (v34 : BitVec 32) : Nat :=
  let c0_i32_2399 : BitVec 32 := 0#32
  let c1_i32_2398 : BitVec 32 := 1#32
  let v2667 : BitVec 32 := Scalar.muli v34 c1_i32_2398
  let v2668 : BitVec 32 := Scalar.addi c0_i32_2399 v2667
  v2668.toNat
def k0_off47 (v2696 : BitVec 32) : Fin 2 → Nat :=
  let c128_i32_2413 : BitVec 32 := 128#32
  let v2697 : BitVec 32 := Scalar.muli v2696 c128_i32_2413
  let v2698 : Index := Scalar.indexCast v2697
  let c0_2414 : Index := 0#32
  ![v2698.toNat, 0]

def k0_chk49 (v2696 : BitVec 32) : Prop :=
  (∀ a, (k0_off47 v2696) a + S128x128.size a ≤ S4096x128.size a)
theorem k0_off47_inb : ∀ (v2696 : BitVec 32) (k0_hw49 : k0_chk49 v2696), ∀ a, (k0_off47 v2696) a + S128x128.size a ≤ S4096x128.size a := fun v2696 k0_hw49 => k0_hw49

def k0_dev89 (v53 : BitVec 32) : Nat :=
  let c0_i32_2439 : BitVec 32 := 0#32
  let c1_i32_2438 : BitVec 32 := 1#32
  let v2718 : BitVec 32 := Scalar.muli v53 c1_i32_2438
  let v2719 : BitVec 32 := Scalar.addi c0_i32_2439 v2718
  v2719.toNat
def k0_dev90 (v34 : BitVec 32) : Nat :=
  let c0_i32_2453 : BitVec 32 := 0#32
  let c1_i32_2452 : BitVec 32 := 1#32
  let v2726 : BitVec 32 := Scalar.muli v34 c1_i32_2452
  let v2727 : BitVec 32 := Scalar.addi c0_i32_2453 v2726
  v2727.toNat
def k0_off48 (v2755 : BitVec 32) : Fin 2 → Nat :=
  let c128_i32_2468 : BitVec 32 := 128#32
  let v2756 : BitVec 32 := Scalar.muli v2755 c128_i32_2468
  let v2757 : Index := Scalar.indexCast v2756
  let c0_2469 : Index := 0#32
  ![v2757.toNat, 0]

def k0_chk50 (v2755 : BitVec 32) : Prop :=
  (∀ a, (k0_off48 v2755) a + S128x128.size a ≤ S4096x128.size a)
theorem k0_off48_inb : ∀ (v2755 : BitVec 32) (k0_hw50 : k0_chk50 v2755), ∀ a, (k0_off48 v2755) a + S128x128.size a ≤ S4096x128.size a := fun v2755 k0_hw50 => k0_hw50

def k0_dev91 (v34 : BitVec 32) : Nat :=
  let c0_i32_2494 : BitVec 32 := 0#32
  let c1_i32_2493 : BitVec 32 := 1#32
  let v2777 : BitVec 32 := Scalar.muli v34 c1_i32_2493
  let v2778 : BitVec 32 := Scalar.addi c0_i32_2494 v2777
  v2778.toNat
def k0_dev92 (v53 : BitVec 32) : Nat :=
  let c0_i32_2508 : BitVec 32 := 0#32
  let c1_i32_2507 : BitVec 32 := 1#32
  let v2785 : BitVec 32 := Scalar.muli v53 c1_i32_2507
  let v2786 : BitVec 32 := Scalar.addi c0_i32_2508 v2785
  v2786.toNat
def k0_off49 (v2814 : BitVec 32) : Fin 2 → Nat :=
  let c128_i32_2523 : BitVec 32 := 128#32
  let v2815 : BitVec 32 := Scalar.muli v2814 c128_i32_2523
  let v2816 : Index := Scalar.indexCast v2815
  let c0_2524 : Index := 0#32
  ![v2816.toNat, 0]

def k0_chk51 (v2814 : BitVec 32) : Prop :=
  (∀ a, (k0_off49 v2814) a + S128x128.size a ≤ S4096x128.size a)
theorem k0_off49_inb : ∀ (v2814 : BitVec 32) (k0_hw51 : k0_chk51 v2814), ∀ a, (k0_off49 v2814) a + S128x128.size a ≤ S4096x128.size a := fun v2814 k0_hw51 => k0_hw51

def k0_dev93 (v34 : BitVec 32) : Nat :=
  let c0_i32_2549 : BitVec 32 := 0#32
  let c1_i32_2548 : BitVec 32 := 1#32
  let v2836 : BitVec 32 := Scalar.muli v34 c1_i32_2548
  let v2837 : BitVec 32 := Scalar.addi c0_i32_2549 v2836
  v2837.toNat
def k0_dev94 (v53 : BitVec 32) : Nat :=
  let c0_i32_2563 : BitVec 32 := 0#32
  let c1_i32_2562 : BitVec 32 := 1#32
  let v2844 : BitVec 32 := Scalar.muli v53 c1_i32_2562
  let v2845 : BitVec 32 := Scalar.addi c0_i32_2563 v2844
  v2845.toNat
def k0_off50 (v2873 : BitVec 32) : Fin 2 → Nat :=
  let c128_i32_2578 : BitVec 32 := 128#32
  let v2874 : BitVec 32 := Scalar.muli v2873 c128_i32_2578
  let v2875 : Index := Scalar.indexCast v2874
  let c0_2579 : Index := 0#32
  ![v2875.toNat, 0]

def k0_chk52 (v2873 : BitVec 32) : Prop :=
  (∀ a, (k0_off50 v2873) a + S128x128.size a ≤ S4096x128.size a)
theorem k0_off50_inb : ∀ (v2873 : BitVec 32) (k0_hw52 : k0_chk52 v2873), ∀ a, (k0_off50 v2873) a + S128x128.size a ≤ S4096x128.size a := fun v2873 k0_hw52 => k0_hw52

def k0_dev95 (v53 : BitVec 32) : Nat :=
  let c0_i32_2604 : BitVec 32 := 0#32
  let c1_i32_2603 : BitVec 32 := 1#32
  let v2895 : BitVec 32 := Scalar.muli v53 c1_i32_2603
  let v2896 : BitVec 32 := Scalar.addi c0_i32_2604 v2895
  v2896.toNat
def k0_dev96 (v34 : BitVec 32) : Nat :=
  let c0_i32_2618 : BitVec 32 := 0#32
  let c1_i32_2617 : BitVec 32 := 1#32
  let v2903 : BitVec 32 := Scalar.muli v34 c1_i32_2617
  let v2904 : BitVec 32 := Scalar.addi c0_i32_2618 v2903
  v2904.toNat
def k0_off51 (v2932 : BitVec 32) : Fin 2 → Nat :=
  let c128_i32_2632 : BitVec 32 := 128#32
  let v2933 : BitVec 32 := Scalar.muli v2932 c128_i32_2632
  let v2934 : Index := Scalar.indexCast v2933
  let c0_2633 : Index := 0#32
  ![v2934.toNat, 0]

def k0_chk53 (v2932 : BitVec 32) : Prop :=
  (∀ a, (k0_off51 v2932) a + S128x128.size a ≤ S4096x128.size a)
theorem k0_off51_inb : ∀ (v2932 : BitVec 32) (k0_hw53 : k0_chk53 v2932), ∀ a, (k0_off51 v2932) a + S128x128.size a ≤ S4096x128.size a := fun v2932 k0_hw53 => k0_hw53

def k0_dev97 (v53 : BitVec 32) : Nat :=
  let c0_i32_2658 : BitVec 32 := 0#32
  let c1_i32_2657 : BitVec 32 := 1#32
  let v2954 : BitVec 32 := Scalar.muli v53 c1_i32_2657
  let v2955 : BitVec 32 := Scalar.addi c0_i32_2658 v2954
  v2955.toNat
def k0_dev98 (v34 : BitVec 32) : Nat :=
  let c0_i32_2672 : BitVec 32 := 0#32
  let c1_i32_2671 : BitVec 32 := 1#32
  let v2962 : BitVec 32 := Scalar.muli v34 c1_i32_2671
  let v2963 : BitVec 32 := Scalar.addi c0_i32_2672 v2962
  v2963.toNat
def k0_off52 (v2991 : BitVec 32) : Fin 2 → Nat :=
  let c128_i32_2687 : BitVec 32 := 128#32
  let v2992 : BitVec 32 := Scalar.muli v2991 c128_i32_2687
  let v2993 : Index := Scalar.indexCast v2992
  let c0_2688 : Index := 0#32
  ![v2993.toNat, 0]

def k0_chk54 (v2991 : BitVec 32) : Prop :=
  (∀ a, (k0_off52 v2991) a + S128x128.size a ≤ S4096x128.size a)
theorem k0_off52_inb : ∀ (v2991 : BitVec 32) (k0_hw54 : k0_chk54 v2991), ∀ a, (k0_off52 v2991) a + S128x128.size a ≤ S4096x128.size a := fun v2991 k0_hw54 => k0_hw54

def k0_dev99 (v34 : BitVec 32) : Nat :=
  let c0_i32_2713 : BitVec 32 := 0#32
  let c1_i32_2712 : BitVec 32 := 1#32
  let v3013 : BitVec 32 := Scalar.muli v34 c1_i32_2712
  let v3014 : BitVec 32 := Scalar.addi c0_i32_2713 v3013
  v3014.toNat
def k0_dev100 (v53 : BitVec 32) : Nat :=
  let c0_i32_2727 : BitVec 32 := 0#32
  let c1_i32_2726 : BitVec 32 := 1#32
  let v3021 : BitVec 32 := Scalar.muli v53 c1_i32_2726
  let v3022 : BitVec 32 := Scalar.addi c0_i32_2727 v3021
  v3022.toNat
def k0_off53 (v3050 : BitVec 32) : Fin 2 → Nat :=
  let c128_i32_2742 : BitVec 32 := 128#32
  let v3051 : BitVec 32 := Scalar.muli v3050 c128_i32_2742
  let v3052 : Index := Scalar.indexCast v3051
  let c0_2743 : Index := 0#32
  ![v3052.toNat, 0]

def k0_chk55 (v3050 : BitVec 32) : Prop :=
  (∀ a, (k0_off53 v3050) a + S128x128.size a ≤ S4096x128.size a)
theorem k0_off53_inb : ∀ (v3050 : BitVec 32) (k0_hw55 : k0_chk55 v3050), ∀ a, (k0_off53 v3050) a + S128x128.size a ≤ S4096x128.size a := fun v3050 k0_hw55 => k0_hw55

def k0_dev101 (v34 : BitVec 32) : Nat :=
  let c0_i32_2768 : BitVec 32 := 0#32
  let c1_i32_2767 : BitVec 32 := 1#32
  let v3072 : BitVec 32 := Scalar.muli v34 c1_i32_2767
  let v3073 : BitVec 32 := Scalar.addi c0_i32_2768 v3072
  v3073.toNat
def k0_dev102 (v53 : BitVec 32) : Nat :=
  let c0_i32_2782 : BitVec 32 := 0#32
  let c1_i32_2781 : BitVec 32 := 1#32
  let v3080 : BitVec 32 := Scalar.muli v53 c1_i32_2781
  let v3081 : BitVec 32 := Scalar.addi c0_i32_2782 v3080
  v3081.toNat
def k0_off54 (v3109 : BitVec 32) : Fin 2 → Nat :=
  let c128_i32_2797 : BitVec 32 := 128#32
  let v3110 : BitVec 32 := Scalar.muli v3109 c128_i32_2797
  let v3111 : Index := Scalar.indexCast v3110
  let c0_2798 : Index := 0#32
  ![v3111.toNat, 0]

def k0_chk56 (v3109 : BitVec 32) : Prop :=
  (∀ a, (k0_off54 v3109) a + S128x128.size a ≤ S4096x128.size a)
theorem k0_off54_inb : ∀ (v3109 : BitVec 32) (k0_hw56 : k0_chk56 v3109), ∀ a, (k0_off54 v3109) a + S128x128.size a ≤ S4096x128.size a := fun v3109 k0_hw56 => k0_hw56

def k0_dev103 (v53 : BitVec 32) : Nat :=
  let c0_i32_2823 : BitVec 32 := 0#32
  let c1_i32_2822 : BitVec 32 := 1#32
  let v3131 : BitVec 32 := Scalar.muli v53 c1_i32_2822
  let v3132 : BitVec 32 := Scalar.addi c0_i32_2823 v3131
  v3132.toNat
def k0_dev104 (v34 : BitVec 32) : Nat :=
  let c0_i32_2837 : BitVec 32 := 0#32
  let c1_i32_2836 : BitVec 32 := 1#32
  let v3139 : BitVec 32 := Scalar.muli v34 c1_i32_2836
  let v3140 : BitVec 32 := Scalar.addi c0_i32_2837 v3139
  v3140.toNat
def k0_off55 (v3168 : BitVec 32) : Fin 2 → Nat :=
  let c128_i32_2851 : BitVec 32 := 128#32
  let v3169 : BitVec 32 := Scalar.muli v3168 c128_i32_2851
  let v3170 : Index := Scalar.indexCast v3169
  let c0_2852 : Index := 0#32
  ![v3170.toNat, 0]

def k0_chk57 (v3168 : BitVec 32) : Prop :=
  (∀ a, (k0_off55 v3168) a + S128x128.size a ≤ S4096x128.size a)
theorem k0_off55_inb : ∀ (v3168 : BitVec 32) (k0_hw57 : k0_chk57 v3168), ∀ a, (k0_off55 v3168) a + S128x128.size a ≤ S4096x128.size a := fun v3168 k0_hw57 => k0_hw57

def k0_dev105 (v53 : BitVec 32) : Nat :=
  let c0_i32_2877 : BitVec 32 := 0#32
  let c1_i32_2876 : BitVec 32 := 1#32
  let v3190 : BitVec 32 := Scalar.muli v53 c1_i32_2876
  let v3191 : BitVec 32 := Scalar.addi c0_i32_2877 v3190
  v3191.toNat
def k0_dev106 (v34 : BitVec 32) : Nat :=
  let c0_i32_2891 : BitVec 32 := 0#32
  let c1_i32_2890 : BitVec 32 := 1#32
  let v3198 : BitVec 32 := Scalar.muli v34 c1_i32_2890
  let v3199 : BitVec 32 := Scalar.addi c0_i32_2891 v3198
  v3199.toNat
def k0_off56 (v3227 : BitVec 32) : Fin 2 → Nat :=
  let c128_i32_2906 : BitVec 32 := 128#32
  let v3228 : BitVec 32 := Scalar.muli v3227 c128_i32_2906
  let v3229 : Index := Scalar.indexCast v3228
  let c0_2907 : Index := 0#32
  ![v3229.toNat, 0]

def k0_chk58 (v3227 : BitVec 32) : Prop :=
  (∀ a, (k0_off56 v3227) a + S128x128.size a ≤ S4096x128.size a)
theorem k0_off56_inb : ∀ (v3227 : BitVec 32) (k0_hw58 : k0_chk58 v3227), ∀ a, (k0_off56 v3227) a + S128x128.size a ≤ S4096x128.size a := fun v3227 k0_hw58 => k0_hw58

def k0_dev107 (v34 : BitVec 32) : Nat :=
  let c0_i32_2932 : BitVec 32 := 0#32
  let c1_i32_2931 : BitVec 32 := 1#32
  let v3249 : BitVec 32 := Scalar.muli v34 c1_i32_2931
  let v3250 : BitVec 32 := Scalar.addi c0_i32_2932 v3249
  v3250.toNat
def k0_dev108 (v53 : BitVec 32) : Nat :=
  let c0_i32_2946 : BitVec 32 := 0#32
  let c1_i32_2945 : BitVec 32 := 1#32
  let v3257 : BitVec 32 := Scalar.muli v53 c1_i32_2945
  let v3258 : BitVec 32 := Scalar.addi c0_i32_2946 v3257
  v3258.toNat
def k0_off57 (v3286 : BitVec 32) : Fin 2 → Nat :=
  let c128_i32_2961 : BitVec 32 := 128#32
  let v3287 : BitVec 32 := Scalar.muli v3286 c128_i32_2961
  let v3288 : Index := Scalar.indexCast v3287
  let c0_2962 : Index := 0#32
  ![v3288.toNat, 0]

def k0_chk59 (v3286 : BitVec 32) : Prop :=
  (∀ a, (k0_off57 v3286) a + S128x128.size a ≤ S4096x128.size a)
theorem k0_off57_inb : ∀ (v3286 : BitVec 32) (k0_hw59 : k0_chk59 v3286), ∀ a, (k0_off57 v3286) a + S128x128.size a ≤ S4096x128.size a := fun v3286 k0_hw59 => k0_hw59

def k0_dev109 (v34 : BitVec 32) : Nat :=
  let c0_i32_2987 : BitVec 32 := 0#32
  let c1_i32_2986 : BitVec 32 := 1#32
  let v3308 : BitVec 32 := Scalar.muli v34 c1_i32_2986
  let v3309 : BitVec 32 := Scalar.addi c0_i32_2987 v3308
  v3309.toNat
def k0_dev110 (v53 : BitVec 32) : Nat :=
  let c0_i32_3001 : BitVec 32 := 0#32
  let c1_i32_3000 : BitVec 32 := 1#32
  let v3316 : BitVec 32 := Scalar.muli v53 c1_i32_3000
  let v3317 : BitVec 32 := Scalar.addi c0_i32_3001 v3316
  v3317.toNat
def k0_off58 (v3345 : BitVec 32) : Fin 2 → Nat :=
  let c128_i32_3016 : BitVec 32 := 128#32
  let v3346 : BitVec 32 := Scalar.muli v3345 c128_i32_3016
  let v3347 : Index := Scalar.indexCast v3346
  let c0_3017 : Index := 0#32
  ![v3347.toNat, 0]

def k0_chk60 (v3345 : BitVec 32) : Prop :=
  (∀ a, (k0_off58 v3345) a + S128x128.size a ≤ S4096x128.size a)
theorem k0_off58_inb : ∀ (v3345 : BitVec 32) (k0_hw60 : k0_chk60 v3345), ∀ a, (k0_off58 v3345) a + S128x128.size a ≤ S4096x128.size a := fun v3345 k0_hw60 => k0_hw60

def k0_dev111 (v53 : BitVec 32) : Nat :=
  let c0_i32_3042 : BitVec 32 := 0#32
  let c1_i32_3041 : BitVec 32 := 1#32
  let v3367 : BitVec 32 := Scalar.muli v53 c1_i32_3041
  let v3368 : BitVec 32 := Scalar.addi c0_i32_3042 v3367
  v3368.toNat
def k0_dev112 (v34 : BitVec 32) : Nat :=
  let c0_i32_3056 : BitVec 32 := 0#32
  let c1_i32_3055 : BitVec 32 := 1#32
  let v3375 : BitVec 32 := Scalar.muli v34 c1_i32_3055
  let v3376 : BitVec 32 := Scalar.addi c0_i32_3056 v3375
  v3376.toNat
def k0_off59 (v3404 : BitVec 32) : Fin 2 → Nat :=
  let c128_i32_3070 : BitVec 32 := 128#32
  let v3405 : BitVec 32 := Scalar.muli v3404 c128_i32_3070
  let v3406 : Index := Scalar.indexCast v3405
  let c0_3071 : Index := 0#32
  ![v3406.toNat, 0]

def k0_chk61 (v3404 : BitVec 32) : Prop :=
  (∀ a, (k0_off59 v3404) a + S128x128.size a ≤ S4096x128.size a)
theorem k0_off59_inb : ∀ (v3404 : BitVec 32) (k0_hw61 : k0_chk61 v3404), ∀ a, (k0_off59 v3404) a + S128x128.size a ≤ S4096x128.size a := fun v3404 k0_hw61 => k0_hw61

def k0_dev113 (v53 : BitVec 32) : Nat :=
  let c0_i32_3096 : BitVec 32 := 0#32
  let c1_i32_3095 : BitVec 32 := 1#32
  let v3426 : BitVec 32 := Scalar.muli v53 c1_i32_3095
  let v3427 : BitVec 32 := Scalar.addi c0_i32_3096 v3426
  v3427.toNat
def k0_dev114 (v34 : BitVec 32) : Nat :=
  let c0_i32_3110 : BitVec 32 := 0#32
  let c1_i32_3109 : BitVec 32 := 1#32
  let v3434 : BitVec 32 := Scalar.muli v34 c1_i32_3109
  let v3435 : BitVec 32 := Scalar.addi c0_i32_3110 v3434
  v3435.toNat
def k0_off60 (v3463 : BitVec 32) : Fin 2 → Nat :=
  let c128_i32_3125 : BitVec 32 := 128#32
  let v3464 : BitVec 32 := Scalar.muli v3463 c128_i32_3125
  let v3465 : Index := Scalar.indexCast v3464
  let c0_3126 : Index := 0#32
  ![v3465.toNat, 0]

def k0_chk62 (v3463 : BitVec 32) : Prop :=
  (∀ a, (k0_off60 v3463) a + S128x128.size a ≤ S4096x128.size a)
theorem k0_off60_inb : ∀ (v3463 : BitVec 32) (k0_hw62 : k0_chk62 v3463), ∀ a, (k0_off60 v3463) a + S128x128.size a ≤ S4096x128.size a := fun v3463 k0_hw62 => k0_hw62

def k0_dev115 (v34 : BitVec 32) : Nat :=
  let c0_i32_3151 : BitVec 32 := 0#32
  let c1_i32_3150 : BitVec 32 := 1#32
  let v3485 : BitVec 32 := Scalar.muli v34 c1_i32_3150
  let v3486 : BitVec 32 := Scalar.addi c0_i32_3151 v3485
  v3486.toNat
def k0_dev116 (v53 : BitVec 32) : Nat :=
  let c0_i32_3165 : BitVec 32 := 0#32
  let c1_i32_3164 : BitVec 32 := 1#32
  let v3493 : BitVec 32 := Scalar.muli v53 c1_i32_3164
  let v3494 : BitVec 32 := Scalar.addi c0_i32_3165 v3493
  v3494.toNat
def k0_off61 (v3522 : BitVec 32) : Fin 2 → Nat :=
  let c128_i32_3180 : BitVec 32 := 128#32
  let v3523 : BitVec 32 := Scalar.muli v3522 c128_i32_3180
  let v3524 : Index := Scalar.indexCast v3523
  let c0_3181 : Index := 0#32
  ![v3524.toNat, 0]

def k0_chk63 (v3522 : BitVec 32) : Prop :=
  (∀ a, (k0_off61 v3522) a + S128x128.size a ≤ S4096x128.size a)
theorem k0_off61_inb : ∀ (v3522 : BitVec 32) (k0_hw63 : k0_chk63 v3522), ∀ a, (k0_off61 v3522) a + S128x128.size a ≤ S4096x128.size a := fun v3522 k0_hw63 => k0_hw63

def k0_dev117 (v34 : BitVec 32) : Nat :=
  let c0_i32_3206 : BitVec 32 := 0#32
  let c1_i32_3205 : BitVec 32 := 1#32
  let v3544 : BitVec 32 := Scalar.muli v34 c1_i32_3205
  let v3545 : BitVec 32 := Scalar.addi c0_i32_3206 v3544
  v3545.toNat
def k0_dev118 (v53 : BitVec 32) : Nat :=
  let c0_i32_3220 : BitVec 32 := 0#32
  let c1_i32_3219 : BitVec 32 := 1#32
  let v3552 : BitVec 32 := Scalar.muli v53 c1_i32_3219
  let v3553 : BitVec 32 := Scalar.addi c0_i32_3220 v3552
  v3553.toNat
def k0_off62 (v3581 : BitVec 32) : Fin 2 → Nat :=
  let c128_i32_3235 : BitVec 32 := 128#32
  let v3582 : BitVec 32 := Scalar.muli v3581 c128_i32_3235
  let v3583 : Index := Scalar.indexCast v3582
  let c0_3236 : Index := 0#32
  ![v3583.toNat, 0]

def k0_chk64 (v3581 : BitVec 32) : Prop :=
  (∀ a, (k0_off62 v3581) a + S128x128.size a ≤ S4096x128.size a)
theorem k0_off62_inb : ∀ (v3581 : BitVec 32) (k0_hw64 : k0_chk64 v3581), ∀ a, (k0_off62 v3581) a + S128x128.size a ≤ S4096x128.size a := fun v3581 k0_hw64 => k0_hw64

def k0_dev119 (v53 : BitVec 32) : Nat :=
  let c0_i32_3261 : BitVec 32 := 0#32
  let c1_i32_3260 : BitVec 32 := 1#32
  let v3603 : BitVec 32 := Scalar.muli v53 c1_i32_3260
  let v3604 : BitVec 32 := Scalar.addi c0_i32_3261 v3603
  v3604.toNat
def k0_dev120 (v34 : BitVec 32) : Nat :=
  let c0_i32_3275 : BitVec 32 := 0#32
  let c1_i32_3274 : BitVec 32 := 1#32
  let v3611 : BitVec 32 := Scalar.muli v34 c1_i32_3274
  let v3612 : BitVec 32 := Scalar.addi c0_i32_3275 v3611
  v3612.toNat
def k0_off63 (v3640 : BitVec 32) : Fin 2 → Nat :=
  let c128_i32_3289 : BitVec 32 := 128#32
  let v3641 : BitVec 32 := Scalar.muli v3640 c128_i32_3289
  let v3642 : Index := Scalar.indexCast v3641
  let c0_3290 : Index := 0#32
  ![v3642.toNat, 0]

def k0_chk65 (v3640 : BitVec 32) : Prop :=
  (∀ a, (k0_off63 v3640) a + S128x128.size a ≤ S4096x128.size a)
theorem k0_off63_inb : ∀ (v3640 : BitVec 32) (k0_hw65 : k0_chk65 v3640), ∀ a, (k0_off63 v3640) a + S128x128.size a ≤ S4096x128.size a := fun v3640 k0_hw65 => k0_hw65

def k0_dev121 (v53 : BitVec 32) : Nat :=
  let c0_i32_3315 : BitVec 32 := 0#32
  let c1_i32_3314 : BitVec 32 := 1#32
  let v3662 : BitVec 32 := Scalar.muli v53 c1_i32_3314
  let v3663 : BitVec 32 := Scalar.addi c0_i32_3315 v3662
  v3663.toNat
def k0_dev122 (v34 : BitVec 32) : Nat :=
  let c0_i32_3329 : BitVec 32 := 0#32
  let c1_i32_3328 : BitVec 32 := 1#32
  let v3670 : BitVec 32 := Scalar.muli v34 c1_i32_3328
  let v3671 : BitVec 32 := Scalar.addi c0_i32_3329 v3670
  v3671.toNat
def k0_off64 (v3699 : BitVec 32) : Fin 2 → Nat :=
  let c128_i32_3344 : BitVec 32 := 128#32
  let v3700 : BitVec 32 := Scalar.muli v3699 c128_i32_3344
  let v3701 : Index := Scalar.indexCast v3700
  let c0_3345 : Index := 0#32
  ![v3701.toNat, 0]

def k0_chk66 (v3699 : BitVec 32) : Prop :=
  (∀ a, (k0_off64 v3699) a + S128x128.size a ≤ S4096x128.size a)
theorem k0_off64_inb : ∀ (v3699 : BitVec 32) (k0_hw66 : k0_chk66 v3699), ∀ a, (k0_off64 v3699) a + S128x128.size a ≤ S4096x128.size a := fun v3699 k0_hw66 => k0_hw66

def k0_dev123 (v34 : BitVec 32) : Nat :=
  let c0_i32_3370 : BitVec 32 := 0#32
  let c1_i32_3369 : BitVec 32 := 1#32
  let v3721 : BitVec 32 := Scalar.muli v34 c1_i32_3369
  let v3722 : BitVec 32 := Scalar.addi c0_i32_3370 v3721
  v3722.toNat
def k0_dev124 (v53 : BitVec 32) : Nat :=
  let c0_i32_3384 : BitVec 32 := 0#32
  let c1_i32_3383 : BitVec 32 := 1#32
  let v3729 : BitVec 32 := Scalar.muli v53 c1_i32_3383
  let v3730 : BitVec 32 := Scalar.addi c0_i32_3384 v3729
  v3730.toNat
def k0_off65 (v3758 : BitVec 32) : Fin 2 → Nat :=
  let c128_i32_3399 : BitVec 32 := 128#32
  let v3759 : BitVec 32 := Scalar.muli v3758 c128_i32_3399
  let v3760 : Index := Scalar.indexCast v3759
  let c0_3400 : Index := 0#32
  ![v3760.toNat, 0]

def k0_chk67 (v3758 : BitVec 32) : Prop :=
  (∀ a, (k0_off65 v3758) a + S128x128.size a ≤ S4096x128.size a)
theorem k0_off65_inb : ∀ (v3758 : BitVec 32) (k0_hw67 : k0_chk67 v3758), ∀ a, (k0_off65 v3758) a + S128x128.size a ≤ S4096x128.size a := fun v3758 k0_hw67 => k0_hw67

def k0_dev125 (v34 : BitVec 32) : Nat :=
  let c0_i32_3425 : BitVec 32 := 0#32
  let c1_i32_3424 : BitVec 32 := 1#32
  let v3780 : BitVec 32 := Scalar.muli v34 c1_i32_3424
  let v3781 : BitVec 32 := Scalar.addi c0_i32_3425 v3780
  v3781.toNat
def k0_dev126 (v53 : BitVec 32) : Nat :=
  let c0_i32_3439 : BitVec 32 := 0#32
  let c1_i32_3438 : BitVec 32 := 1#32
  let v3788 : BitVec 32 := Scalar.muli v53 c1_i32_3438
  let v3789 : BitVec 32 := Scalar.addi c0_i32_3439 v3788
  v3789.toNat
def k0_off66 (v3817 : BitVec 32) : Fin 2 → Nat :=
  let c128_i32_3454 : BitVec 32 := 128#32
  let v3818 : BitVec 32 := Scalar.muli v3817 c128_i32_3454
  let v3819 : Index := Scalar.indexCast v3818
  let c0_3455 : Index := 0#32
  ![v3819.toNat, 0]

def k0_chk68 (v3817 : BitVec 32) : Prop :=
  (∀ a, (k0_off66 v3817) a + S128x128.size a ≤ S4096x128.size a)
theorem k0_off66_inb : ∀ (v3817 : BitVec 32) (k0_hw68 : k0_chk68 v3817), ∀ a, (k0_off66 v3817) a + S128x128.size a ≤ S4096x128.size a := fun v3817 k0_hw68 => k0_hw68

def k0_dev127 (v53 : BitVec 32) : Nat :=
  let c0_i32_3480 : BitVec 32 := 0#32
  let c1_i32_3479 : BitVec 32 := 1#32
  let v3839 : BitVec 32 := Scalar.muli v53 c1_i32_3479
  let v3840 : BitVec 32 := Scalar.addi c0_i32_3480 v3839
  v3840.toNat
def k0_dev128 (v34 : BitVec 32) : Nat :=
  let c0_i32_3494 : BitVec 32 := 0#32
  let c1_i32_3493 : BitVec 32 := 1#32
  let v3847 : BitVec 32 := Scalar.muli v34 c1_i32_3493
  let v3848 : BitVec 32 := Scalar.addi c0_i32_3494 v3847
  v3848.toNat
def k0_off67 (v3876 : BitVec 32) : Fin 2 → Nat :=
  let c128_i32_3508 : BitVec 32 := 128#32
  let v3877 : BitVec 32 := Scalar.muli v3876 c128_i32_3508
  let v3878 : Index := Scalar.indexCast v3877
  let c0_3509 : Index := 0#32
  ![v3878.toNat, 0]

def k0_chk69 (v3876 : BitVec 32) : Prop :=
  (∀ a, (k0_off67 v3876) a + S128x128.size a ≤ S4096x128.size a)
theorem k0_off67_inb : ∀ (v3876 : BitVec 32) (k0_hw69 : k0_chk69 v3876), ∀ a, (k0_off67 v3876) a + S128x128.size a ≤ S4096x128.size a := fun v3876 k0_hw69 => k0_hw69

def k0_dev129 (v53 : BitVec 32) : Nat :=
  let c0_i32_3534 : BitVec 32 := 0#32
  let c1_i32_3533 : BitVec 32 := 1#32
  let v3898 : BitVec 32 := Scalar.muli v53 c1_i32_3533
  let v3899 : BitVec 32 := Scalar.addi c0_i32_3534 v3898
  v3899.toNat
def k0_dev130 (v34 : BitVec 32) : Nat :=
  let c0_i32_3548 : BitVec 32 := 0#32
  let c1_i32_3547 : BitVec 32 := 1#32
  let v3906 : BitVec 32 := Scalar.muli v34 c1_i32_3547
  let v3907 : BitVec 32 := Scalar.addi c0_i32_3548 v3906
  v3907.toNat
def k0_off68 (v3935 : BitVec 32) : Fin 2 → Nat :=
  let c128_i32_3563 : BitVec 32 := 128#32
  let v3936 : BitVec 32 := Scalar.muli v3935 c128_i32_3563
  let v3937 : Index := Scalar.indexCast v3936
  let c0_3564 : Index := 0#32
  ![v3937.toNat, 0]

def k0_chk70 (v3935 : BitVec 32) : Prop :=
  (∀ a, (k0_off68 v3935) a + S128x128.size a ≤ S4096x128.size a)
theorem k0_off68_inb : ∀ (v3935 : BitVec 32) (k0_hw70 : k0_chk70 v3935), ∀ a, (k0_off68 v3935) a + S128x128.size a ≤ S4096x128.size a := fun v3935 k0_hw70 => k0_hw70

def k0_dev131 (v34 : BitVec 32) : Nat :=
  let c0_i32_3589 : BitVec 32 := 0#32
  let c1_i32_3588 : BitVec 32 := 1#32
  let v3957 : BitVec 32 := Scalar.muli v34 c1_i32_3588
  let v3958 : BitVec 32 := Scalar.addi c0_i32_3589 v3957
  v3958.toNat
def k0_dev132 (v53 : BitVec 32) : Nat :=
  let c0_i32_3603 : BitVec 32 := 0#32
  let c1_i32_3602 : BitVec 32 := 1#32
  let v3965 : BitVec 32 := Scalar.muli v53 c1_i32_3602
  let v3966 : BitVec 32 := Scalar.addi c0_i32_3603 v3965
  v3966.toNat
def k0_off69 (v3994 : BitVec 32) : Fin 2 → Nat :=
  let c128_i32_3618 : BitVec 32 := 128#32
  let v3995 : BitVec 32 := Scalar.muli v3994 c128_i32_3618
  let v3996 : Index := Scalar.indexCast v3995
  let c0_3619 : Index := 0#32
  ![v3996.toNat, 0]

def k0_chk71 (v3994 : BitVec 32) : Prop :=
  (∀ a, (k0_off69 v3994) a + S128x128.size a ≤ S4096x128.size a)
theorem k0_off69_inb : ∀ (v3994 : BitVec 32) (k0_hw71 : k0_chk71 v3994), ∀ a, (k0_off69 v3994) a + S128x128.size a ≤ S4096x128.size a := fun v3994 k0_hw71 => k0_hw71

def k0_dev133 (v34 : BitVec 32) : Nat :=
  let c0_i32_3644 : BitVec 32 := 0#32
  let c1_i32_3643 : BitVec 32 := 1#32
  let v4016 : BitVec 32 := Scalar.muli v34 c1_i32_3643
  let v4017 : BitVec 32 := Scalar.addi c0_i32_3644 v4016
  v4017.toNat
def k0_dev134 (v53 : BitVec 32) : Nat :=
  let c0_i32_3658 : BitVec 32 := 0#32
  let c1_i32_3657 : BitVec 32 := 1#32
  let v4024 : BitVec 32 := Scalar.muli v53 c1_i32_3657
  let v4025 : BitVec 32 := Scalar.addi c0_i32_3658 v4024
  v4025.toNat
def k0_off70 (v4053 : BitVec 32) : Fin 2 → Nat :=
  let c128_i32_3673 : BitVec 32 := 128#32
  let v4054 : BitVec 32 := Scalar.muli v4053 c128_i32_3673
  let v4055 : Index := Scalar.indexCast v4054
  let c0_3674 : Index := 0#32
  ![v4055.toNat, 0]

def k0_chk72 (v4053 : BitVec 32) : Prop :=
  (∀ a, (k0_off70 v4053) a + S128x128.size a ≤ S4096x128.size a)
theorem k0_off70_inb : ∀ (v4053 : BitVec 32) (k0_hw72 : k0_chk72 v4053), ∀ a, (k0_off70 v4053) a + S128x128.size a ≤ S4096x128.size a := fun v4053 k0_hw72 => k0_hw72

def k0_dev135 (v53 : BitVec 32) : Nat :=
  let c0_i32_3699 : BitVec 32 := 0#32
  let c1_i32_3698 : BitVec 32 := 1#32
  let v4075 : BitVec 32 := Scalar.muli v53 c1_i32_3698
  let v4076 : BitVec 32 := Scalar.addi c0_i32_3699 v4075
  v4076.toNat
def k0_dev136 (v34 : BitVec 32) : Nat :=
  let c0_i32_3713 : BitVec 32 := 0#32
  let c1_i32_3712 : BitVec 32 := 1#32
  let v4083 : BitVec 32 := Scalar.muli v34 c1_i32_3712
  let v4084 : BitVec 32 := Scalar.addi c0_i32_3713 v4083
  v4084.toNat
def k0_off71 (v4112 : BitVec 32) : Fin 2 → Nat :=
  let c128_i32_3727 : BitVec 32 := 128#32
  let v4113 : BitVec 32 := Scalar.muli v4112 c128_i32_3727
  let v4114 : Index := Scalar.indexCast v4113
  let c0_3728 : Index := 0#32
  ![v4114.toNat, 0]

def k0_chk73 (v4112 : BitVec 32) : Prop :=
  (∀ a, (k0_off71 v4112) a + S128x128.size a ≤ S4096x128.size a)
theorem k0_off71_inb : ∀ (v4112 : BitVec 32) (k0_hw73 : k0_chk73 v4112), ∀ a, (k0_off71 v4112) a + S128x128.size a ≤ S4096x128.size a := fun v4112 k0_hw73 => k0_hw73

def k0_dev137 (v53 : BitVec 32) : Nat :=
  let c0_i32_3753 : BitVec 32 := 0#32
  let c1_i32_3752 : BitVec 32 := 1#32
  let v4134 : BitVec 32 := Scalar.muli v53 c1_i32_3752
  let v4135 : BitVec 32 := Scalar.addi c0_i32_3753 v4134
  v4135.toNat
def k0_dev138 (v34 : BitVec 32) : Nat :=
  let c0_i32_3767 : BitVec 32 := 0#32
  let c1_i32_3766 : BitVec 32 := 1#32
  let v4142 : BitVec 32 := Scalar.muli v34 c1_i32_3766
  let v4143 : BitVec 32 := Scalar.addi c0_i32_3767 v4142
  v4143.toNat
def k0_off72 (v4171 : BitVec 32) : Fin 2 → Nat :=
  let c128_i32_3782 : BitVec 32 := 128#32
  let v4172 : BitVec 32 := Scalar.muli v4171 c128_i32_3782
  let v4173 : Index := Scalar.indexCast v4172
  let c0_3783 : Index := 0#32
  ![v4173.toNat, 0]

def k0_chk74 (v4171 : BitVec 32) : Prop :=
  (∀ a, (k0_off72 v4171) a + S128x128.size a ≤ S4096x128.size a)
theorem k0_off72_inb : ∀ (v4171 : BitVec 32) (k0_hw74 : k0_chk74 v4171), ∀ a, (k0_off72 v4171) a + S128x128.size a ≤ S4096x128.size a := fun v4171 k0_hw74 => k0_hw74

def k0_dev139 (v34 : BitVec 32) : Nat :=
  let c0_i32_3808 : BitVec 32 := 0#32
  let c1_i32_3807 : BitVec 32 := 1#32
  let v4193 : BitVec 32 := Scalar.muli v34 c1_i32_3807
  let v4194 : BitVec 32 := Scalar.addi c0_i32_3808 v4193
  v4194.toNat
def k0_dev140 (v53 : BitVec 32) : Nat :=
  let c0_i32_3822 : BitVec 32 := 0#32
  let c1_i32_3821 : BitVec 32 := 1#32
  let v4201 : BitVec 32 := Scalar.muli v53 c1_i32_3821
  let v4202 : BitVec 32 := Scalar.addi c0_i32_3822 v4201
  v4202.toNat
def k0_off73 (v4230 : BitVec 32) : Fin 2 → Nat :=
  let c128_i32_3837 : BitVec 32 := 128#32
  let v4231 : BitVec 32 := Scalar.muli v4230 c128_i32_3837
  let v4232 : Index := Scalar.indexCast v4231
  let c0_3838 : Index := 0#32
  ![v4232.toNat, 0]

def k0_chk75 (v4230 : BitVec 32) : Prop :=
  (∀ a, (k0_off73 v4230) a + S128x128.size a ≤ S4096x128.size a)
theorem k0_off73_inb : ∀ (v4230 : BitVec 32) (k0_hw75 : k0_chk75 v4230), ∀ a, (k0_off73 v4230) a + S128x128.size a ≤ S4096x128.size a := fun v4230 k0_hw75 => k0_hw75

def k0_dev141 (v34 : BitVec 32) : Nat :=
  let c0_i32_3863 : BitVec 32 := 0#32
  let c1_i32_3862 : BitVec 32 := 1#32
  let v4252 : BitVec 32 := Scalar.muli v34 c1_i32_3862
  let v4253 : BitVec 32 := Scalar.addi c0_i32_3863 v4252
  v4253.toNat
def k0_dev142 (v53 : BitVec 32) : Nat :=
  let c0_i32_3877 : BitVec 32 := 0#32
  let c1_i32_3876 : BitVec 32 := 1#32
  let v4260 : BitVec 32 := Scalar.muli v53 c1_i32_3876
  let v4261 : BitVec 32 := Scalar.addi c0_i32_3877 v4260
  v4261.toNat
def k0_off74 (v4289 : BitVec 32) : Fin 2 → Nat :=
  let c128_i32_3892 : BitVec 32 := 128#32
  let v4290 : BitVec 32 := Scalar.muli v4289 c128_i32_3892
  let v4291 : Index := Scalar.indexCast v4290
  let c0_3893 : Index := 0#32
  ![v4291.toNat, 0]

def k0_chk76 (v4289 : BitVec 32) : Prop :=
  (∀ a, (k0_off74 v4289) a + S128x128.size a ≤ S4096x128.size a)
theorem k0_off74_inb : ∀ (v4289 : BitVec 32) (k0_hw76 : k0_chk76 v4289), ∀ a, (k0_off74 v4289) a + S128x128.size a ≤ S4096x128.size a := fun v4289 k0_hw76 => k0_hw76

def k0_dev143 (v53 : BitVec 32) : Nat :=
  let c0_i32_3918 : BitVec 32 := 0#32
  let c1_i32_3917 : BitVec 32 := 1#32
  let v4311 : BitVec 32 := Scalar.muli v53 c1_i32_3917
  let v4312 : BitVec 32 := Scalar.addi c0_i32_3918 v4311
  v4312.toNat
def k0_dev144 (v34 : BitVec 32) : Nat :=
  let c0_i32_3932 : BitVec 32 := 0#32
  let c1_i32_3931 : BitVec 32 := 1#32
  let v4319 : BitVec 32 := Scalar.muli v34 c1_i32_3931
  let v4320 : BitVec 32 := Scalar.addi c0_i32_3932 v4319
  v4320.toNat
def k0_off75 (v4348 : BitVec 32) : Fin 2 → Nat :=
  let c128_i32_3946 : BitVec 32 := 128#32
  let v4349 : BitVec 32 := Scalar.muli v4348 c128_i32_3946
  let v4350 : Index := Scalar.indexCast v4349
  let c0_3947 : Index := 0#32
  ![v4350.toNat, 0]

def k0_chk77 (v4348 : BitVec 32) : Prop :=
  (∀ a, (k0_off75 v4348) a + S128x128.size a ≤ S4096x128.size a)
theorem k0_off75_inb : ∀ (v4348 : BitVec 32) (k0_hw77 : k0_chk77 v4348), ∀ a, (k0_off75 v4348) a + S128x128.size a ≤ S4096x128.size a := fun v4348 k0_hw77 => k0_hw77

def k0_dev145 (v53 : BitVec 32) : Nat :=
  let c0_i32_3972 : BitVec 32 := 0#32
  let c1_i32_3971 : BitVec 32 := 1#32
  let v4370 : BitVec 32 := Scalar.muli v53 c1_i32_3971
  let v4371 : BitVec 32 := Scalar.addi c0_i32_3972 v4370
  v4371.toNat
def k0_dev146 (v34 : BitVec 32) : Nat :=
  let c0_i32_3986 : BitVec 32 := 0#32
  let c1_i32_3985 : BitVec 32 := 1#32
  let v4378 : BitVec 32 := Scalar.muli v34 c1_i32_3985
  let v4379 : BitVec 32 := Scalar.addi c0_i32_3986 v4378
  v4379.toNat
def k0_off76 (v4407 : BitVec 32) : Fin 2 → Nat :=
  let c128_i32_4001 : BitVec 32 := 128#32
  let v4408 : BitVec 32 := Scalar.muli v4407 c128_i32_4001
  let v4409 : Index := Scalar.indexCast v4408
  let c0_4002 : Index := 0#32
  ![v4409.toNat, 0]

def k0_chk78 (v4407 : BitVec 32) : Prop :=
  (∀ a, (k0_off76 v4407) a + S128x128.size a ≤ S4096x128.size a)
theorem k0_off76_inb : ∀ (v4407 : BitVec 32) (k0_hw78 : k0_chk78 v4407), ∀ a, (k0_off76 v4407) a + S128x128.size a ≤ S4096x128.size a := fun v4407 k0_hw78 => k0_hw78

def k0_dev147 (v34 : BitVec 32) : Nat :=
  let c0_i32_4027 : BitVec 32 := 0#32
  let c1_i32_4026 : BitVec 32 := 1#32
  let v4429 : BitVec 32 := Scalar.muli v34 c1_i32_4026
  let v4430 : BitVec 32 := Scalar.addi c0_i32_4027 v4429
  v4430.toNat
def k0_dev148 (v53 : BitVec 32) : Nat :=
  let c0_i32_4041 : BitVec 32 := 0#32
  let c1_i32_4040 : BitVec 32 := 1#32
  let v4437 : BitVec 32 := Scalar.muli v53 c1_i32_4040
  let v4438 : BitVec 32 := Scalar.addi c0_i32_4041 v4437
  v4438.toNat
def k0_off77 (v4466 : BitVec 32) : Fin 2 → Nat :=
  let c128_i32_4056 : BitVec 32 := 128#32
  let v4467 : BitVec 32 := Scalar.muli v4466 c128_i32_4056
  let v4468 : Index := Scalar.indexCast v4467
  let c0_4057 : Index := 0#32
  ![v4468.toNat, 0]

def k0_chk79 (v4466 : BitVec 32) : Prop :=
  (∀ a, (k0_off77 v4466) a + S128x128.size a ≤ S4096x128.size a)
theorem k0_off77_inb : ∀ (v4466 : BitVec 32) (k0_hw79 : k0_chk79 v4466), ∀ a, (k0_off77 v4466) a + S128x128.size a ≤ S4096x128.size a := fun v4466 k0_hw79 => k0_hw79

def k0_dev149 (v34 : BitVec 32) : Nat :=
  let c0_i32_4082 : BitVec 32 := 0#32
  let c1_i32_4081 : BitVec 32 := 1#32
  let v4488 : BitVec 32 := Scalar.muli v34 c1_i32_4081
  let v4489 : BitVec 32 := Scalar.addi c0_i32_4082 v4488
  v4489.toNat
def k0_dev150 (v53 : BitVec 32) : Nat :=
  let c0_i32_4096 : BitVec 32 := 0#32
  let c1_i32_4095 : BitVec 32 := 1#32
  let v4496 : BitVec 32 := Scalar.muli v53 c1_i32_4095
  let v4497 : BitVec 32 := Scalar.addi c0_i32_4096 v4496
  v4497.toNat
def k0_off78 (v4525 : BitVec 32) : Fin 2 → Nat :=
  let c128_i32_4111 : BitVec 32 := 128#32
  let v4526 : BitVec 32 := Scalar.muli v4525 c128_i32_4111
  let v4527 : Index := Scalar.indexCast v4526
  let c0_4112 : Index := 0#32
  ![v4527.toNat, 0]

def k0_chk80 (v4525 : BitVec 32) : Prop :=
  (∀ a, (k0_off78 v4525) a + S128x128.size a ≤ S4096x128.size a)
theorem k0_off78_inb : ∀ (v4525 : BitVec 32) (k0_hw80 : k0_chk80 v4525), ∀ a, (k0_off78 v4525) a + S128x128.size a ≤ S4096x128.size a := fun v4525 k0_hw80 => k0_hw80

def k0_dev151 (v53 : BitVec 32) : Nat :=
  let c0_i32_4137 : BitVec 32 := 0#32
  let c1_i32_4136 : BitVec 32 := 1#32
  let v4547 : BitVec 32 := Scalar.muli v53 c1_i32_4136
  let v4548 : BitVec 32 := Scalar.addi c0_i32_4137 v4547
  v4548.toNat
def k0_dev152 (v34 : BitVec 32) : Nat :=
  let c0_i32_4151 : BitVec 32 := 0#32
  let c1_i32_4150 : BitVec 32 := 1#32
  let v4555 : BitVec 32 := Scalar.muli v34 c1_i32_4150
  let v4556 : BitVec 32 := Scalar.addi c0_i32_4151 v4555
  v4556.toNat
def k0_off79 (v4584 : BitVec 32) : Fin 2 → Nat :=
  let c128_i32_4165 : BitVec 32 := 128#32
  let v4585 : BitVec 32 := Scalar.muli v4584 c128_i32_4165
  let v4586 : Index := Scalar.indexCast v4585
  let c0_4166 : Index := 0#32
  ![v4586.toNat, 0]

def k0_chk81 (v4584 : BitVec 32) : Prop :=
  (∀ a, (k0_off79 v4584) a + S128x128.size a ≤ S4096x128.size a)
theorem k0_off79_inb : ∀ (v4584 : BitVec 32) (k0_hw81 : k0_chk81 v4584), ∀ a, (k0_off79 v4584) a + S128x128.size a ≤ S4096x128.size a := fun v4584 k0_hw81 => k0_hw81

def k0_dev153 (v53 : BitVec 32) : Nat :=
  let c0_i32_4191 : BitVec 32 := 0#32
  let c1_i32_4190 : BitVec 32 := 1#32
  let v4606 : BitVec 32 := Scalar.muli v53 c1_i32_4190
  let v4607 : BitVec 32 := Scalar.addi c0_i32_4191 v4606
  v4607.toNat
def k0_dev154 (v34 : BitVec 32) : Nat :=
  let c0_i32_4205 : BitVec 32 := 0#32
  let c1_i32_4204 : BitVec 32 := 1#32
  let v4614 : BitVec 32 := Scalar.muli v34 c1_i32_4204
  let v4615 : BitVec 32 := Scalar.addi c0_i32_4205 v4614
  v4615.toNat
def k0_off80 (v4643 : BitVec 32) : Fin 2 → Nat :=
  let c128_i32_4220 : BitVec 32 := 128#32
  let v4644 : BitVec 32 := Scalar.muli v4643 c128_i32_4220
  let v4645 : Index := Scalar.indexCast v4644
  let c0_4221 : Index := 0#32
  ![v4645.toNat, 0]

def k0_chk82 (v4643 : BitVec 32) : Prop :=
  (∀ a, (k0_off80 v4643) a + S128x128.size a ≤ S4096x128.size a)
theorem k0_off80_inb : ∀ (v4643 : BitVec 32) (k0_hw82 : k0_chk82 v4643), ∀ a, (k0_off80 v4643) a + S128x128.size a ≤ S4096x128.size a := fun v4643 k0_hw82 => k0_hw82

def k0_dev155 (v34 : BitVec 32) : Nat :=
  let c0_i32_4246 : BitVec 32 := 0#32
  let c1_i32_4245 : BitVec 32 := 1#32
  let v4665 : BitVec 32 := Scalar.muli v34 c1_i32_4245
  let v4666 : BitVec 32 := Scalar.addi c0_i32_4246 v4665
  v4666.toNat
def k0_dev156 (v53 : BitVec 32) : Nat :=
  let c0_i32_4260 : BitVec 32 := 0#32
  let c1_i32_4259 : BitVec 32 := 1#32
  let v4673 : BitVec 32 := Scalar.muli v53 c1_i32_4259
  let v4674 : BitVec 32 := Scalar.addi c0_i32_4260 v4673
  v4674.toNat
def k0_off81 (v4702 : BitVec 32) : Fin 2 → Nat :=
  let c128_i32_4275 : BitVec 32 := 128#32
  let v4703 : BitVec 32 := Scalar.muli v4702 c128_i32_4275
  let v4704 : Index := Scalar.indexCast v4703
  let c0_4276 : Index := 0#32
  ![v4704.toNat, 0]

def k0_chk83 (v4702 : BitVec 32) : Prop :=
  (∀ a, (k0_off81 v4702) a + S128x128.size a ≤ S4096x128.size a)
theorem k0_off81_inb : ∀ (v4702 : BitVec 32) (k0_hw83 : k0_chk83 v4702), ∀ a, (k0_off81 v4702) a + S128x128.size a ≤ S4096x128.size a := fun v4702 k0_hw83 => k0_hw83

def k0_dev157 (v34 : BitVec 32) : Nat :=
  let c0_i32_4301 : BitVec 32 := 0#32
  let c1_i32_4300 : BitVec 32 := 1#32
  let v4724 : BitVec 32 := Scalar.muli v34 c1_i32_4300
  let v4725 : BitVec 32 := Scalar.addi c0_i32_4301 v4724
  v4725.toNat
def k0_dev158 (v53 : BitVec 32) : Nat :=
  let c0_i32_4315 : BitVec 32 := 0#32
  let c1_i32_4314 : BitVec 32 := 1#32
  let v4732 : BitVec 32 := Scalar.muli v53 c1_i32_4314
  let v4733 : BitVec 32 := Scalar.addi c0_i32_4315 v4732
  v4733.toNat
def k0_off82 (v4761 : BitVec 32) : Fin 2 → Nat :=
  let c128_i32_4330 : BitVec 32 := 128#32
  let v4762 : BitVec 32 := Scalar.muli v4761 c128_i32_4330
  let v4763 : Index := Scalar.indexCast v4762
  let c0_4331 : Index := 0#32
  ![v4763.toNat, 0]

def k0_chk84 (v4761 : BitVec 32) : Prop :=
  (∀ a, (k0_off82 v4761) a + S128x128.size a ≤ S4096x128.size a)
theorem k0_off82_inb : ∀ (v4761 : BitVec 32) (k0_hw84 : k0_chk84 v4761), ∀ a, (k0_off82 v4761) a + S128x128.size a ≤ S4096x128.size a := fun v4761 k0_hw84 => k0_hw84

def k0_dev159 (v53 : BitVec 32) : Nat :=
  let c0_i32_4356 : BitVec 32 := 0#32
  let c1_i32_4355 : BitVec 32 := 1#32
  let v4783 : BitVec 32 := Scalar.muli v53 c1_i32_4355
  let v4784 : BitVec 32 := Scalar.addi c0_i32_4356 v4783
  v4784.toNat
def k0_dev160 (v34 : BitVec 32) : Nat :=
  let c0_i32_4370 : BitVec 32 := 0#32
  let c1_i32_4369 : BitVec 32 := 1#32
  let v4791 : BitVec 32 := Scalar.muli v34 c1_i32_4369
  let v4792 : BitVec 32 := Scalar.addi c0_i32_4370 v4791
  v4792.toNat
def k0_off83 (v4820 : BitVec 32) : Fin 2 → Nat :=
  let c128_i32_4384 : BitVec 32 := 128#32
  let v4821 : BitVec 32 := Scalar.muli v4820 c128_i32_4384
  let v4822 : Index := Scalar.indexCast v4821
  let c0_4385 : Index := 0#32
  ![v4822.toNat, 0]

def k0_chk85 (v4820 : BitVec 32) : Prop :=
  (∀ a, (k0_off83 v4820) a + S128x128.size a ≤ S4096x128.size a)
theorem k0_off83_inb : ∀ (v4820 : BitVec 32) (k0_hw85 : k0_chk85 v4820), ∀ a, (k0_off83 v4820) a + S128x128.size a ≤ S4096x128.size a := fun v4820 k0_hw85 => k0_hw85

def k0_dev161 (v53 : BitVec 32) : Nat :=
  let c0_i32_4410 : BitVec 32 := 0#32
  let c1_i32_4409 : BitVec 32 := 1#32
  let v4842 : BitVec 32 := Scalar.muli v53 c1_i32_4409
  let v4843 : BitVec 32 := Scalar.addi c0_i32_4410 v4842
  v4843.toNat
def k0_dev162 (v34 : BitVec 32) : Nat :=
  let c0_i32_4424 : BitVec 32 := 0#32
  let c1_i32_4423 : BitVec 32 := 1#32
  let v4850 : BitVec 32 := Scalar.muli v34 c1_i32_4423
  let v4851 : BitVec 32 := Scalar.addi c0_i32_4424 v4850
  v4851.toNat
def k0_off84 (v4879 : BitVec 32) : Fin 2 → Nat :=
  let c128_i32_4439 : BitVec 32 := 128#32
  let v4880 : BitVec 32 := Scalar.muli v4879 c128_i32_4439
  let v4881 : Index := Scalar.indexCast v4880
  let c0_4440 : Index := 0#32
  ![v4881.toNat, 0]

def k0_chk86 (v4879 : BitVec 32) : Prop :=
  (∀ a, (k0_off84 v4879) a + S128x128.size a ≤ S4096x128.size a)
theorem k0_off84_inb : ∀ (v4879 : BitVec 32) (k0_hw86 : k0_chk86 v4879), ∀ a, (k0_off84 v4879) a + S128x128.size a ≤ S4096x128.size a := fun v4879 k0_hw86 => k0_hw86

def k0_dev163 (v34 : BitVec 32) : Nat :=
  let c0_i32_4465 : BitVec 32 := 0#32
  let c1_i32_4464 : BitVec 32 := 1#32
  let v4901 : BitVec 32 := Scalar.muli v34 c1_i32_4464
  let v4902 : BitVec 32 := Scalar.addi c0_i32_4465 v4901
  v4902.toNat
def k0_dev164 (v53 : BitVec 32) : Nat :=
  let c0_i32_4479 : BitVec 32 := 0#32
  let c1_i32_4478 : BitVec 32 := 1#32
  let v4909 : BitVec 32 := Scalar.muli v53 c1_i32_4478
  let v4910 : BitVec 32 := Scalar.addi c0_i32_4479 v4909
  v4910.toNat
def k0_off85 (v4938 : BitVec 32) : Fin 2 → Nat :=
  let c128_i32_4494 : BitVec 32 := 128#32
  let v4939 : BitVec 32 := Scalar.muli v4938 c128_i32_4494
  let v4940 : Index := Scalar.indexCast v4939
  let c0_4495 : Index := 0#32
  ![v4940.toNat, 0]

def k0_chk87 (v4938 : BitVec 32) : Prop :=
  (∀ a, (k0_off85 v4938) a + S128x128.size a ≤ S4096x128.size a)
theorem k0_off85_inb : ∀ (v4938 : BitVec 32) (k0_hw87 : k0_chk87 v4938), ∀ a, (k0_off85 v4938) a + S128x128.size a ≤ S4096x128.size a := fun v4938 k0_hw87 => k0_hw87

def k0_dev165 (v34 : BitVec 32) : Nat :=
  let c0_i32_4520 : BitVec 32 := 0#32
  let c1_i32_4519 : BitVec 32 := 1#32
  let v4960 : BitVec 32 := Scalar.muli v34 c1_i32_4519
  let v4961 : BitVec 32 := Scalar.addi c0_i32_4520 v4960
  v4961.toNat
def k0_dev166 (v53 : BitVec 32) : Nat :=
  let c0_i32_4534 : BitVec 32 := 0#32
  let c1_i32_4533 : BitVec 32 := 1#32
  let v4968 : BitVec 32 := Scalar.muli v53 c1_i32_4533
  let v4969 : BitVec 32 := Scalar.addi c0_i32_4534 v4968
  v4969.toNat
def k0_off86 (v4997 : BitVec 32) : Fin 2 → Nat :=
  let c128_i32_4549 : BitVec 32 := 128#32
  let v4998 : BitVec 32 := Scalar.muli v4997 c128_i32_4549
  let v4999 : Index := Scalar.indexCast v4998
  let c0_4550 : Index := 0#32
  ![v4999.toNat, 0]

def k0_chk88 (v4997 : BitVec 32) : Prop :=
  (∀ a, (k0_off86 v4997) a + S128x128.size a ≤ S4096x128.size a)
theorem k0_off86_inb : ∀ (v4997 : BitVec 32) (k0_hw88 : k0_chk88 v4997), ∀ a, (k0_off86 v4997) a + S128x128.size a ≤ S4096x128.size a := fun v4997 k0_hw88 => k0_hw88

def k0_dev167 (v53 : BitVec 32) : Nat :=
  let c0_i32_4575 : BitVec 32 := 0#32
  let c1_i32_4574 : BitVec 32 := 1#32
  let v5019 : BitVec 32 := Scalar.muli v53 c1_i32_4574
  let v5020 : BitVec 32 := Scalar.addi c0_i32_4575 v5019
  v5020.toNat
def k0_dev168 (v34 : BitVec 32) : Nat :=
  let c0_i32_4589 : BitVec 32 := 0#32
  let c1_i32_4588 : BitVec 32 := 1#32
  let v5027 : BitVec 32 := Scalar.muli v34 c1_i32_4588
  let v5028 : BitVec 32 := Scalar.addi c0_i32_4589 v5027
  v5028.toNat
def k0_off87 (v5056 : BitVec 32) : Fin 2 → Nat :=
  let c128_i32_4603 : BitVec 32 := 128#32
  let v5057 : BitVec 32 := Scalar.muli v5056 c128_i32_4603
  let v5058 : Index := Scalar.indexCast v5057
  let c0_4604 : Index := 0#32
  ![v5058.toNat, 0]

def k0_chk89 (v5056 : BitVec 32) : Prop :=
  (∀ a, (k0_off87 v5056) a + S128x128.size a ≤ S4096x128.size a)
theorem k0_off87_inb : ∀ (v5056 : BitVec 32) (k0_hw89 : k0_chk89 v5056), ∀ a, (k0_off87 v5056) a + S128x128.size a ≤ S4096x128.size a := fun v5056 k0_hw89 => k0_hw89

def k0_dev169 (v53 : BitVec 32) : Nat :=
  let c0_i32_4629 : BitVec 32 := 0#32
  let c1_i32_4628 : BitVec 32 := 1#32
  let v5078 : BitVec 32 := Scalar.muli v53 c1_i32_4628
  let v5079 : BitVec 32 := Scalar.addi c0_i32_4629 v5078
  v5079.toNat
def k0_dev170 (v34 : BitVec 32) : Nat :=
  let c0_i32_4643 : BitVec 32 := 0#32
  let c1_i32_4642 : BitVec 32 := 1#32
  let v5086 : BitVec 32 := Scalar.muli v34 c1_i32_4642
  let v5087 : BitVec 32 := Scalar.addi c0_i32_4643 v5086
  v5087.toNat
def k0_off88 (v5115 : BitVec 32) : Fin 2 → Nat :=
  let c128_i32_4658 : BitVec 32 := 128#32
  let v5116 : BitVec 32 := Scalar.muli v5115 c128_i32_4658
  let v5117 : Index := Scalar.indexCast v5116
  let c0_4659 : Index := 0#32
  ![v5117.toNat, 0]

def k0_chk90 (v5115 : BitVec 32) : Prop :=
  (∀ a, (k0_off88 v5115) a + S128x128.size a ≤ S4096x128.size a)
theorem k0_off88_inb : ∀ (v5115 : BitVec 32) (k0_hw90 : k0_chk90 v5115), ∀ a, (k0_off88 v5115) a + S128x128.size a ≤ S4096x128.size a := fun v5115 k0_hw90 => k0_hw90

def k0_dev171 (v34 : BitVec 32) : Nat :=
  let c0_i32_4684 : BitVec 32 := 0#32
  let c1_i32_4683 : BitVec 32 := 1#32
  let v5137 : BitVec 32 := Scalar.muli v34 c1_i32_4683
  let v5138 : BitVec 32 := Scalar.addi c0_i32_4684 v5137
  v5138.toNat
def k0_dev172 (v53 : BitVec 32) : Nat :=
  let c0_i32_4698 : BitVec 32 := 0#32
  let c1_i32_4697 : BitVec 32 := 1#32
  let v5145 : BitVec 32 := Scalar.muli v53 c1_i32_4697
  let v5146 : BitVec 32 := Scalar.addi c0_i32_4698 v5145
  v5146.toNat
def k0_off89 (v5174 : BitVec 32) : Fin 2 → Nat :=
  let c128_i32_4713 : BitVec 32 := 128#32
  let v5175 : BitVec 32 := Scalar.muli v5174 c128_i32_4713
  let v5176 : Index := Scalar.indexCast v5175
  let c0_4714 : Index := 0#32
  ![v5176.toNat, 0]

def k0_chk91 (v5174 : BitVec 32) : Prop :=
  (∀ a, (k0_off89 v5174) a + S128x128.size a ≤ S4096x128.size a)
theorem k0_off89_inb : ∀ (v5174 : BitVec 32) (k0_hw91 : k0_chk91 v5174), ∀ a, (k0_off89 v5174) a + S128x128.size a ≤ S4096x128.size a := fun v5174 k0_hw91 => k0_hw91

def k0_dev173 (v34 : BitVec 32) : Nat :=
  let c0_i32_4739 : BitVec 32 := 0#32
  let c1_i32_4738 : BitVec 32 := 1#32
  let v5196 : BitVec 32 := Scalar.muli v34 c1_i32_4738
  let v5197 : BitVec 32 := Scalar.addi c0_i32_4739 v5196
  v5197.toNat
def k0_dev174 (v53 : BitVec 32) : Nat :=
  let c0_i32_4753 : BitVec 32 := 0#32
  let c1_i32_4752 : BitVec 32 := 1#32
  let v5204 : BitVec 32 := Scalar.muli v53 c1_i32_4752
  let v5205 : BitVec 32 := Scalar.addi c0_i32_4753 v5204
  v5205.toNat
def k0_off90 (v5233 : BitVec 32) : Fin 2 → Nat :=
  let c128_i32_4768 : BitVec 32 := 128#32
  let v5234 : BitVec 32 := Scalar.muli v5233 c128_i32_4768
  let v5235 : Index := Scalar.indexCast v5234
  let c0_4769 : Index := 0#32
  ![v5235.toNat, 0]

def k0_chk92 (v5233 : BitVec 32) : Prop :=
  (∀ a, (k0_off90 v5233) a + S128x128.size a ≤ S4096x128.size a)
theorem k0_off90_inb : ∀ (v5233 : BitVec 32) (k0_hw92 : k0_chk92 v5233), ∀ a, (k0_off90 v5233) a + S128x128.size a ≤ S4096x128.size a := fun v5233 k0_hw92 => k0_hw92

def k0_dev175 (v53 : BitVec 32) : Nat :=
  let c0_i32_4794 : BitVec 32 := 0#32
  let c1_i32_4793 : BitVec 32 := 1#32
  let v5255 : BitVec 32 := Scalar.muli v53 c1_i32_4793
  let v5256 : BitVec 32 := Scalar.addi c0_i32_4794 v5255
  v5256.toNat
def k0_dev176 (v34 : BitVec 32) : Nat :=
  let c0_i32_4808 : BitVec 32 := 0#32
  let c1_i32_4807 : BitVec 32 := 1#32
  let v5263 : BitVec 32 := Scalar.muli v34 c1_i32_4807
  let v5264 : BitVec 32 := Scalar.addi c0_i32_4808 v5263
  v5264.toNat
def k0_off91 (v5292 : BitVec 32) : Fin 2 → Nat :=
  let c128_i32_4822 : BitVec 32 := 128#32
  let v5293 : BitVec 32 := Scalar.muli v5292 c128_i32_4822
  let v5294 : Index := Scalar.indexCast v5293
  let c0_4823 : Index := 0#32
  ![v5294.toNat, 0]

def k0_chk93 (v5292 : BitVec 32) : Prop :=
  (∀ a, (k0_off91 v5292) a + S128x128.size a ≤ S4096x128.size a)
theorem k0_off91_inb : ∀ (v5292 : BitVec 32) (k0_hw93 : k0_chk93 v5292), ∀ a, (k0_off91 v5292) a + S128x128.size a ≤ S4096x128.size a := fun v5292 k0_hw93 => k0_hw93

def k0_dev177 (v53 : BitVec 32) : Nat :=
  let c0_i32_4848 : BitVec 32 := 0#32
  let c1_i32_4847 : BitVec 32 := 1#32
  let v5314 : BitVec 32 := Scalar.muli v53 c1_i32_4847
  let v5315 : BitVec 32 := Scalar.addi c0_i32_4848 v5314
  v5315.toNat
def k0_dev178 (v34 : BitVec 32) : Nat :=
  let c0_i32_4862 : BitVec 32 := 0#32
  let c1_i32_4861 : BitVec 32 := 1#32
  let v5322 : BitVec 32 := Scalar.muli v34 c1_i32_4861
  let v5323 : BitVec 32 := Scalar.addi c0_i32_4862 v5322
  v5323.toNat
def k0_off92 (v5351 : BitVec 32) : Fin 2 → Nat :=
  let c128_i32_4877 : BitVec 32 := 128#32
  let v5352 : BitVec 32 := Scalar.muli v5351 c128_i32_4877
  let v5353 : Index := Scalar.indexCast v5352
  let c0_4878 : Index := 0#32
  ![v5353.toNat, 0]

def k0_chk94 (v5351 : BitVec 32) : Prop :=
  (∀ a, (k0_off92 v5351) a + S128x128.size a ≤ S4096x128.size a)
theorem k0_off92_inb : ∀ (v5351 : BitVec 32) (k0_hw94 : k0_chk94 v5351), ∀ a, (k0_off92 v5351) a + S128x128.size a ≤ S4096x128.size a := fun v5351 k0_hw94 => k0_hw94

def k0_dev179 (v34 : BitVec 32) : Nat :=
  let c0_i32_4903 : BitVec 32 := 0#32
  let c1_i32_4902 : BitVec 32 := 1#32
  let v5373 : BitVec 32 := Scalar.muli v34 c1_i32_4902
  let v5374 : BitVec 32 := Scalar.addi c0_i32_4903 v5373
  v5374.toNat
def k0_dev180 (v53 : BitVec 32) : Nat :=
  let c0_i32_4917 : BitVec 32 := 0#32
  let c1_i32_4916 : BitVec 32 := 1#32
  let v5381 : BitVec 32 := Scalar.muli v53 c1_i32_4916
  let v5382 : BitVec 32 := Scalar.addi c0_i32_4917 v5381
  v5382.toNat
def k0_off93 (v5410 : BitVec 32) : Fin 2 → Nat :=
  let c128_i32_4932 : BitVec 32 := 128#32
  let v5411 : BitVec 32 := Scalar.muli v5410 c128_i32_4932
  let v5412 : Index := Scalar.indexCast v5411
  let c0_4933 : Index := 0#32
  ![v5412.toNat, 0]

def k0_chk95 (v5410 : BitVec 32) : Prop :=
  (∀ a, (k0_off93 v5410) a + S128x128.size a ≤ S4096x128.size a)
theorem k0_off93_inb : ∀ (v5410 : BitVec 32) (k0_hw95 : k0_chk95 v5410), ∀ a, (k0_off93 v5410) a + S128x128.size a ≤ S4096x128.size a := fun v5410 k0_hw95 => k0_hw95

def k0_dev181 (v34 : BitVec 32) : Nat :=
  let c0_i32_4958 : BitVec 32 := 0#32
  let c1_i32_4957 : BitVec 32 := 1#32
  let v5432 : BitVec 32 := Scalar.muli v34 c1_i32_4957
  let v5433 : BitVec 32 := Scalar.addi c0_i32_4958 v5432
  v5433.toNat
def k0_dev182 (v53 : BitVec 32) : Nat :=
  let c0_i32_4972 : BitVec 32 := 0#32
  let c1_i32_4971 : BitVec 32 := 1#32
  let v5440 : BitVec 32 := Scalar.muli v53 c1_i32_4971
  let v5441 : BitVec 32 := Scalar.addi c0_i32_4972 v5440
  v5441.toNat
def k0_off94 (v5469 : BitVec 32) : Fin 2 → Nat :=
  let c128_i32_4987 : BitVec 32 := 128#32
  let v5470 : BitVec 32 := Scalar.muli v5469 c128_i32_4987
  let v5471 : Index := Scalar.indexCast v5470
  let c0_4988 : Index := 0#32
  ![v5471.toNat, 0]

def k0_chk96 (v5469 : BitVec 32) : Prop :=
  (∀ a, (k0_off94 v5469) a + S128x128.size a ≤ S4096x128.size a)
theorem k0_off94_inb : ∀ (v5469 : BitVec 32) (k0_hw96 : k0_chk96 v5469), ∀ a, (k0_off94 v5469) a + S128x128.size a ≤ S4096x128.size a := fun v5469 k0_hw96 => k0_hw96

def k0_dev183 (v53 : BitVec 32) : Nat :=
  let c0_i32_5013 : BitVec 32 := 0#32
  let c1_i32_5012 : BitVec 32 := 1#32
  let v5491 : BitVec 32 := Scalar.muli v53 c1_i32_5012
  let v5492 : BitVec 32 := Scalar.addi c0_i32_5013 v5491
  v5492.toNat
def k0_dev184 (v34 : BitVec 32) : Nat :=
  let c0_i32_5027 : BitVec 32 := 0#32
  let c1_i32_5026 : BitVec 32 := 1#32
  let v5499 : BitVec 32 := Scalar.muli v34 c1_i32_5026
  let v5500 : BitVec 32 := Scalar.addi c0_i32_5027 v5499
  v5500.toNat
def k0_off95 (v5528 : BitVec 32) : Fin 2 → Nat :=
  let c128_i32_5041 : BitVec 32 := 128#32
  let v5529 : BitVec 32 := Scalar.muli v5528 c128_i32_5041
  let v5530 : Index := Scalar.indexCast v5529
  let c0_5042 : Index := 0#32
  ![v5530.toNat, 0]

def k0_chk97 (v5528 : BitVec 32) : Prop :=
  (∀ a, (k0_off95 v5528) a + S128x128.size a ≤ S4096x128.size a)
theorem k0_off95_inb : ∀ (v5528 : BitVec 32) (k0_hw97 : k0_chk97 v5528), ∀ a, (k0_off95 v5528) a + S128x128.size a ≤ S4096x128.size a := fun v5528 k0_hw97 => k0_hw97

def k0_dev185 (v53 : BitVec 32) : Nat :=
  let c0_i32_5067 : BitVec 32 := 0#32
  let c1_i32_5066 : BitVec 32 := 1#32
  let v5550 : BitVec 32 := Scalar.muli v53 c1_i32_5066
  let v5551 : BitVec 32 := Scalar.addi c0_i32_5067 v5550
  v5551.toNat
def k0_dev186 (v34 : BitVec 32) : Nat :=
  let c0_i32_5081 : BitVec 32 := 0#32
  let c1_i32_5080 : BitVec 32 := 1#32
  let v5558 : BitVec 32 := Scalar.muli v34 c1_i32_5080
  let v5559 : BitVec 32 := Scalar.addi c0_i32_5081 v5558
  v5559.toNat
def k0_off96 (v5587 : BitVec 32) : Fin 2 → Nat :=
  let c128_i32_5096 : BitVec 32 := 128#32
  let v5588 : BitVec 32 := Scalar.muli v5587 c128_i32_5096
  let v5589 : Index := Scalar.indexCast v5588
  let c0_5097 : Index := 0#32
  ![v5589.toNat, 0]

def k0_chk98 (v5587 : BitVec 32) : Prop :=
  (∀ a, (k0_off96 v5587) a + S128x128.size a ≤ S4096x128.size a)
theorem k0_off96_inb : ∀ (v5587 : BitVec 32) (k0_hw98 : k0_chk98 v5587), ∀ a, (k0_off96 v5587) a + S128x128.size a ≤ S4096x128.size a := fun v5587 k0_hw98 => k0_hw98

def k0_dev187 (v34 : BitVec 32) : Nat :=
  let c0_i32_5122 : BitVec 32 := 0#32
  let c1_i32_5121 : BitVec 32 := 1#32
  let v5609 : BitVec 32 := Scalar.muli v34 c1_i32_5121
  let v5610 : BitVec 32 := Scalar.addi c0_i32_5122 v5609
  v5610.toNat
def k0_dev188 (v53 : BitVec 32) : Nat :=
  let c0_i32_5136 : BitVec 32 := 0#32
  let c1_i32_5135 : BitVec 32 := 1#32
  let v5617 : BitVec 32 := Scalar.muli v53 c1_i32_5135
  let v5618 : BitVec 32 := Scalar.addi c0_i32_5136 v5617
  v5618.toNat
def k0_off97 (v5646 : BitVec 32) : Fin 2 → Nat :=
  let c128_i32_5151 : BitVec 32 := 128#32
  let v5647 : BitVec 32 := Scalar.muli v5646 c128_i32_5151
  let v5648 : Index := Scalar.indexCast v5647
  let c0_5152 : Index := 0#32
  ![v5648.toNat, 0]

def k0_chk99 (v5646 : BitVec 32) : Prop :=
  (∀ a, (k0_off97 v5646) a + S128x128.size a ≤ S4096x128.size a)
theorem k0_off97_inb : ∀ (v5646 : BitVec 32) (k0_hw99 : k0_chk99 v5646), ∀ a, (k0_off97 v5646) a + S128x128.size a ≤ S4096x128.size a := fun v5646 k0_hw99 => k0_hw99

def k0_dev189 (v34 : BitVec 32) : Nat :=
  let c0_i32_5177 : BitVec 32 := 0#32
  let c1_i32_5176 : BitVec 32 := 1#32
  let v5668 : BitVec 32 := Scalar.muli v34 c1_i32_5176
  let v5669 : BitVec 32 := Scalar.addi c0_i32_5177 v5668
  v5669.toNat
def k0_dev190 (v53 : BitVec 32) : Nat :=
  let c0_i32_5191 : BitVec 32 := 0#32
  let c1_i32_5190 : BitVec 32 := 1#32
  let v5676 : BitVec 32 := Scalar.muli v53 c1_i32_5190
  let v5677 : BitVec 32 := Scalar.addi c0_i32_5191 v5676
  v5677.toNat
def k0_off98 (v5705 : BitVec 32) : Fin 2 → Nat :=
  let c128_i32_5206 : BitVec 32 := 128#32
  let v5706 : BitVec 32 := Scalar.muli v5705 c128_i32_5206
  let v5707 : Index := Scalar.indexCast v5706
  let c0_5207 : Index := 0#32
  ![v5707.toNat, 0]

def k0_chk100 (v5705 : BitVec 32) : Prop :=
  (∀ a, (k0_off98 v5705) a + S128x128.size a ≤ S4096x128.size a)
theorem k0_off98_inb : ∀ (v5705 : BitVec 32) (k0_hw100 : k0_chk100 v5705), ∀ a, (k0_off98 v5705) a + S128x128.size a ≤ S4096x128.size a := fun v5705 k0_hw100 => k0_hw100

def k0_dev191 (v53 : BitVec 32) : Nat :=
  let c0_i32_5232 : BitVec 32 := 0#32
  let c1_i32_5231 : BitVec 32 := 1#32
  let v5727 : BitVec 32 := Scalar.muli v53 c1_i32_5231
  let v5728 : BitVec 32 := Scalar.addi c0_i32_5232 v5727
  v5728.toNat
def k0_dev192 (v34 : BitVec 32) : Nat :=
  let c0_i32_5246 : BitVec 32 := 0#32
  let c1_i32_5245 : BitVec 32 := 1#32
  let v5735 : BitVec 32 := Scalar.muli v34 c1_i32_5245
  let v5736 : BitVec 32 := Scalar.addi c0_i32_5246 v5735
  v5736.toNat
def k0_off99 (v5764 : BitVec 32) : Fin 2 → Nat :=
  let c128_i32_5260 : BitVec 32 := 128#32
  let v5765 : BitVec 32 := Scalar.muli v5764 c128_i32_5260
  let v5766 : Index := Scalar.indexCast v5765
  let c0_5261 : Index := 0#32
  ![v5766.toNat, 0]

def k0_chk101 (v5764 : BitVec 32) : Prop :=
  (∀ a, (k0_off99 v5764) a + S128x128.size a ≤ S4096x128.size a)
theorem k0_off99_inb : ∀ (v5764 : BitVec 32) (k0_hw101 : k0_chk101 v5764), ∀ a, (k0_off99 v5764) a + S128x128.size a ≤ S4096x128.size a := fun v5764 k0_hw101 => k0_hw101

def k0_dev193 (v53 : BitVec 32) : Nat :=
  let c0_i32_5286 : BitVec 32 := 0#32
  let c1_i32_5285 : BitVec 32 := 1#32
  let v5786 : BitVec 32 := Scalar.muli v53 c1_i32_5285
  let v5787 : BitVec 32 := Scalar.addi c0_i32_5286 v5786
  v5787.toNat
def k0_dev194 (v34 : BitVec 32) : Nat :=
  let c0_i32_5300 : BitVec 32 := 0#32
  let c1_i32_5299 : BitVec 32 := 1#32
  let v5794 : BitVec 32 := Scalar.muli v34 c1_i32_5299
  let v5795 : BitVec 32 := Scalar.addi c0_i32_5300 v5794
  v5795.toNat
def k0_off100 (v5823 : BitVec 32) : Fin 2 → Nat :=
  let c128_i32_5315 : BitVec 32 := 128#32
  let v5824 : BitVec 32 := Scalar.muli v5823 c128_i32_5315
  let v5825 : Index := Scalar.indexCast v5824
  let c0_5316 : Index := 0#32
  ![v5825.toNat, 0]

def k0_chk102 (v5823 : BitVec 32) : Prop :=
  (∀ a, (k0_off100 v5823) a + S128x128.size a ≤ S4096x128.size a)
theorem k0_off100_inb : ∀ (v5823 : BitVec 32) (k0_hw102 : k0_chk102 v5823), ∀ a, (k0_off100 v5823) a + S128x128.size a ≤ S4096x128.size a := fun v5823 k0_hw102 => k0_hw102

def k0_dev195 (v34 : BitVec 32) : Nat :=
  let c0_i32_5341 : BitVec 32 := 0#32
  let c1_i32_5340 : BitVec 32 := 1#32
  let v5845 : BitVec 32 := Scalar.muli v34 c1_i32_5340
  let v5846 : BitVec 32 := Scalar.addi c0_i32_5341 v5845
  v5846.toNat
def k0_dev196 (v53 : BitVec 32) : Nat :=
  let c0_i32_5355 : BitVec 32 := 0#32
  let c1_i32_5354 : BitVec 32 := 1#32
  let v5853 : BitVec 32 := Scalar.muli v53 c1_i32_5354
  let v5854 : BitVec 32 := Scalar.addi c0_i32_5355 v5853
  v5854.toNat
def k0_off101 (v5882 : BitVec 32) : Fin 2 → Nat :=
  let c128_i32_5370 : BitVec 32 := 128#32
  let v5883 : BitVec 32 := Scalar.muli v5882 c128_i32_5370
  let v5884 : Index := Scalar.indexCast v5883
  let c0_5371 : Index := 0#32
  ![v5884.toNat, 0]

def k0_chk103 (v5882 : BitVec 32) : Prop :=
  (∀ a, (k0_off101 v5882) a + S128x128.size a ≤ S4096x128.size a)
theorem k0_off101_inb : ∀ (v5882 : BitVec 32) (k0_hw103 : k0_chk103 v5882), ∀ a, (k0_off101 v5882) a + S128x128.size a ≤ S4096x128.size a := fun v5882 k0_hw103 => k0_hw103

def k0_dev197 (v34 : BitVec 32) : Nat :=
  let c0_i32_5396 : BitVec 32 := 0#32
  let c1_i32_5395 : BitVec 32 := 1#32
  let v5904 : BitVec 32 := Scalar.muli v34 c1_i32_5395
  let v5905 : BitVec 32 := Scalar.addi c0_i32_5396 v5904
  v5905.toNat
def k0_dev198 (v53 : BitVec 32) : Nat :=
  let c0_i32_5410 : BitVec 32 := 0#32
  let c1_i32_5409 : BitVec 32 := 1#32
  let v5912 : BitVec 32 := Scalar.muli v53 c1_i32_5409
  let v5913 : BitVec 32 := Scalar.addi c0_i32_5410 v5912
  v5913.toNat
def k0_off102 (v5941 : BitVec 32) : Fin 2 → Nat :=
  let c128_i32_5425 : BitVec 32 := 128#32
  let v5942 : BitVec 32 := Scalar.muli v5941 c128_i32_5425
  let v5943 : Index := Scalar.indexCast v5942
  let c0_5426 : Index := 0#32
  ![v5943.toNat, 0]

def k0_chk104 (v5941 : BitVec 32) : Prop :=
  (∀ a, (k0_off102 v5941) a + S128x128.size a ≤ S4096x128.size a)
theorem k0_off102_inb : ∀ (v5941 : BitVec 32) (k0_hw104 : k0_chk104 v5941), ∀ a, (k0_off102 v5941) a + S128x128.size a ≤ S4096x128.size a := fun v5941 k0_hw104 => k0_hw104

def k0_dev199 (v53 : BitVec 32) : Nat :=
  let c0_i32_5451 : BitVec 32 := 0#32
  let c1_i32_5450 : BitVec 32 := 1#32
  let v5963 : BitVec 32 := Scalar.muli v53 c1_i32_5450
  let v5964 : BitVec 32 := Scalar.addi c0_i32_5451 v5963
  v5964.toNat
def k0_dev200 (v34 : BitVec 32) : Nat :=
  let c0_i32_5465 : BitVec 32 := 0#32
  let c1_i32_5464 : BitVec 32 := 1#32
  let v5971 : BitVec 32 := Scalar.muli v34 c1_i32_5464
  let v5972 : BitVec 32 := Scalar.addi c0_i32_5465 v5971
  v5972.toNat
def k0_off103 (v6000 : BitVec 32) : Fin 2 → Nat :=
  let c128_i32_5479 : BitVec 32 := 128#32
  let v6001 : BitVec 32 := Scalar.muli v6000 c128_i32_5479
  let v6002 : Index := Scalar.indexCast v6001
  let c0_5480 : Index := 0#32
  ![v6002.toNat, 0]

def k0_chk105 (v6000 : BitVec 32) : Prop :=
  (∀ a, (k0_off103 v6000) a + S128x128.size a ≤ S4096x128.size a)
theorem k0_off103_inb : ∀ (v6000 : BitVec 32) (k0_hw105 : k0_chk105 v6000), ∀ a, (k0_off103 v6000) a + S128x128.size a ≤ S4096x128.size a := fun v6000 k0_hw105 => k0_hw105

def k0_dev201 (v53 : BitVec 32) : Nat :=
  let c0_i32_5505 : BitVec 32 := 0#32
  let c1_i32_5504 : BitVec 32 := 1#32
  let v6022 : BitVec 32 := Scalar.muli v53 c1_i32_5504
  let v6023 : BitVec 32 := Scalar.addi c0_i32_5505 v6022
  v6023.toNat
def k0_dev202 (v34 : BitVec 32) : Nat :=
  let c0_i32_5519 : BitVec 32 := 0#32
  let c1_i32_5518 : BitVec 32 := 1#32
  let v6030 : BitVec 32 := Scalar.muli v34 c1_i32_5518
  let v6031 : BitVec 32 := Scalar.addi c0_i32_5519 v6030
  v6031.toNat
def k0_off104 (v6059 : BitVec 32) : Fin 2 → Nat :=
  let c128_i32_5534 : BitVec 32 := 128#32
  let v6060 : BitVec 32 := Scalar.muli v6059 c128_i32_5534
  let v6061 : Index := Scalar.indexCast v6060
  let c0_5535 : Index := 0#32
  ![v6061.toNat, 0]

def k0_chk106 (v6059 : BitVec 32) : Prop :=
  (∀ a, (k0_off104 v6059) a + S128x128.size a ≤ S4096x128.size a)
theorem k0_off104_inb : ∀ (v6059 : BitVec 32) (k0_hw106 : k0_chk106 v6059), ∀ a, (k0_off104 v6059) a + S128x128.size a ≤ S4096x128.size a := fun v6059 k0_hw106 => k0_hw106

def k0_dev203 (v34 : BitVec 32) : Nat :=
  let c0_i32_5560 : BitVec 32 := 0#32
  let c1_i32_5559 : BitVec 32 := 1#32
  let v6081 : BitVec 32 := Scalar.muli v34 c1_i32_5559
  let v6082 : BitVec 32 := Scalar.addi c0_i32_5560 v6081
  v6082.toNat
def k0_dev204 (v53 : BitVec 32) : Nat :=
  let c0_i32_5574 : BitVec 32 := 0#32
  let c1_i32_5573 : BitVec 32 := 1#32
  let v6089 : BitVec 32 := Scalar.muli v53 c1_i32_5573
  let v6090 : BitVec 32 := Scalar.addi c0_i32_5574 v6089
  v6090.toNat
def k0_off105 (v6118 : BitVec 32) : Fin 2 → Nat :=
  let c128_i32_5589 : BitVec 32 := 128#32
  let v6119 : BitVec 32 := Scalar.muli v6118 c128_i32_5589
  let v6120 : Index := Scalar.indexCast v6119
  let c0_5590 : Index := 0#32
  ![v6120.toNat, 0]

def k0_chk107 (v6118 : BitVec 32) : Prop :=
  (∀ a, (k0_off105 v6118) a + S128x128.size a ≤ S4096x128.size a)
theorem k0_off105_inb : ∀ (v6118 : BitVec 32) (k0_hw107 : k0_chk107 v6118), ∀ a, (k0_off105 v6118) a + S128x128.size a ≤ S4096x128.size a := fun v6118 k0_hw107 => k0_hw107

def k0_dev205 (v34 : BitVec 32) : Nat :=
  let c0_i32_5615 : BitVec 32 := 0#32
  let c1_i32_5614 : BitVec 32 := 1#32
  let v6140 : BitVec 32 := Scalar.muli v34 c1_i32_5614
  let v6141 : BitVec 32 := Scalar.addi c0_i32_5615 v6140
  v6141.toNat
def k0_dev206 (v53 : BitVec 32) : Nat :=
  let c0_i32_5629 : BitVec 32 := 0#32
  let c1_i32_5628 : BitVec 32 := 1#32
  let v6148 : BitVec 32 := Scalar.muli v53 c1_i32_5628
  let v6149 : BitVec 32 := Scalar.addi c0_i32_5629 v6148
  v6149.toNat
def k0_off106 (v6177 : BitVec 32) : Fin 2 → Nat :=
  let c128_i32_5644 : BitVec 32 := 128#32
  let v6178 : BitVec 32 := Scalar.muli v6177 c128_i32_5644
  let v6179 : Index := Scalar.indexCast v6178
  let c0_5645 : Index := 0#32
  ![v6179.toNat, 0]

def k0_chk108 (v6177 : BitVec 32) : Prop :=
  (∀ a, (k0_off106 v6177) a + S128x128.size a ≤ S4096x128.size a)
theorem k0_off106_inb : ∀ (v6177 : BitVec 32) (k0_hw108 : k0_chk108 v6177), ∀ a, (k0_off106 v6177) a + S128x128.size a ≤ S4096x128.size a := fun v6177 k0_hw108 => k0_hw108

def k0_dev207 (v53 : BitVec 32) : Nat :=
  let c0_i32_5670 : BitVec 32 := 0#32
  let c1_i32_5669 : BitVec 32 := 1#32
  let v6199 : BitVec 32 := Scalar.muli v53 c1_i32_5669
  let v6200 : BitVec 32 := Scalar.addi c0_i32_5670 v6199
  v6200.toNat
def k0_dev208 (v34 : BitVec 32) : Nat :=
  let c0_i32_5684 : BitVec 32 := 0#32
  let c1_i32_5683 : BitVec 32 := 1#32
  let v6207 : BitVec 32 := Scalar.muli v34 c1_i32_5683
  let v6208 : BitVec 32 := Scalar.addi c0_i32_5684 v6207
  v6208.toNat
def k0_off107 (v6236 : BitVec 32) : Fin 2 → Nat :=
  let c128_i32_5698 : BitVec 32 := 128#32
  let v6237 : BitVec 32 := Scalar.muli v6236 c128_i32_5698
  let v6238 : Index := Scalar.indexCast v6237
  let c0_5699 : Index := 0#32
  ![v6238.toNat, 0]

def k0_chk109 (v6236 : BitVec 32) : Prop :=
  (∀ a, (k0_off107 v6236) a + S128x128.size a ≤ S4096x128.size a)
theorem k0_off107_inb : ∀ (v6236 : BitVec 32) (k0_hw109 : k0_chk109 v6236), ∀ a, (k0_off107 v6236) a + S128x128.size a ≤ S4096x128.size a := fun v6236 k0_hw109 => k0_hw109

def k0_dev209 (v53 : BitVec 32) : Nat :=
  let c0_i32_5724 : BitVec 32 := 0#32
  let c1_i32_5723 : BitVec 32 := 1#32
  let v6258 : BitVec 32 := Scalar.muli v53 c1_i32_5723
  let v6259 : BitVec 32 := Scalar.addi c0_i32_5724 v6258
  v6259.toNat
def k0_dev210 (v34 : BitVec 32) : Nat :=
  let c0_i32_5738 : BitVec 32 := 0#32
  let c1_i32_5737 : BitVec 32 := 1#32
  let v6266 : BitVec 32 := Scalar.muli v34 c1_i32_5737
  let v6267 : BitVec 32 := Scalar.addi c0_i32_5738 v6266
  v6267.toNat
def k0_off108 (v6295 : BitVec 32) : Fin 2 → Nat :=
  let c128_i32_5753 : BitVec 32 := 128#32
  let v6296 : BitVec 32 := Scalar.muli v6295 c128_i32_5753
  let v6297 : Index := Scalar.indexCast v6296
  let c0_5754 : Index := 0#32
  ![v6297.toNat, 0]

def k0_chk110 (v6295 : BitVec 32) : Prop :=
  (∀ a, (k0_off108 v6295) a + S128x128.size a ≤ S4096x128.size a)
theorem k0_off108_inb : ∀ (v6295 : BitVec 32) (k0_hw110 : k0_chk110 v6295), ∀ a, (k0_off108 v6295) a + S128x128.size a ≤ S4096x128.size a := fun v6295 k0_hw110 => k0_hw110

def k0_dev211 (v34 : BitVec 32) : Nat :=
  let c0_i32_5779 : BitVec 32 := 0#32
  let c1_i32_5778 : BitVec 32 := 1#32
  let v6317 : BitVec 32 := Scalar.muli v34 c1_i32_5778
  let v6318 : BitVec 32 := Scalar.addi c0_i32_5779 v6317
  v6318.toNat
def k0_dev212 (v53 : BitVec 32) : Nat :=
  let c0_i32_5793 : BitVec 32 := 0#32
  let c1_i32_5792 : BitVec 32 := 1#32
  let v6325 : BitVec 32 := Scalar.muli v53 c1_i32_5792
  let v6326 : BitVec 32 := Scalar.addi c0_i32_5793 v6325
  v6326.toNat
def k0_off109 (v6354 : BitVec 32) : Fin 2 → Nat :=
  let c128_i32_5808 : BitVec 32 := 128#32
  let v6355 : BitVec 32 := Scalar.muli v6354 c128_i32_5808
  let v6356 : Index := Scalar.indexCast v6355
  let c0_5809 : Index := 0#32
  ![v6356.toNat, 0]

def k0_chk111 (v6354 : BitVec 32) : Prop :=
  (∀ a, (k0_off109 v6354) a + S128x128.size a ≤ S4096x128.size a)
theorem k0_off109_inb : ∀ (v6354 : BitVec 32) (k0_hw111 : k0_chk111 v6354), ∀ a, (k0_off109 v6354) a + S128x128.size a ≤ S4096x128.size a := fun v6354 k0_hw111 => k0_hw111

def k0_dev213 (v34 : BitVec 32) : Nat :=
  let c0_i32_5834 : BitVec 32 := 0#32
  let c1_i32_5833 : BitVec 32 := 1#32
  let v6376 : BitVec 32 := Scalar.muli v34 c1_i32_5833
  let v6377 : BitVec 32 := Scalar.addi c0_i32_5834 v6376
  v6377.toNat
def k0_dev214 (v53 : BitVec 32) : Nat :=
  let c0_i32_5848 : BitVec 32 := 0#32
  let c1_i32_5847 : BitVec 32 := 1#32
  let v6384 : BitVec 32 := Scalar.muli v53 c1_i32_5847
  let v6385 : BitVec 32 := Scalar.addi c0_i32_5848 v6384
  v6385.toNat
def k0_off110 (v6413 : BitVec 32) : Fin 2 → Nat :=
  let c128_i32_5863 : BitVec 32 := 128#32
  let v6414 : BitVec 32 := Scalar.muli v6413 c128_i32_5863
  let v6415 : Index := Scalar.indexCast v6414
  let c0_5864 : Index := 0#32
  ![v6415.toNat, 0]

def k0_chk112 (v6413 : BitVec 32) : Prop :=
  (∀ a, (k0_off110 v6413) a + S128x128.size a ≤ S4096x128.size a)
theorem k0_off110_inb : ∀ (v6413 : BitVec 32) (k0_hw112 : k0_chk112 v6413), ∀ a, (k0_off110 v6413) a + S128x128.size a ≤ S4096x128.size a := fun v6413 k0_hw112 => k0_hw112

def k0_dev215 (v53 : BitVec 32) : Nat :=
  let c0_i32_5889 : BitVec 32 := 0#32
  let c1_i32_5888 : BitVec 32 := 1#32
  let v6435 : BitVec 32 := Scalar.muli v53 c1_i32_5888
  let v6436 : BitVec 32 := Scalar.addi c0_i32_5889 v6435
  v6436.toNat
def k0_dev216 (v34 : BitVec 32) : Nat :=
  let c0_i32_5903 : BitVec 32 := 0#32
  let c1_i32_5902 : BitVec 32 := 1#32
  let v6443 : BitVec 32 := Scalar.muli v34 c1_i32_5902
  let v6444 : BitVec 32 := Scalar.addi c0_i32_5903 v6443
  v6444.toNat
def k0_off111 (v6472 : BitVec 32) : Fin 2 → Nat :=
  let c128_i32_5917 : BitVec 32 := 128#32
  let v6473 : BitVec 32 := Scalar.muli v6472 c128_i32_5917
  let v6474 : Index := Scalar.indexCast v6473
  let c0_5918 : Index := 0#32
  ![v6474.toNat, 0]

def k0_chk113 (v6472 : BitVec 32) : Prop :=
  (∀ a, (k0_off111 v6472) a + S128x128.size a ≤ S4096x128.size a)
theorem k0_off111_inb : ∀ (v6472 : BitVec 32) (k0_hw113 : k0_chk113 v6472), ∀ a, (k0_off111 v6472) a + S128x128.size a ≤ S4096x128.size a := fun v6472 k0_hw113 => k0_hw113

def k0_dev217 (v53 : BitVec 32) : Nat :=
  let c0_i32_5943 : BitVec 32 := 0#32
  let c1_i32_5942 : BitVec 32 := 1#32
  let v6494 : BitVec 32 := Scalar.muli v53 c1_i32_5942
  let v6495 : BitVec 32 := Scalar.addi c0_i32_5943 v6494
  v6495.toNat
def k0_dev218 (v34 : BitVec 32) : Nat :=
  let c0_i32_5957 : BitVec 32 := 0#32
  let c1_i32_5956 : BitVec 32 := 1#32
  let v6502 : BitVec 32 := Scalar.muli v34 c1_i32_5956
  let v6503 : BitVec 32 := Scalar.addi c0_i32_5957 v6502
  v6503.toNat
def k0_off112 (v6531 : BitVec 32) : Fin 2 → Nat :=
  let c128_i32_5972 : BitVec 32 := 128#32
  let v6532 : BitVec 32 := Scalar.muli v6531 c128_i32_5972
  let v6533 : Index := Scalar.indexCast v6532
  let c0_5973 : Index := 0#32
  ![v6533.toNat, 0]

def k0_chk114 (v6531 : BitVec 32) : Prop :=
  (∀ a, (k0_off112 v6531) a + S128x128.size a ≤ S4096x128.size a)
theorem k0_off112_inb : ∀ (v6531 : BitVec 32) (k0_hw114 : k0_chk114 v6531), ∀ a, (k0_off112 v6531) a + S128x128.size a ≤ S4096x128.size a := fun v6531 k0_hw114 => k0_hw114

def k0_dev219 (v34 : BitVec 32) : Nat :=
  let c0_i32_5998 : BitVec 32 := 0#32
  let c1_i32_5997 : BitVec 32 := 1#32
  let v6553 : BitVec 32 := Scalar.muli v34 c1_i32_5997
  let v6554 : BitVec 32 := Scalar.addi c0_i32_5998 v6553
  v6554.toNat
def k0_dev220 (v53 : BitVec 32) : Nat :=
  let c0_i32_6012 : BitVec 32 := 0#32
  let c1_i32_6011 : BitVec 32 := 1#32
  let v6561 : BitVec 32 := Scalar.muli v53 c1_i32_6011
  let v6562 : BitVec 32 := Scalar.addi c0_i32_6012 v6561
  v6562.toNat
def k0_off113 (v6590 : BitVec 32) : Fin 2 → Nat :=
  let c128_i32_6027 : BitVec 32 := 128#32
  let v6591 : BitVec 32 := Scalar.muli v6590 c128_i32_6027
  let v6592 : Index := Scalar.indexCast v6591
  let c0_6028 : Index := 0#32
  ![v6592.toNat, 0]

def k0_chk115 (v6590 : BitVec 32) : Prop :=
  (∀ a, (k0_off113 v6590) a + S128x128.size a ≤ S4096x128.size a)
theorem k0_off113_inb : ∀ (v6590 : BitVec 32) (k0_hw115 : k0_chk115 v6590), ∀ a, (k0_off113 v6590) a + S128x128.size a ≤ S4096x128.size a := fun v6590 k0_hw115 => k0_hw115

def k0_dev221 (v34 : BitVec 32) : Nat :=
  let c0_i32_6053 : BitVec 32 := 0#32
  let c1_i32_6052 : BitVec 32 := 1#32
  let v6612 : BitVec 32 := Scalar.muli v34 c1_i32_6052
  let v6613 : BitVec 32 := Scalar.addi c0_i32_6053 v6612
  v6613.toNat
def k0_dev222 (v53 : BitVec 32) : Nat :=
  let c0_i32_6067 : BitVec 32 := 0#32
  let c1_i32_6066 : BitVec 32 := 1#32
  let v6620 : BitVec 32 := Scalar.muli v53 c1_i32_6066
  let v6621 : BitVec 32 := Scalar.addi c0_i32_6067 v6620
  v6621.toNat
def k0_off114 (v6649 : BitVec 32) : Fin 2 → Nat :=
  let c128_i32_6082 : BitVec 32 := 128#32
  let v6650 : BitVec 32 := Scalar.muli v6649 c128_i32_6082
  let v6651 : Index := Scalar.indexCast v6650
  let c0_6083 : Index := 0#32
  ![v6651.toNat, 0]

def k0_chk116 (v6649 : BitVec 32) : Prop :=
  (∀ a, (k0_off114 v6649) a + S128x128.size a ≤ S4096x128.size a)
theorem k0_off114_inb : ∀ (v6649 : BitVec 32) (k0_hw116 : k0_chk116 v6649), ∀ a, (k0_off114 v6649) a + S128x128.size a ≤ S4096x128.size a := fun v6649 k0_hw116 => k0_hw116

def k0_dev223 (v53 : BitVec 32) : Nat :=
  let c0_i32_6108 : BitVec 32 := 0#32
  let c1_i32_6107 : BitVec 32 := 1#32
  let v6671 : BitVec 32 := Scalar.muli v53 c1_i32_6107
  let v6672 : BitVec 32 := Scalar.addi c0_i32_6108 v6671
  v6672.toNat
def k0_dev224 (v34 : BitVec 32) : Nat :=
  let c0_i32_6122 : BitVec 32 := 0#32
  let c1_i32_6121 : BitVec 32 := 1#32
  let v6679 : BitVec 32 := Scalar.muli v34 c1_i32_6121
  let v6680 : BitVec 32 := Scalar.addi c0_i32_6122 v6679
  v6680.toNat
def k0_off115 (v6708 : BitVec 32) : Fin 2 → Nat :=
  let c128_i32_6136 : BitVec 32 := 128#32
  let v6709 : BitVec 32 := Scalar.muli v6708 c128_i32_6136
  let v6710 : Index := Scalar.indexCast v6709
  let c0_6137 : Index := 0#32
  ![v6710.toNat, 0]

def k0_chk117 (v6708 : BitVec 32) : Prop :=
  (∀ a, (k0_off115 v6708) a + S128x128.size a ≤ S4096x128.size a)
theorem k0_off115_inb : ∀ (v6708 : BitVec 32) (k0_hw117 : k0_chk117 v6708), ∀ a, (k0_off115 v6708) a + S128x128.size a ≤ S4096x128.size a := fun v6708 k0_hw117 => k0_hw117

def k0_dev225 (v53 : BitVec 32) : Nat :=
  let c0_i32_6162 : BitVec 32 := 0#32
  let c1_i32_6161 : BitVec 32 := 1#32
  let v6730 : BitVec 32 := Scalar.muli v53 c1_i32_6161
  let v6731 : BitVec 32 := Scalar.addi c0_i32_6162 v6730
  v6731.toNat
def k0_dev226 (v34 : BitVec 32) : Nat :=
  let c0_i32_6176 : BitVec 32 := 0#32
  let c1_i32_6175 : BitVec 32 := 1#32
  let v6738 : BitVec 32 := Scalar.muli v34 c1_i32_6175
  let v6739 : BitVec 32 := Scalar.addi c0_i32_6176 v6738
  v6739.toNat
def k0_off116 (v6767 : BitVec 32) : Fin 2 → Nat :=
  let c128_i32_6191 : BitVec 32 := 128#32
  let v6768 : BitVec 32 := Scalar.muli v6767 c128_i32_6191
  let v6769 : Index := Scalar.indexCast v6768
  let c0_6192 : Index := 0#32
  ![v6769.toNat, 0]

def k0_chk118 (v6767 : BitVec 32) : Prop :=
  (∀ a, (k0_off116 v6767) a + S128x128.size a ≤ S4096x128.size a)
theorem k0_off116_inb : ∀ (v6767 : BitVec 32) (k0_hw118 : k0_chk118 v6767), ∀ a, (k0_off116 v6767) a + S128x128.size a ≤ S4096x128.size a := fun v6767 k0_hw118 => k0_hw118

def k0_dev227 (v34 : BitVec 32) : Nat :=
  let c0_i32_6217 : BitVec 32 := 0#32
  let c1_i32_6216 : BitVec 32 := 1#32
  let v6789 : BitVec 32 := Scalar.muli v34 c1_i32_6216
  let v6790 : BitVec 32 := Scalar.addi c0_i32_6217 v6789
  v6790.toNat
def k0_dev228 (v53 : BitVec 32) : Nat :=
  let c0_i32_6231 : BitVec 32 := 0#32
  let c1_i32_6230 : BitVec 32 := 1#32
  let v6797 : BitVec 32 := Scalar.muli v53 c1_i32_6230
  let v6798 : BitVec 32 := Scalar.addi c0_i32_6231 v6797
  v6798.toNat
def k0_off117 (v6826 : BitVec 32) : Fin 2 → Nat :=
  let c128_i32_6246 : BitVec 32 := 128#32
  let v6827 : BitVec 32 := Scalar.muli v6826 c128_i32_6246
  let v6828 : Index := Scalar.indexCast v6827
  let c0_6247 : Index := 0#32
  ![v6828.toNat, 0]

def k0_chk119 (v6826 : BitVec 32) : Prop :=
  (∀ a, (k0_off117 v6826) a + S128x128.size a ≤ S4096x128.size a)
theorem k0_off117_inb : ∀ (v6826 : BitVec 32) (k0_hw119 : k0_chk119 v6826), ∀ a, (k0_off117 v6826) a + S128x128.size a ≤ S4096x128.size a := fun v6826 k0_hw119 => k0_hw119

def k0_dev229 (v34 : BitVec 32) : Nat :=
  let c0_i32_6272 : BitVec 32 := 0#32
  let c1_i32_6271 : BitVec 32 := 1#32
  let v6848 : BitVec 32 := Scalar.muli v34 c1_i32_6271
  let v6849 : BitVec 32 := Scalar.addi c0_i32_6272 v6848
  v6849.toNat
def k0_dev230 (v53 : BitVec 32) : Nat :=
  let c0_i32_6286 : BitVec 32 := 0#32
  let c1_i32_6285 : BitVec 32 := 1#32
  let v6856 : BitVec 32 := Scalar.muli v53 c1_i32_6285
  let v6857 : BitVec 32 := Scalar.addi c0_i32_6286 v6856
  v6857.toNat
def k0_off118 (v6885 : BitVec 32) : Fin 2 → Nat :=
  let c128_i32_6301 : BitVec 32 := 128#32
  let v6886 : BitVec 32 := Scalar.muli v6885 c128_i32_6301
  let v6887 : Index := Scalar.indexCast v6886
  let c0_6302 : Index := 0#32
  ![v6887.toNat, 0]

def k0_chk120 (v6885 : BitVec 32) : Prop :=
  (∀ a, (k0_off118 v6885) a + S128x128.size a ≤ S4096x128.size a)
theorem k0_off118_inb : ∀ (v6885 : BitVec 32) (k0_hw120 : k0_chk120 v6885), ∀ a, (k0_off118 v6885) a + S128x128.size a ≤ S4096x128.size a := fun v6885 k0_hw120 => k0_hw120

def k0_dev231 (v53 : BitVec 32) : Nat :=
  let c0_i32_6327 : BitVec 32 := 0#32
  let c1_i32_6326 : BitVec 32 := 1#32
  let v6907 : BitVec 32 := Scalar.muli v53 c1_i32_6326
  let v6908 : BitVec 32 := Scalar.addi c0_i32_6327 v6907
  v6908.toNat
def k0_dev232 (v34 : BitVec 32) : Nat :=
  let c0_i32_6341 : BitVec 32 := 0#32
  let c1_i32_6340 : BitVec 32 := 1#32
  let v6915 : BitVec 32 := Scalar.muli v34 c1_i32_6340
  let v6916 : BitVec 32 := Scalar.addi c0_i32_6341 v6915
  v6916.toNat
def k0_off119 (v6944 : BitVec 32) : Fin 2 → Nat :=
  let c128_i32_6355 : BitVec 32 := 128#32
  let v6945 : BitVec 32 := Scalar.muli v6944 c128_i32_6355
  let v6946 : Index := Scalar.indexCast v6945
  let c0_6356 : Index := 0#32
  ![v6946.toNat, 0]

def k0_chk121 (v6944 : BitVec 32) : Prop :=
  (∀ a, (k0_off119 v6944) a + S128x128.size a ≤ S4096x128.size a)
theorem k0_off119_inb : ∀ (v6944 : BitVec 32) (k0_hw121 : k0_chk121 v6944), ∀ a, (k0_off119 v6944) a + S128x128.size a ≤ S4096x128.size a := fun v6944 k0_hw121 => k0_hw121

def k0_dev233 (v53 : BitVec 32) : Nat :=
  let c0_i32_6381 : BitVec 32 := 0#32
  let c1_i32_6380 : BitVec 32 := 1#32
  let v6966 : BitVec 32 := Scalar.muli v53 c1_i32_6380
  let v6967 : BitVec 32 := Scalar.addi c0_i32_6381 v6966
  v6967.toNat
def k0_dev234 (v34 : BitVec 32) : Nat :=
  let c0_i32_6395 : BitVec 32 := 0#32
  let c1_i32_6394 : BitVec 32 := 1#32
  let v6974 : BitVec 32 := Scalar.muli v34 c1_i32_6394
  let v6975 : BitVec 32 := Scalar.addi c0_i32_6395 v6974
  v6975.toNat
def k0_off120 (v7003 : BitVec 32) : Fin 2 → Nat :=
  let c128_i32_6410 : BitVec 32 := 128#32
  let v7004 : BitVec 32 := Scalar.muli v7003 c128_i32_6410
  let v7005 : Index := Scalar.indexCast v7004
  let c0_6411 : Index := 0#32
  ![v7005.toNat, 0]

def k0_chk122 (v7003 : BitVec 32) : Prop :=
  (∀ a, (k0_off120 v7003) a + S128x128.size a ≤ S4096x128.size a)
theorem k0_off120_inb : ∀ (v7003 : BitVec 32) (k0_hw122 : k0_chk122 v7003), ∀ a, (k0_off120 v7003) a + S128x128.size a ≤ S4096x128.size a := fun v7003 k0_hw122 => k0_hw122

def k0_dev235 (v34 : BitVec 32) : Nat :=
  let c0_i32_6436 : BitVec 32 := 0#32
  let c1_i32_6435 : BitVec 32 := 1#32
  let v7025 : BitVec 32 := Scalar.muli v34 c1_i32_6435
  let v7026 : BitVec 32 := Scalar.addi c0_i32_6436 v7025
  v7026.toNat
def k0_dev236 (v53 : BitVec 32) : Nat :=
  let c0_i32_6450 : BitVec 32 := 0#32
  let c1_i32_6449 : BitVec 32 := 1#32
  let v7033 : BitVec 32 := Scalar.muli v53 c1_i32_6449
  let v7034 : BitVec 32 := Scalar.addi c0_i32_6450 v7033
  v7034.toNat
def k0_off121 (v7062 : BitVec 32) : Fin 2 → Nat :=
  let c128_i32_6465 : BitVec 32 := 128#32
  let v7063 : BitVec 32 := Scalar.muli v7062 c128_i32_6465
  let v7064 : Index := Scalar.indexCast v7063
  let c0_6466 : Index := 0#32
  ![v7064.toNat, 0]

def k0_chk123 (v7062 : BitVec 32) : Prop :=
  (∀ a, (k0_off121 v7062) a + S128x128.size a ≤ S4096x128.size a)
theorem k0_off121_inb : ∀ (v7062 : BitVec 32) (k0_hw123 : k0_chk123 v7062), ∀ a, (k0_off121 v7062) a + S128x128.size a ≤ S4096x128.size a := fun v7062 k0_hw123 => k0_hw123

def k0_dev237 (v34 : BitVec 32) : Nat :=
  let c0_i32_6491 : BitVec 32 := 0#32
  let c1_i32_6490 : BitVec 32 := 1#32
  let v7084 : BitVec 32 := Scalar.muli v34 c1_i32_6490
  let v7085 : BitVec 32 := Scalar.addi c0_i32_6491 v7084
  v7085.toNat
def k0_dev238 (v53 : BitVec 32) : Nat :=
  let c0_i32_6505 : BitVec 32 := 0#32
  let c1_i32_6504 : BitVec 32 := 1#32
  let v7092 : BitVec 32 := Scalar.muli v53 c1_i32_6504
  let v7093 : BitVec 32 := Scalar.addi c0_i32_6505 v7092
  v7093.toNat
def k0_off122 (v7121 : BitVec 32) : Fin 2 → Nat :=
  let c128_i32_6520 : BitVec 32 := 128#32
  let v7122 : BitVec 32 := Scalar.muli v7121 c128_i32_6520
  let v7123 : Index := Scalar.indexCast v7122
  let c0_6521 : Index := 0#32
  ![v7123.toNat, 0]

def k0_chk124 (v7121 : BitVec 32) : Prop :=
  (∀ a, (k0_off122 v7121) a + S128x128.size a ≤ S4096x128.size a)
theorem k0_off122_inb : ∀ (v7121 : BitVec 32) (k0_hw124 : k0_chk124 v7121), ∀ a, (k0_off122 v7121) a + S128x128.size a ≤ S4096x128.size a := fun v7121 k0_hw124 => k0_hw124

def k0_dev239 (v53 : BitVec 32) : Nat :=
  let c0_i32_6546 : BitVec 32 := 0#32
  let c1_i32_6545 : BitVec 32 := 1#32
  let v7143 : BitVec 32 := Scalar.muli v53 c1_i32_6545
  let v7144 : BitVec 32 := Scalar.addi c0_i32_6546 v7143
  v7144.toNat
def k0_dev240 (v34 : BitVec 32) : Nat :=
  let c0_i32_6560 : BitVec 32 := 0#32
  let c1_i32_6559 : BitVec 32 := 1#32
  let v7151 : BitVec 32 := Scalar.muli v34 c1_i32_6559
  let v7152 : BitVec 32 := Scalar.addi c0_i32_6560 v7151
  v7152.toNat
def k0_off123 (v7180 : BitVec 32) : Fin 2 → Nat :=
  let c128_i32_6574 : BitVec 32 := 128#32
  let v7181 : BitVec 32 := Scalar.muli v7180 c128_i32_6574
  let v7182 : Index := Scalar.indexCast v7181
  let c0_6575 : Index := 0#32
  ![v7182.toNat, 0]

def k0_chk125 (v7180 : BitVec 32) : Prop :=
  (∀ a, (k0_off123 v7180) a + S128x128.size a ≤ S4096x128.size a)
theorem k0_off123_inb : ∀ (v7180 : BitVec 32) (k0_hw125 : k0_chk125 v7180), ∀ a, (k0_off123 v7180) a + S128x128.size a ≤ S4096x128.size a := fun v7180 k0_hw125 => k0_hw125

def k0_dev241 (v53 : BitVec 32) : Nat :=
  let c0_i32_6600 : BitVec 32 := 0#32
  let c1_i32_6599 : BitVec 32 := 1#32
  let v7202 : BitVec 32 := Scalar.muli v53 c1_i32_6599
  let v7203 : BitVec 32 := Scalar.addi c0_i32_6600 v7202
  v7203.toNat
def k0_dev242 (v34 : BitVec 32) : Nat :=
  let c0_i32_6614 : BitVec 32 := 0#32
  let c1_i32_6613 : BitVec 32 := 1#32
  let v7210 : BitVec 32 := Scalar.muli v34 c1_i32_6613
  let v7211 : BitVec 32 := Scalar.addi c0_i32_6614 v7210
  v7211.toNat
def k0_off124 (v7239 : BitVec 32) : Fin 2 → Nat :=
  let c128_i32_6629 : BitVec 32 := 128#32
  let v7240 : BitVec 32 := Scalar.muli v7239 c128_i32_6629
  let v7241 : Index := Scalar.indexCast v7240
  let c0_6630 : Index := 0#32
  ![v7241.toNat, 0]

def k0_chk126 (v7239 : BitVec 32) : Prop :=
  (∀ a, (k0_off124 v7239) a + S128x128.size a ≤ S4096x128.size a)
theorem k0_off124_inb : ∀ (v7239 : BitVec 32) (k0_hw126 : k0_chk126 v7239), ∀ a, (k0_off124 v7239) a + S128x128.size a ≤ S4096x128.size a := fun v7239 k0_hw126 => k0_hw126

def k0_dev243 (v34 : BitVec 32) : Nat :=
  let c0_i32_6655 : BitVec 32 := 0#32
  let c1_i32_6654 : BitVec 32 := 1#32
  let v7261 : BitVec 32 := Scalar.muli v34 c1_i32_6654
  let v7262 : BitVec 32 := Scalar.addi c0_i32_6655 v7261
  v7262.toNat
def k0_dev244 (v53 : BitVec 32) : Nat :=
  let c0_i32_6669 : BitVec 32 := 0#32
  let c1_i32_6668 : BitVec 32 := 1#32
  let v7269 : BitVec 32 := Scalar.muli v53 c1_i32_6668
  let v7270 : BitVec 32 := Scalar.addi c0_i32_6669 v7269
  v7270.toNat
def k0_off125 (v7298 : BitVec 32) : Fin 2 → Nat :=
  let c128_i32_6684 : BitVec 32 := 128#32
  let v7299 : BitVec 32 := Scalar.muli v7298 c128_i32_6684
  let v7300 : Index := Scalar.indexCast v7299
  let c0_6685 : Index := 0#32
  ![v7300.toNat, 0]

def k0_chk127 (v7298 : BitVec 32) : Prop :=
  (∀ a, (k0_off125 v7298) a + S128x128.size a ≤ S4096x128.size a)
theorem k0_off125_inb : ∀ (v7298 : BitVec 32) (k0_hw127 : k0_chk127 v7298), ∀ a, (k0_off125 v7298) a + S128x128.size a ≤ S4096x128.size a := fun v7298 k0_hw127 => k0_hw127

def k0_dev245 (v34 : BitVec 32) : Nat :=
  let c0_i32_6710 : BitVec 32 := 0#32
  let c1_i32_6709 : BitVec 32 := 1#32
  let v7320 : BitVec 32 := Scalar.muli v34 c1_i32_6709
  let v7321 : BitVec 32 := Scalar.addi c0_i32_6710 v7320
  v7321.toNat

def k0_chk2_0 (v34 : BitVec 32) : Prop :=
  ((k0_dev2 v34) < nD) ∧
  ((k0_dev3 v34) < nD) ∧
  ((k0_dev4 v34) < nD) ∧
  ((k0_dev8 v34) < nD) ∧
  ((k0_dev10 v34) < nD) ∧
  ((k0_dev11 v34) < nD) ∧
  ((k0_dev13 v34) < nD) ∧
  ((k0_dev16 v34) < nD) ∧
  ((k0_dev18 v34) < nD) ∧
  ((k0_dev19 v34) < nD) ∧
  ((k0_dev21 v34) < nD) ∧
  ((k0_dev24 v34) < nD) ∧
  ((k0_dev26 v34) < nD) ∧
  ((k0_dev27 v34) < nD) ∧
  ((k0_dev29 v34) < nD) ∧
  ((k0_dev32 v34) < nD) ∧
  ((k0_dev34 v34) < nD) ∧
  ((k0_dev35 v34) < nD) ∧
  ((k0_dev37 v34) < nD) ∧
  ((k0_dev40 v34) < nD) ∧
  ((k0_dev42 v34) < nD) ∧
  ((k0_dev43 v34) < nD) ∧
  ((k0_dev45 v34) < nD) ∧
  ((k0_dev48 v34) < nD) ∧
  ((k0_dev50 v34) < nD) ∧
  ((k0_dev51 v34) < nD) ∧
  ((k0_dev53 v34) < nD) ∧
  ((k0_dev56 v34) < nD) ∧
  ((k0_dev58 v34) < nD) ∧
  ((k0_dev59 v34) < nD) ∧
  ((k0_dev61 v34) < nD) ∧
  ((k0_dev64 v34) < nD)
def k0_chk2_1 (v34 : BitVec 32) : Prop :=
  ((k0_dev66 v34) < nD) ∧
  ((k0_dev67 v34) < nD) ∧
  ((k0_dev69 v34) < nD) ∧
  ((k0_dev72 v34) < nD) ∧
  ((k0_dev74 v34) < nD) ∧
  ((k0_dev75 v34) < nD) ∧
  ((k0_dev77 v34) < nD) ∧
  ((k0_dev80 v34) < nD) ∧
  ((k0_dev82 v34) < nD) ∧
  ((k0_dev83 v34) < nD) ∧
  ((k0_dev85 v34) < nD) ∧
  ((k0_dev88 v34) < nD) ∧
  ((k0_dev90 v34) < nD) ∧
  ((k0_dev91 v34) < nD) ∧
  ((k0_dev93 v34) < nD) ∧
  ((k0_dev96 v34) < nD) ∧
  ((k0_dev98 v34) < nD) ∧
  ((k0_dev99 v34) < nD) ∧
  ((k0_dev101 v34) < nD) ∧
  ((k0_dev104 v34) < nD) ∧
  ((k0_dev106 v34) < nD) ∧
  ((k0_dev107 v34) < nD) ∧
  ((k0_dev109 v34) < nD) ∧
  ((k0_dev112 v34) < nD) ∧
  ((k0_dev114 v34) < nD) ∧
  ((k0_dev115 v34) < nD) ∧
  ((k0_dev117 v34) < nD) ∧
  ((k0_dev120 v34) < nD) ∧
  ((k0_dev122 v34) < nD) ∧
  ((k0_dev123 v34) < nD) ∧
  ((k0_dev125 v34) < nD) ∧
  ((k0_dev128 v34) < nD)
def k0_chk2_2 (v34 : BitVec 32) : Prop :=
  ((k0_dev130 v34) < nD) ∧
  ((k0_dev131 v34) < nD) ∧
  ((k0_dev133 v34) < nD) ∧
  ((k0_dev136 v34) < nD) ∧
  ((k0_dev138 v34) < nD) ∧
  ((k0_dev139 v34) < nD) ∧
  ((k0_dev141 v34) < nD) ∧
  ((k0_dev144 v34) < nD) ∧
  ((k0_dev146 v34) < nD) ∧
  ((k0_dev147 v34) < nD) ∧
  ((k0_dev149 v34) < nD) ∧
  ((k0_dev152 v34) < nD) ∧
  ((k0_dev154 v34) < nD) ∧
  ((k0_dev155 v34) < nD) ∧
  ((k0_dev157 v34) < nD) ∧
  ((k0_dev160 v34) < nD) ∧
  ((k0_dev162 v34) < nD) ∧
  ((k0_dev163 v34) < nD) ∧
  ((k0_dev165 v34) < nD) ∧
  ((k0_dev168 v34) < nD) ∧
  ((k0_dev170 v34) < nD) ∧
  ((k0_dev171 v34) < nD) ∧
  ((k0_dev173 v34) < nD) ∧
  ((k0_dev176 v34) < nD) ∧
  ((k0_dev178 v34) < nD) ∧
  ((k0_dev179 v34) < nD) ∧
  ((k0_dev181 v34) < nD) ∧
  ((k0_dev184 v34) < nD) ∧
  ((k0_dev186 v34) < nD) ∧
  ((k0_dev187 v34) < nD) ∧
  ((k0_dev189 v34) < nD) ∧
  ((k0_dev192 v34) < nD)
def k0_chk2_3 (v34 : BitVec 32) : Prop :=
  ((k0_dev194 v34) < nD) ∧
  ((k0_dev195 v34) < nD) ∧
  ((k0_dev197 v34) < nD) ∧
  ((k0_dev200 v34) < nD) ∧
  ((k0_dev202 v34) < nD) ∧
  ((k0_dev203 v34) < nD) ∧
  ((k0_dev205 v34) < nD) ∧
  ((k0_dev208 v34) < nD) ∧
  ((k0_dev210 v34) < nD) ∧
  ((k0_dev211 v34) < nD) ∧
  ((k0_dev213 v34) < nD) ∧
  ((k0_dev216 v34) < nD) ∧
  ((k0_dev218 v34) < nD) ∧
  ((k0_dev219 v34) < nD) ∧
  ((k0_dev221 v34) < nD) ∧
  ((k0_dev224 v34) < nD) ∧
  ((k0_dev226 v34) < nD) ∧
  ((k0_dev227 v34) < nD) ∧
  ((k0_dev229 v34) < nD) ∧
  ((k0_dev232 v34) < nD) ∧
  ((k0_dev234 v34) < nD) ∧
  ((k0_dev235 v34) < nD) ∧
  ((k0_dev237 v34) < nD) ∧
  ((k0_dev240 v34) < nD) ∧
  ((k0_dev242 v34) < nD) ∧
  ((k0_dev243 v34) < nD) ∧
  ((k0_dev245 v34) < nD)
def k0_chk2 (v34 : BitVec 32) : Prop :=
  k0_chk2_0 v34 ∧
  k0_chk2_1 v34 ∧
  k0_chk2_2 v34 ∧
  k0_chk2_3 v34
theorem k0_dev2_lt : ∀ (v34 : BitVec 32) (k0_hw2 : k0_chk2 v34), (k0_dev2 v34) < nD := fun v34 k0_hw2 => k0_hw2.1.1
theorem k0_dev3_lt : ∀ (v34 : BitVec 32) (k0_hw2 : k0_chk2 v34), (k0_dev3 v34) < nD := fun v34 k0_hw2 => k0_hw2.1.2.1
theorem k0_dev4_lt : ∀ (v34 : BitVec 32) (k0_hw2 : k0_chk2 v34), (k0_dev4 v34) < nD := fun v34 k0_hw2 => k0_hw2.1.2.2.1
theorem k0_dev8_lt : ∀ (v34 : BitVec 32) (k0_hw2 : k0_chk2 v34), (k0_dev8 v34) < nD := fun v34 k0_hw2 => k0_hw2.1.2.2.2.1
theorem k0_dev10_lt : ∀ (v34 : BitVec 32) (k0_hw2 : k0_chk2 v34), (k0_dev10 v34) < nD := fun v34 k0_hw2 => k0_hw2.1.2.2.2.2.1
theorem k0_dev11_lt : ∀ (v34 : BitVec 32) (k0_hw2 : k0_chk2 v34), (k0_dev11 v34) < nD := fun v34 k0_hw2 => k0_hw2.1.2.2.2.2.2.1
theorem k0_dev13_lt : ∀ (v34 : BitVec 32) (k0_hw2 : k0_chk2 v34), (k0_dev13 v34) < nD := fun v34 k0_hw2 => k0_hw2.1.2.2.2.2.2.2.1
theorem k0_dev16_lt : ∀ (v34 : BitVec 32) (k0_hw2 : k0_chk2 v34), (k0_dev16 v34) < nD := fun v34 k0_hw2 => k0_hw2.1.2.2.2.2.2.2.2.1
theorem k0_dev18_lt : ∀ (v34 : BitVec 32) (k0_hw2 : k0_chk2 v34), (k0_dev18 v34) < nD := fun v34 k0_hw2 => k0_hw2.1.2.2.2.2.2.2.2.2.1
theorem k0_dev19_lt : ∀ (v34 : BitVec 32) (k0_hw2 : k0_chk2 v34), (k0_dev19 v34) < nD := fun v34 k0_hw2 => k0_hw2.1.2.2.2.2.2.2.2.2.2.1
theorem k0_dev21_lt : ∀ (v34 : BitVec 32) (k0_hw2 : k0_chk2 v34), (k0_dev21 v34) < nD := fun v34 k0_hw2 => k0_hw2.1.2.2.2.2.2.2.2.2.2.2.1
theorem k0_dev24_lt : ∀ (v34 : BitVec 32) (k0_hw2 : k0_chk2 v34), (k0_dev24 v34) < nD := fun v34 k0_hw2 => k0_hw2.1.2.2.2.2.2.2.2.2.2.2.2.1
theorem k0_dev26_lt : ∀ (v34 : BitVec 32) (k0_hw2 : k0_chk2 v34), (k0_dev26 v34) < nD := fun v34 k0_hw2 => k0_hw2.1.2.2.2.2.2.2.2.2.2.2.2.2.1
theorem k0_dev27_lt : ∀ (v34 : BitVec 32) (k0_hw2 : k0_chk2 v34), (k0_dev27 v34) < nD := fun v34 k0_hw2 => k0_hw2.1.2.2.2.2.2.2.2.2.2.2.2.2.2.1
theorem k0_dev29_lt : ∀ (v34 : BitVec 32) (k0_hw2 : k0_chk2 v34), (k0_dev29 v34) < nD := fun v34 k0_hw2 => k0_hw2.1.2.2.2.2.2.2.2.2.2.2.2.2.2.2.1
theorem k0_dev32_lt : ∀ (v34 : BitVec 32) (k0_hw2 : k0_chk2 v34), (k0_dev32 v34) < nD := fun v34 k0_hw2 => k0_hw2.1.2.2.2.2.2.2.2.2.2.2.2.2.2.2.2.1
theorem k0_dev34_lt : ∀ (v34 : BitVec 32) (k0_hw2 : k0_chk2 v34), (k0_dev34 v34) < nD := fun v34 k0_hw2 => k0_hw2.1.2.2.2.2.2.2.2.2.2.2.2.2.2.2.2.2.1
theorem k0_dev35_lt : ∀ (v34 : BitVec 32) (k0_hw2 : k0_chk2 v34), (k0_dev35 v34) < nD := fun v34 k0_hw2 => k0_hw2.1.2.2.2.2.2.2.2.2.2.2.2.2.2.2.2.2.2.1
theorem k0_dev37_lt : ∀ (v34 : BitVec 32) (k0_hw2 : k0_chk2 v34), (k0_dev37 v34) < nD := fun v34 k0_hw2 => k0_hw2.1.2.2.2.2.2.2.2.2.2.2.2.2.2.2.2.2.2.2.1
theorem k0_dev40_lt : ∀ (v34 : BitVec 32) (k0_hw2 : k0_chk2 v34), (k0_dev40 v34) < nD := fun v34 k0_hw2 => k0_hw2.1.2.2.2.2.2.2.2.2.2.2.2.2.2.2.2.2.2.2.2.1
theorem k0_dev42_lt : ∀ (v34 : BitVec 32) (k0_hw2 : k0_chk2 v34), (k0_dev42 v34) < nD := fun v34 k0_hw2 => k0_hw2.1.2.2.2.2.2.2.2.2.2.2.2.2.2.2.2.2.2.2.2.2.1
theorem k0_dev43_lt : ∀ (v34 : BitVec 32) (k0_hw2 : k0_chk2 v34), (k0_dev43 v34) < nD := fun v34 k0_hw2 => k0_hw2.1.2.2.2.2.2.2.2.2.2.2.2.2.2.2.2.2.2.2.2.2.2.1
theorem k0_dev45_lt : ∀ (v34 : BitVec 32) (k0_hw2 : k0_chk2 v34), (k0_dev45 v34) < nD := fun v34 k0_hw2 => k0_hw2.1.2.2.2.2.2.2.2.2.2.2.2.2.2.2.2.2.2.2.2.2.2.2.1
theorem k0_dev48_lt : ∀ (v34 : BitVec 32) (k0_hw2 : k0_chk2 v34), (k0_dev48 v34) < nD := fun v34 k0_hw2 => k0_hw2.1.2.2.2.2.2.2.2.2.2.2.2.2.2.2.2.2.2.2.2.2.2.2.2.1
theorem k0_dev50_lt : ∀ (v34 : BitVec 32) (k0_hw2 : k0_chk2 v34), (k0_dev50 v34) < nD := fun v34 k0_hw2 => k0_hw2.1.2.2.2.2.2.2.2.2.2.2.2.2.2.2.2.2.2.2.2.2.2.2.2.2.1
theorem k0_dev51_lt : ∀ (v34 : BitVec 32) (k0_hw2 : k0_chk2 v34), (k0_dev51 v34) < nD := fun v34 k0_hw2 => k0_hw2.1.2.2.2.2.2.2.2.2.2.2.2.2.2.2.2.2.2.2.2.2.2.2.2.2.2.1
theorem k0_dev53_lt : ∀ (v34 : BitVec 32) (k0_hw2 : k0_chk2 v34), (k0_dev53 v34) < nD := fun v34 k0_hw2 => k0_hw2.1.2.2.2.2.2.2.2.2.2.2.2.2.2.2.2.2.2.2.2.2.2.2.2.2.2.2.1
theorem k0_dev56_lt : ∀ (v34 : BitVec 32) (k0_hw2 : k0_chk2 v34), (k0_dev56 v34) < nD := fun v34 k0_hw2 => k0_hw2.1.2.2.2.2.2.2.2.2.2.2.2.2.2.2.2.2.2.2.2.2.2.2.2.2.2.2.2.1
theorem k0_dev58_lt : ∀ (v34 : BitVec 32) (k0_hw2 : k0_chk2 v34), (k0_dev58 v34) < nD := fun v34 k0_hw2 => k0_hw2.1.2.2.2.2.2.2.2.2.2.2.2.2.2.2.2.2.2.2.2.2.2.2.2.2.2.2.2.2.1
theorem k0_dev59_lt : ∀ (v34 : BitVec 32) (k0_hw2 : k0_chk2 v34), (k0_dev59 v34) < nD := fun v34 k0_hw2 => k0_hw2.1.2.2.2.2.2.2.2.2.2.2.2.2.2.2.2.2.2.2.2.2.2.2.2.2.2.2.2.2.2.1
theorem k0_dev61_lt : ∀ (v34 : BitVec 32) (k0_hw2 : k0_chk2 v34), (k0_dev61 v34) < nD := fun v34 k0_hw2 => k0_hw2.1.2.2.2.2.2.2.2.2.2.2.2.2.2.2.2.2.2.2.2.2.2.2.2.2.2.2.2.2.2.2.1
theorem k0_dev64_lt : ∀ (v34 : BitVec 32) (k0_hw2 : k0_chk2 v34), (k0_dev64 v34) < nD := fun v34 k0_hw2 => k0_hw2.1.2.2.2.2.2.2.2.2.2.2.2.2.2.2.2.2.2.2.2.2.2.2.2.2.2.2.2.2.2.2.2
theorem k0_dev66_lt : ∀ (v34 : BitVec 32) (k0_hw2 : k0_chk2 v34), (k0_dev66 v34) < nD := fun v34 k0_hw2 => k0_hw2.2.1.1
theorem k0_dev67_lt : ∀ (v34 : BitVec 32) (k0_hw2 : k0_chk2 v34), (k0_dev67 v34) < nD := fun v34 k0_hw2 => k0_hw2.2.1.2.1
theorem k0_dev69_lt : ∀ (v34 : BitVec 32) (k0_hw2 : k0_chk2 v34), (k0_dev69 v34) < nD := fun v34 k0_hw2 => k0_hw2.2.1.2.2.1
theorem k0_dev72_lt : ∀ (v34 : BitVec 32) (k0_hw2 : k0_chk2 v34), (k0_dev72 v34) < nD := fun v34 k0_hw2 => k0_hw2.2.1.2.2.2.1
theorem k0_dev74_lt : ∀ (v34 : BitVec 32) (k0_hw2 : k0_chk2 v34), (k0_dev74 v34) < nD := fun v34 k0_hw2 => k0_hw2.2.1.2.2.2.2.1
theorem k0_dev75_lt : ∀ (v34 : BitVec 32) (k0_hw2 : k0_chk2 v34), (k0_dev75 v34) < nD := fun v34 k0_hw2 => k0_hw2.2.1.2.2.2.2.2.1
theorem k0_dev77_lt : ∀ (v34 : BitVec 32) (k0_hw2 : k0_chk2 v34), (k0_dev77 v34) < nD := fun v34 k0_hw2 => k0_hw2.2.1.2.2.2.2.2.2.1
theorem k0_dev80_lt : ∀ (v34 : BitVec 32) (k0_hw2 : k0_chk2 v34), (k0_dev80 v34) < nD := fun v34 k0_hw2 => k0_hw2.2.1.2.2.2.2.2.2.2.1
theorem k0_dev82_lt : ∀ (v34 : BitVec 32) (k0_hw2 : k0_chk2 v34), (k0_dev82 v34) < nD := fun v34 k0_hw2 => k0_hw2.2.1.2.2.2.2.2.2.2.2.1
theorem k0_dev83_lt : ∀ (v34 : BitVec 32) (k0_hw2 : k0_chk2 v34), (k0_dev83 v34) < nD := fun v34 k0_hw2 => k0_hw2.2.1.2.2.2.2.2.2.2.2.2.1
theorem k0_dev85_lt : ∀ (v34 : BitVec 32) (k0_hw2 : k0_chk2 v34), (k0_dev85 v34) < nD := fun v34 k0_hw2 => k0_hw2.2.1.2.2.2.2.2.2.2.2.2.2.1
theorem k0_dev88_lt : ∀ (v34 : BitVec 32) (k0_hw2 : k0_chk2 v34), (k0_dev88 v34) < nD := fun v34 k0_hw2 => k0_hw2.2.1.2.2.2.2.2.2.2.2.2.2.2.1
theorem k0_dev90_lt : ∀ (v34 : BitVec 32) (k0_hw2 : k0_chk2 v34), (k0_dev90 v34) < nD := fun v34 k0_hw2 => k0_hw2.2.1.2.2.2.2.2.2.2.2.2.2.2.2.1
theorem k0_dev91_lt : ∀ (v34 : BitVec 32) (k0_hw2 : k0_chk2 v34), (k0_dev91 v34) < nD := fun v34 k0_hw2 => k0_hw2.2.1.2.2.2.2.2.2.2.2.2.2.2.2.2.1
theorem k0_dev93_lt : ∀ (v34 : BitVec 32) (k0_hw2 : k0_chk2 v34), (k0_dev93 v34) < nD := fun v34 k0_hw2 => k0_hw2.2.1.2.2.2.2.2.2.2.2.2.2.2.2.2.2.1
theorem k0_dev96_lt : ∀ (v34 : BitVec 32) (k0_hw2 : k0_chk2 v34), (k0_dev96 v34) < nD := fun v34 k0_hw2 => k0_hw2.2.1.2.2.2.2.2.2.2.2.2.2.2.2.2.2.2.1
theorem k0_dev98_lt : ∀ (v34 : BitVec 32) (k0_hw2 : k0_chk2 v34), (k0_dev98 v34) < nD := fun v34 k0_hw2 => k0_hw2.2.1.2.2.2.2.2.2.2.2.2.2.2.2.2.2.2.2.1
theorem k0_dev99_lt : ∀ (v34 : BitVec 32) (k0_hw2 : k0_chk2 v34), (k0_dev99 v34) < nD := fun v34 k0_hw2 => k0_hw2.2.1.2.2.2.2.2.2.2.2.2.2.2.2.2.2.2.2.2.1
theorem k0_dev101_lt : ∀ (v34 : BitVec 32) (k0_hw2 : k0_chk2 v34), (k0_dev101 v34) < nD := fun v34 k0_hw2 => k0_hw2.2.1.2.2.2.2.2.2.2.2.2.2.2.2.2.2.2.2.2.2.1
theorem k0_dev104_lt : ∀ (v34 : BitVec 32) (k0_hw2 : k0_chk2 v34), (k0_dev104 v34) < nD := fun v34 k0_hw2 => k0_hw2.2.1.2.2.2.2.2.2.2.2.2.2.2.2.2.2.2.2.2.2.2.1
theorem k0_dev106_lt : ∀ (v34 : BitVec 32) (k0_hw2 : k0_chk2 v34), (k0_dev106 v34) < nD := fun v34 k0_hw2 => k0_hw2.2.1.2.2.2.2.2.2.2.2.2.2.2.2.2.2.2.2.2.2.2.2.1
theorem k0_dev107_lt : ∀ (v34 : BitVec 32) (k0_hw2 : k0_chk2 v34), (k0_dev107 v34) < nD := fun v34 k0_hw2 => k0_hw2.2.1.2.2.2.2.2.2.2.2.2.2.2.2.2.2.2.2.2.2.2.2.2.1
theorem k0_dev109_lt : ∀ (v34 : BitVec 32) (k0_hw2 : k0_chk2 v34), (k0_dev109 v34) < nD := fun v34 k0_hw2 => k0_hw2.2.1.2.2.2.2.2.2.2.2.2.2.2.2.2.2.2.2.2.2.2.2.2.2.1
theorem k0_dev112_lt : ∀ (v34 : BitVec 32) (k0_hw2 : k0_chk2 v34), (k0_dev112 v34) < nD := fun v34 k0_hw2 => k0_hw2.2.1.2.2.2.2.2.2.2.2.2.2.2.2.2.2.2.2.2.2.2.2.2.2.2.1
theorem k0_dev114_lt : ∀ (v34 : BitVec 32) (k0_hw2 : k0_chk2 v34), (k0_dev114 v34) < nD := fun v34 k0_hw2 => k0_hw2.2.1.2.2.2.2.2.2.2.2.2.2.2.2.2.2.2.2.2.2.2.2.2.2.2.2.1
theorem k0_dev115_lt : ∀ (v34 : BitVec 32) (k0_hw2 : k0_chk2 v34), (k0_dev115 v34) < nD := fun v34 k0_hw2 => k0_hw2.2.1.2.2.2.2.2.2.2.2.2.2.2.2.2.2.2.2.2.2.2.2.2.2.2.2.2.1
theorem k0_dev117_lt : ∀ (v34 : BitVec 32) (k0_hw2 : k0_chk2 v34), (k0_dev117 v34) < nD := fun v34 k0_hw2 => k0_hw2.2.1.2.2.2.2.2.2.2.2.2.2.2.2.2.2.2.2.2.2.2.2.2.2.2.2.2.2.1
theorem k0_dev120_lt : ∀ (v34 : BitVec 32) (k0_hw2 : k0_chk2 v34), (k0_dev120 v34) < nD := fun v34 k0_hw2 => k0_hw2.2.1.2.2.2.2.2.2.2.2.2.2.2.2.2.2.2.2.2.2.2.2.2.2.2.2.2.2.2.1
theorem k0_dev122_lt : ∀ (v34 : BitVec 32) (k0_hw2 : k0_chk2 v34), (k0_dev122 v34) < nD := fun v34 k0_hw2 => k0_hw2.2.1.2.2.2.2.2.2.2.2.2.2.2.2.2.2.2.2.2.2.2.2.2.2.2.2.2.2.2.2.1
theorem k0_dev123_lt : ∀ (v34 : BitVec 32) (k0_hw2 : k0_chk2 v34), (k0_dev123 v34) < nD := fun v34 k0_hw2 => k0_hw2.2.1.2.2.2.2.2.2.2.2.2.2.2.2.2.2.2.2.2.2.2.2.2.2.2.2.2.2.2.2.2.1
theorem k0_dev125_lt : ∀ (v34 : BitVec 32) (k0_hw2 : k0_chk2 v34), (k0_dev125 v34) < nD := fun v34 k0_hw2 => k0_hw2.2.1.2.2.2.2.2.2.2.2.2.2.2.2.2.2.2.2.2.2.2.2.2.2.2.2.2.2.2.2.2.2.1
theorem k0_dev128_lt : ∀ (v34 : BitVec 32) (k0_hw2 : k0_chk2 v34), (k0_dev128 v34) < nD := fun v34 k0_hw2 => k0_hw2.2.1.2.2.2.2.2.2.2.2.2.2.2.2.2.2.2.2.2.2.2.2.2.2.2.2.2.2.2.2.2.2.2
theorem k0_dev130_lt : ∀ (v34 : BitVec 32) (k0_hw2 : k0_chk2 v34), (k0_dev130 v34) < nD := fun v34 k0_hw2 => k0_hw2.2.2.1.1
theorem k0_dev131_lt : ∀ (v34 : BitVec 32) (k0_hw2 : k0_chk2 v34), (k0_dev131 v34) < nD := fun v34 k0_hw2 => k0_hw2.2.2.1.2.1
theorem k0_dev133_lt : ∀ (v34 : BitVec 32) (k0_hw2 : k0_chk2 v34), (k0_dev133 v34) < nD := fun v34 k0_hw2 => k0_hw2.2.2.1.2.2.1
theorem k0_dev136_lt : ∀ (v34 : BitVec 32) (k0_hw2 : k0_chk2 v34), (k0_dev136 v34) < nD := fun v34 k0_hw2 => k0_hw2.2.2.1.2.2.2.1
theorem k0_dev138_lt : ∀ (v34 : BitVec 32) (k0_hw2 : k0_chk2 v34), (k0_dev138 v34) < nD := fun v34 k0_hw2 => k0_hw2.2.2.1.2.2.2.2.1
theorem k0_dev139_lt : ∀ (v34 : BitVec 32) (k0_hw2 : k0_chk2 v34), (k0_dev139 v34) < nD := fun v34 k0_hw2 => k0_hw2.2.2.1.2.2.2.2.2.1
theorem k0_dev141_lt : ∀ (v34 : BitVec 32) (k0_hw2 : k0_chk2 v34), (k0_dev141 v34) < nD := fun v34 k0_hw2 => k0_hw2.2.2.1.2.2.2.2.2.2.1
theorem k0_dev144_lt : ∀ (v34 : BitVec 32) (k0_hw2 : k0_chk2 v34), (k0_dev144 v34) < nD := fun v34 k0_hw2 => k0_hw2.2.2.1.2.2.2.2.2.2.2.1
theorem k0_dev146_lt : ∀ (v34 : BitVec 32) (k0_hw2 : k0_chk2 v34), (k0_dev146 v34) < nD := fun v34 k0_hw2 => k0_hw2.2.2.1.2.2.2.2.2.2.2.2.1
theorem k0_dev147_lt : ∀ (v34 : BitVec 32) (k0_hw2 : k0_chk2 v34), (k0_dev147 v34) < nD := fun v34 k0_hw2 => k0_hw2.2.2.1.2.2.2.2.2.2.2.2.2.1
theorem k0_dev149_lt : ∀ (v34 : BitVec 32) (k0_hw2 : k0_chk2 v34), (k0_dev149 v34) < nD := fun v34 k0_hw2 => k0_hw2.2.2.1.2.2.2.2.2.2.2.2.2.2.1
theorem k0_dev152_lt : ∀ (v34 : BitVec 32) (k0_hw2 : k0_chk2 v34), (k0_dev152 v34) < nD := fun v34 k0_hw2 => k0_hw2.2.2.1.2.2.2.2.2.2.2.2.2.2.2.1
theorem k0_dev154_lt : ∀ (v34 : BitVec 32) (k0_hw2 : k0_chk2 v34), (k0_dev154 v34) < nD := fun v34 k0_hw2 => k0_hw2.2.2.1.2.2.2.2.2.2.2.2.2.2.2.2.1
theorem k0_dev155_lt : ∀ (v34 : BitVec 32) (k0_hw2 : k0_chk2 v34), (k0_dev155 v34) < nD := fun v34 k0_hw2 => k0_hw2.2.2.1.2.2.2.2.2.2.2.2.2.2.2.2.2.1
theorem k0_dev157_lt : ∀ (v34 : BitVec 32) (k0_hw2 : k0_chk2 v34), (k0_dev157 v34) < nD := fun v34 k0_hw2 => k0_hw2.2.2.1.2.2.2.2.2.2.2.2.2.2.2.2.2.2.1
theorem k0_dev160_lt : ∀ (v34 : BitVec 32) (k0_hw2 : k0_chk2 v34), (k0_dev160 v34) < nD := fun v34 k0_hw2 => k0_hw2.2.2.1.2.2.2.2.2.2.2.2.2.2.2.2.2.2.2.1
theorem k0_dev162_lt : ∀ (v34 : BitVec 32) (k0_hw2 : k0_chk2 v34), (k0_dev162 v34) < nD := fun v34 k0_hw2 => k0_hw2.2.2.1.2.2.2.2.2.2.2.2.2.2.2.2.2.2.2.2.1
theorem k0_dev163_lt : ∀ (v34 : BitVec 32) (k0_hw2 : k0_chk2 v34), (k0_dev163 v34) < nD := fun v34 k0_hw2 => k0_hw2.2.2.1.2.2.2.2.2.2.2.2.2.2.2.2.2.2.2.2.2.1
theorem k0_dev165_lt : ∀ (v34 : BitVec 32) (k0_hw2 : k0_chk2 v34), (k0_dev165 v34) < nD := fun v34 k0_hw2 => k0_hw2.2.2.1.2.2.2.2.2.2.2.2.2.2.2.2.2.2.2.2.2.2.1
theorem k0_dev168_lt : ∀ (v34 : BitVec 32) (k0_hw2 : k0_chk2 v34), (k0_dev168 v34) < nD := fun v34 k0_hw2 => k0_hw2.2.2.1.2.2.2.2.2.2.2.2.2.2.2.2.2.2.2.2.2.2.2.1
theorem k0_dev170_lt : ∀ (v34 : BitVec 32) (k0_hw2 : k0_chk2 v34), (k0_dev170 v34) < nD := fun v34 k0_hw2 => k0_hw2.2.2.1.2.2.2.2.2.2.2.2.2.2.2.2.2.2.2.2.2.2.2.2.1
theorem k0_dev171_lt : ∀ (v34 : BitVec 32) (k0_hw2 : k0_chk2 v34), (k0_dev171 v34) < nD := fun v34 k0_hw2 => k0_hw2.2.2.1.2.2.2.2.2.2.2.2.2.2.2.2.2.2.2.2.2.2.2.2.2.1
theorem k0_dev173_lt : ∀ (v34 : BitVec 32) (k0_hw2 : k0_chk2 v34), (k0_dev173 v34) < nD := fun v34 k0_hw2 => k0_hw2.2.2.1.2.2.2.2.2.2.2.2.2.2.2.2.2.2.2.2.2.2.2.2.2.2.1
theorem k0_dev176_lt : ∀ (v34 : BitVec 32) (k0_hw2 : k0_chk2 v34), (k0_dev176 v34) < nD := fun v34 k0_hw2 => k0_hw2.2.2.1.2.2.2.2.2.2.2.2.2.2.2.2.2.2.2.2.2.2.2.2.2.2.2.1
theorem k0_dev178_lt : ∀ (v34 : BitVec 32) (k0_hw2 : k0_chk2 v34), (k0_dev178 v34) < nD := fun v34 k0_hw2 => k0_hw2.2.2.1.2.2.2.2.2.2.2.2.2.2.2.2.2.2.2.2.2.2.2.2.2.2.2.2.1
theorem k0_dev179_lt : ∀ (v34 : BitVec 32) (k0_hw2 : k0_chk2 v34), (k0_dev179 v34) < nD := fun v34 k0_hw2 => k0_hw2.2.2.1.2.2.2.2.2.2.2.2.2.2.2.2.2.2.2.2.2.2.2.2.2.2.2.2.2.1
theorem k0_dev181_lt : ∀ (v34 : BitVec 32) (k0_hw2 : k0_chk2 v34), (k0_dev181 v34) < nD := fun v34 k0_hw2 => k0_hw2.2.2.1.2.2.2.2.2.2.2.2.2.2.2.2.2.2.2.2.2.2.2.2.2.2.2.2.2.2.1
theorem k0_dev184_lt : ∀ (v34 : BitVec 32) (k0_hw2 : k0_chk2 v34), (k0_dev184 v34) < nD := fun v34 k0_hw2 => k0_hw2.2.2.1.2.2.2.2.2.2.2.2.2.2.2.2.2.2.2.2.2.2.2.2.2.2.2.2.2.2.2.1
theorem k0_dev186_lt : ∀ (v34 : BitVec 32) (k0_hw2 : k0_chk2 v34), (k0_dev186 v34) < nD := fun v34 k0_hw2 => k0_hw2.2.2.1.2.2.2.2.2.2.2.2.2.2.2.2.2.2.2.2.2.2.2.2.2.2.2.2.2.2.2.2.1
theorem k0_dev187_lt : ∀ (v34 : BitVec 32) (k0_hw2 : k0_chk2 v34), (k0_dev187 v34) < nD := fun v34 k0_hw2 => k0_hw2.2.2.1.2.2.2.2.2.2.2.2.2.2.2.2.2.2.2.2.2.2.2.2.2.2.2.2.2.2.2.2.2.1
theorem k0_dev189_lt : ∀ (v34 : BitVec 32) (k0_hw2 : k0_chk2 v34), (k0_dev189 v34) < nD := fun v34 k0_hw2 => k0_hw2.2.2.1.2.2.2.2.2.2.2.2.2.2.2.2.2.2.2.2.2.2.2.2.2.2.2.2.2.2.2.2.2.2.1
theorem k0_dev192_lt : ∀ (v34 : BitVec 32) (k0_hw2 : k0_chk2 v34), (k0_dev192 v34) < nD := fun v34 k0_hw2 => k0_hw2.2.2.1.2.2.2.2.2.2.2.2.2.2.2.2.2.2.2.2.2.2.2.2.2.2.2.2.2.2.2.2.2.2.2
theorem k0_dev194_lt : ∀ (v34 : BitVec 32) (k0_hw2 : k0_chk2 v34), (k0_dev194 v34) < nD := fun v34 k0_hw2 => k0_hw2.2.2.2.1
theorem k0_dev195_lt : ∀ (v34 : BitVec 32) (k0_hw2 : k0_chk2 v34), (k0_dev195 v34) < nD := fun v34 k0_hw2 => k0_hw2.2.2.2.2.1
theorem k0_dev197_lt : ∀ (v34 : BitVec 32) (k0_hw2 : k0_chk2 v34), (k0_dev197 v34) < nD := fun v34 k0_hw2 => k0_hw2.2.2.2.2.2.1
theorem k0_dev200_lt : ∀ (v34 : BitVec 32) (k0_hw2 : k0_chk2 v34), (k0_dev200 v34) < nD := fun v34 k0_hw2 => k0_hw2.2.2.2.2.2.2.1
theorem k0_dev202_lt : ∀ (v34 : BitVec 32) (k0_hw2 : k0_chk2 v34), (k0_dev202 v34) < nD := fun v34 k0_hw2 => k0_hw2.2.2.2.2.2.2.2.1
theorem k0_dev203_lt : ∀ (v34 : BitVec 32) (k0_hw2 : k0_chk2 v34), (k0_dev203 v34) < nD := fun v34 k0_hw2 => k0_hw2.2.2.2.2.2.2.2.2.1
theorem k0_dev205_lt : ∀ (v34 : BitVec 32) (k0_hw2 : k0_chk2 v34), (k0_dev205 v34) < nD := fun v34 k0_hw2 => k0_hw2.2.2.2.2.2.2.2.2.2.1
theorem k0_dev208_lt : ∀ (v34 : BitVec 32) (k0_hw2 : k0_chk2 v34), (k0_dev208 v34) < nD := fun v34 k0_hw2 => k0_hw2.2.2.2.2.2.2.2.2.2.2.1
theorem k0_dev210_lt : ∀ (v34 : BitVec 32) (k0_hw2 : k0_chk2 v34), (k0_dev210 v34) < nD := fun v34 k0_hw2 => k0_hw2.2.2.2.2.2.2.2.2.2.2.2.1
theorem k0_dev211_lt : ∀ (v34 : BitVec 32) (k0_hw2 : k0_chk2 v34), (k0_dev211 v34) < nD := fun v34 k0_hw2 => k0_hw2.2.2.2.2.2.2.2.2.2.2.2.2.1
theorem k0_dev213_lt : ∀ (v34 : BitVec 32) (k0_hw2 : k0_chk2 v34), (k0_dev213 v34) < nD := fun v34 k0_hw2 => k0_hw2.2.2.2.2.2.2.2.2.2.2.2.2.2.1
theorem k0_dev216_lt : ∀ (v34 : BitVec 32) (k0_hw2 : k0_chk2 v34), (k0_dev216 v34) < nD := fun v34 k0_hw2 => k0_hw2.2.2.2.2.2.2.2.2.2.2.2.2.2.2.1
theorem k0_dev218_lt : ∀ (v34 : BitVec 32) (k0_hw2 : k0_chk2 v34), (k0_dev218 v34) < nD := fun v34 k0_hw2 => k0_hw2.2.2.2.2.2.2.2.2.2.2.2.2.2.2.2.1
theorem k0_dev219_lt : ∀ (v34 : BitVec 32) (k0_hw2 : k0_chk2 v34), (k0_dev219 v34) < nD := fun v34 k0_hw2 => k0_hw2.2.2.2.2.2.2.2.2.2.2.2.2.2.2.2.2.1
theorem k0_dev221_lt : ∀ (v34 : BitVec 32) (k0_hw2 : k0_chk2 v34), (k0_dev221 v34) < nD := fun v34 k0_hw2 => k0_hw2.2.2.2.2.2.2.2.2.2.2.2.2.2.2.2.2.2.1
theorem k0_dev224_lt : ∀ (v34 : BitVec 32) (k0_hw2 : k0_chk2 v34), (k0_dev224 v34) < nD := fun v34 k0_hw2 => k0_hw2.2.2.2.2.2.2.2.2.2.2.2.2.2.2.2.2.2.2.1
theorem k0_dev226_lt : ∀ (v34 : BitVec 32) (k0_hw2 : k0_chk2 v34), (k0_dev226 v34) < nD := fun v34 k0_hw2 => k0_hw2.2.2.2.2.2.2.2.2.2.2.2.2.2.2.2.2.2.2.2.1
theorem k0_dev227_lt : ∀ (v34 : BitVec 32) (k0_hw2 : k0_chk2 v34), (k0_dev227 v34) < nD := fun v34 k0_hw2 => k0_hw2.2.2.2.2.2.2.2.2.2.2.2.2.2.2.2.2.2.2.2.2.1
theorem k0_dev229_lt : ∀ (v34 : BitVec 32) (k0_hw2 : k0_chk2 v34), (k0_dev229 v34) < nD := fun v34 k0_hw2 => k0_hw2.2.2.2.2.2.2.2.2.2.2.2.2.2.2.2.2.2.2.2.2.2.1
theorem k0_dev232_lt : ∀ (v34 : BitVec 32) (k0_hw2 : k0_chk2 v34), (k0_dev232 v34) < nD := fun v34 k0_hw2 => k0_hw2.2.2.2.2.2.2.2.2.2.2.2.2.2.2.2.2.2.2.2.2.2.2.1
theorem k0_dev234_lt : ∀ (v34 : BitVec 32) (k0_hw2 : k0_chk2 v34), (k0_dev234 v34) < nD := fun v34 k0_hw2 => k0_hw2.2.2.2.2.2.2.2.2.2.2.2.2.2.2.2.2.2.2.2.2.2.2.2.1
theorem k0_dev235_lt : ∀ (v34 : BitVec 32) (k0_hw2 : k0_chk2 v34), (k0_dev235 v34) < nD := fun v34 k0_hw2 => k0_hw2.2.2.2.2.2.2.2.2.2.2.2.2.2.2.2.2.2.2.2.2.2.2.2.2.1
theorem k0_dev237_lt : ∀ (v34 : BitVec 32) (k0_hw2 : k0_chk2 v34), (k0_dev237 v34) < nD := fun v34 k0_hw2 => k0_hw2.2.2.2.2.2.2.2.2.2.2.2.2.2.2.2.2.2.2.2.2.2.2.2.2.2.1
theorem k0_dev240_lt : ∀ (v34 : BitVec 32) (k0_hw2 : k0_chk2 v34), (k0_dev240 v34) < nD := fun v34 k0_hw2 => k0_hw2.2.2.2.2.2.2.2.2.2.2.2.2.2.2.2.2.2.2.2.2.2.2.2.2.2.2.1
theorem k0_dev242_lt : ∀ (v34 : BitVec 32) (k0_hw2 : k0_chk2 v34), (k0_dev242 v34) < nD := fun v34 k0_hw2 => k0_hw2.2.2.2.2.2.2.2.2.2.2.2.2.2.2.2.2.2.2.2.2.2.2.2.2.2.2.2.1
theorem k0_dev243_lt : ∀ (v34 : BitVec 32) (k0_hw2 : k0_chk2 v34), (k0_dev243 v34) < nD := fun v34 k0_hw2 => k0_hw2.2.2.2.2.2.2.2.2.2.2.2.2.2.2.2.2.2.2.2.2.2.2.2.2.2.2.2.2.1
theorem k0_dev245_lt : ∀ (v34 : BitVec 32) (k0_hw2 : k0_chk2 v34), (k0_dev245 v34) < nD := fun v34 k0_hw2 => k0_hw2.2.2.2.2.2.2.2.2.2.2.2.2.2.2.2.2.2.2.2.2.2.2.2.2.2.2.2.2.2

def k0_dev246 (v53 : BitVec 32) : Nat :=
  let c0_i32_6724 : BitVec 32 := 0#32
  let c1_i32_6723 : BitVec 32 := 1#32
  let v7328 : BitVec 32 := Scalar.muli v53 c1_i32_6723
  let v7329 : BitVec 32 := Scalar.addi c0_i32_6724 v7328
  v7329.toNat

def k0_chk1_0 (v53 : BitVec 32) : Prop :=
  ((k0_dev1 v53) < nD) ∧
  ((k0_dev5 v53) < nD) ∧
  ((k0_dev6 v53) < nD) ∧
  ((k0_dev7 v53) < nD) ∧
  ((k0_dev9 v53) < nD) ∧
  ((k0_dev12 v53) < nD) ∧
  ((k0_dev14 v53) < nD) ∧
  ((k0_dev15 v53) < nD) ∧
  ((k0_dev17 v53) < nD) ∧
  ((k0_dev20 v53) < nD) ∧
  ((k0_dev22 v53) < nD) ∧
  ((k0_dev23 v53) < nD) ∧
  ((k0_dev25 v53) < nD) ∧
  ((k0_dev28 v53) < nD) ∧
  ((k0_dev30 v53) < nD) ∧
  ((k0_dev31 v53) < nD) ∧
  ((k0_dev33 v53) < nD) ∧
  ((k0_dev36 v53) < nD) ∧
  ((k0_dev38 v53) < nD) ∧
  ((k0_dev39 v53) < nD) ∧
  ((k0_dev41 v53) < nD) ∧
  ((k0_dev44 v53) < nD) ∧
  ((k0_dev46 v53) < nD) ∧
  ((k0_dev47 v53) < nD) ∧
  ((k0_dev49 v53) < nD) ∧
  ((k0_dev52 v53) < nD) ∧
  ((k0_dev54 v53) < nD) ∧
  ((k0_dev55 v53) < nD) ∧
  ((k0_dev57 v53) < nD) ∧
  ((k0_dev60 v53) < nD) ∧
  ((k0_dev62 v53) < nD) ∧
  ((k0_dev63 v53) < nD)
def k0_chk1_1 (v53 : BitVec 32) : Prop :=
  ((k0_dev65 v53) < nD) ∧
  ((k0_dev68 v53) < nD) ∧
  ((k0_dev70 v53) < nD) ∧
  ((k0_dev71 v53) < nD) ∧
  ((k0_dev73 v53) < nD) ∧
  ((k0_dev76 v53) < nD) ∧
  ((k0_dev78 v53) < nD) ∧
  ((k0_dev79 v53) < nD) ∧
  ((k0_dev81 v53) < nD) ∧
  ((k0_dev84 v53) < nD) ∧
  ((k0_dev86 v53) < nD) ∧
  ((k0_dev87 v53) < nD) ∧
  ((k0_dev89 v53) < nD) ∧
  ((k0_dev92 v53) < nD) ∧
  ((k0_dev94 v53) < nD) ∧
  ((k0_dev95 v53) < nD) ∧
  ((k0_dev97 v53) < nD) ∧
  ((k0_dev100 v53) < nD) ∧
  ((k0_dev102 v53) < nD) ∧
  ((k0_dev103 v53) < nD) ∧
  ((k0_dev105 v53) < nD) ∧
  ((k0_dev108 v53) < nD) ∧
  ((k0_dev110 v53) < nD) ∧
  ((k0_dev111 v53) < nD) ∧
  ((k0_dev113 v53) < nD) ∧
  ((k0_dev116 v53) < nD) ∧
  ((k0_dev118 v53) < nD) ∧
  ((k0_dev119 v53) < nD) ∧
  ((k0_dev121 v53) < nD) ∧
  ((k0_dev124 v53) < nD) ∧
  ((k0_dev126 v53) < nD) ∧
  ((k0_dev127 v53) < nD)
def k0_chk1_2 (v53 : BitVec 32) : Prop :=
  ((k0_dev129 v53) < nD) ∧
  ((k0_dev132 v53) < nD) ∧
  ((k0_dev134 v53) < nD) ∧
  ((k0_dev135 v53) < nD) ∧
  ((k0_dev137 v53) < nD) ∧
  ((k0_dev140 v53) < nD) ∧
  ((k0_dev142 v53) < nD) ∧
  ((k0_dev143 v53) < nD) ∧
  ((k0_dev145 v53) < nD) ∧
  ((k0_dev148 v53) < nD) ∧
  ((k0_dev150 v53) < nD) ∧
  ((k0_dev151 v53) < nD) ∧
  ((k0_dev153 v53) < nD) ∧
  ((k0_dev156 v53) < nD) ∧
  ((k0_dev158 v53) < nD) ∧
  ((k0_dev159 v53) < nD) ∧
  ((k0_dev161 v53) < nD) ∧
  ((k0_dev164 v53) < nD) ∧
  ((k0_dev166 v53) < nD) ∧
  ((k0_dev167 v53) < nD) ∧
  ((k0_dev169 v53) < nD) ∧
  ((k0_dev172 v53) < nD) ∧
  ((k0_dev174 v53) < nD) ∧
  ((k0_dev175 v53) < nD) ∧
  ((k0_dev177 v53) < nD) ∧
  ((k0_dev180 v53) < nD) ∧
  ((k0_dev182 v53) < nD) ∧
  ((k0_dev183 v53) < nD) ∧
  ((k0_dev185 v53) < nD) ∧
  ((k0_dev188 v53) < nD) ∧
  ((k0_dev190 v53) < nD) ∧
  ((k0_dev191 v53) < nD)
def k0_chk1_3 (v53 : BitVec 32) : Prop :=
  ((k0_dev193 v53) < nD) ∧
  ((k0_dev196 v53) < nD) ∧
  ((k0_dev198 v53) < nD) ∧
  ((k0_dev199 v53) < nD) ∧
  ((k0_dev201 v53) < nD) ∧
  ((k0_dev204 v53) < nD) ∧
  ((k0_dev206 v53) < nD) ∧
  ((k0_dev207 v53) < nD) ∧
  ((k0_dev209 v53) < nD) ∧
  ((k0_dev212 v53) < nD) ∧
  ((k0_dev214 v53) < nD) ∧
  ((k0_dev215 v53) < nD) ∧
  ((k0_dev217 v53) < nD) ∧
  ((k0_dev220 v53) < nD) ∧
  ((k0_dev222 v53) < nD) ∧
  ((k0_dev223 v53) < nD) ∧
  ((k0_dev225 v53) < nD) ∧
  ((k0_dev228 v53) < nD) ∧
  ((k0_dev230 v53) < nD) ∧
  ((k0_dev231 v53) < nD) ∧
  ((k0_dev233 v53) < nD) ∧
  ((k0_dev236 v53) < nD) ∧
  ((k0_dev238 v53) < nD) ∧
  ((k0_dev239 v53) < nD) ∧
  ((k0_dev241 v53) < nD) ∧
  ((k0_dev244 v53) < nD) ∧
  ((k0_dev246 v53) < nD)
def k0_chk1 (v53 : BitVec 32) : Prop :=
  k0_chk1_0 v53 ∧
  k0_chk1_1 v53 ∧
  k0_chk1_2 v53 ∧
  k0_chk1_3 v53
theorem k0_dev1_lt : ∀ (v53 : BitVec 32) (k0_hw1 : k0_chk1 v53), (k0_dev1 v53) < nD := fun v53 k0_hw1 => k0_hw1.1.1
theorem k0_dev5_lt : ∀ (v53 : BitVec 32) (k0_hw1 : k0_chk1 v53), (k0_dev5 v53) < nD := fun v53 k0_hw1 => k0_hw1.1.2.1
theorem k0_dev6_lt : ∀ (v53 : BitVec 32) (k0_hw1 : k0_chk1 v53), (k0_dev6 v53) < nD := fun v53 k0_hw1 => k0_hw1.1.2.2.1
theorem k0_dev7_lt : ∀ (v53 : BitVec 32) (k0_hw1 : k0_chk1 v53), (k0_dev7 v53) < nD := fun v53 k0_hw1 => k0_hw1.1.2.2.2.1
theorem k0_dev9_lt : ∀ (v53 : BitVec 32) (k0_hw1 : k0_chk1 v53), (k0_dev9 v53) < nD := fun v53 k0_hw1 => k0_hw1.1.2.2.2.2.1
theorem k0_dev12_lt : ∀ (v53 : BitVec 32) (k0_hw1 : k0_chk1 v53), (k0_dev12 v53) < nD := fun v53 k0_hw1 => k0_hw1.1.2.2.2.2.2.1
theorem k0_dev14_lt : ∀ (v53 : BitVec 32) (k0_hw1 : k0_chk1 v53), (k0_dev14 v53) < nD := fun v53 k0_hw1 => k0_hw1.1.2.2.2.2.2.2.1
theorem k0_dev15_lt : ∀ (v53 : BitVec 32) (k0_hw1 : k0_chk1 v53), (k0_dev15 v53) < nD := fun v53 k0_hw1 => k0_hw1.1.2.2.2.2.2.2.2.1
theorem k0_dev17_lt : ∀ (v53 : BitVec 32) (k0_hw1 : k0_chk1 v53), (k0_dev17 v53) < nD := fun v53 k0_hw1 => k0_hw1.1.2.2.2.2.2.2.2.2.1
theorem k0_dev20_lt : ∀ (v53 : BitVec 32) (k0_hw1 : k0_chk1 v53), (k0_dev20 v53) < nD := fun v53 k0_hw1 => k0_hw1.1.2.2.2.2.2.2.2.2.2.1
theorem k0_dev22_lt : ∀ (v53 : BitVec 32) (k0_hw1 : k0_chk1 v53), (k0_dev22 v53) < nD := fun v53 k0_hw1 => k0_hw1.1.2.2.2.2.2.2.2.2.2.2.1
theorem k0_dev23_lt : ∀ (v53 : BitVec 32) (k0_hw1 : k0_chk1 v53), (k0_dev23 v53) < nD := fun v53 k0_hw1 => k0_hw1.1.2.2.2.2.2.2.2.2.2.2.2.1
theorem k0_dev25_lt : ∀ (v53 : BitVec 32) (k0_hw1 : k0_chk1 v53), (k0_dev25 v53) < nD := fun v53 k0_hw1 => k0_hw1.1.2.2.2.2.2.2.2.2.2.2.2.2.1
theorem k0_dev28_lt : ∀ (v53 : BitVec 32) (k0_hw1 : k0_chk1 v53), (k0_dev28 v53) < nD := fun v53 k0_hw1 => k0_hw1.1.2.2.2.2.2.2.2.2.2.2.2.2.2.1
theorem k0_dev30_lt : ∀ (v53 : BitVec 32) (k0_hw1 : k0_chk1 v53), (k0_dev30 v53) < nD := fun v53 k0_hw1 => k0_hw1.1.2.2.2.2.2.2.2.2.2.2.2.2.2.2.1
theorem k0_dev31_lt : ∀ (v53 : BitVec 32) (k0_hw1 : k0_chk1 v53), (k0_dev31 v53) < nD := fun v53 k0_hw1 => k0_hw1.1.2.2.2.2.2.2.2.2.2.2.2.2.2.2.2.1
theorem k0_dev33_lt : ∀ (v53 : BitVec 32) (k0_hw1 : k0_chk1 v53), (k0_dev33 v53) < nD := fun v53 k0_hw1 => k0_hw1.1.2.2.2.2.2.2.2.2.2.2.2.2.2.2.2.2.1
theorem k0_dev36_lt : ∀ (v53 : BitVec 32) (k0_hw1 : k0_chk1 v53), (k0_dev36 v53) < nD := fun v53 k0_hw1 => k0_hw1.1.2.2.2.2.2.2.2.2.2.2.2.2.2.2.2.2.2.1
theorem k0_dev38_lt : ∀ (v53 : BitVec 32) (k0_hw1 : k0_chk1 v53), (k0_dev38 v53) < nD := fun v53 k0_hw1 => k0_hw1.1.2.2.2.2.2.2.2.2.2.2.2.2.2.2.2.2.2.2.1
theorem k0_dev39_lt : ∀ (v53 : BitVec 32) (k0_hw1 : k0_chk1 v53), (k0_dev39 v53) < nD := fun v53 k0_hw1 => k0_hw1.1.2.2.2.2.2.2.2.2.2.2.2.2.2.2.2.2.2.2.2.1
theorem k0_dev41_lt : ∀ (v53 : BitVec 32) (k0_hw1 : k0_chk1 v53), (k0_dev41 v53) < nD := fun v53 k0_hw1 => k0_hw1.1.2.2.2.2.2.2.2.2.2.2.2.2.2.2.2.2.2.2.2.2.1
theorem k0_dev44_lt : ∀ (v53 : BitVec 32) (k0_hw1 : k0_chk1 v53), (k0_dev44 v53) < nD := fun v53 k0_hw1 => k0_hw1.1.2.2.2.2.2.2.2.2.2.2.2.2.2.2.2.2.2.2.2.2.2.1
theorem k0_dev46_lt : ∀ (v53 : BitVec 32) (k0_hw1 : k0_chk1 v53), (k0_dev46 v53) < nD := fun v53 k0_hw1 => k0_hw1.1.2.2.2.2.2.2.2.2.2.2.2.2.2.2.2.2.2.2.2.2.2.2.1
theorem k0_dev47_lt : ∀ (v53 : BitVec 32) (k0_hw1 : k0_chk1 v53), (k0_dev47 v53) < nD := fun v53 k0_hw1 => k0_hw1.1.2.2.2.2.2.2.2.2.2.2.2.2.2.2.2.2.2.2.2.2.2.2.2.1
theorem k0_dev49_lt : ∀ (v53 : BitVec 32) (k0_hw1 : k0_chk1 v53), (k0_dev49 v53) < nD := fun v53 k0_hw1 => k0_hw1.1.2.2.2.2.2.2.2.2.2.2.2.2.2.2.2.2.2.2.2.2.2.2.2.2.1
theorem k0_dev52_lt : ∀ (v53 : BitVec 32) (k0_hw1 : k0_chk1 v53), (k0_dev52 v53) < nD := fun v53 k0_hw1 => k0_hw1.1.2.2.2.2.2.2.2.2.2.2.2.2.2.2.2.2.2.2.2.2.2.2.2.2.2.1
theorem k0_dev54_lt : ∀ (v53 : BitVec 32) (k0_hw1 : k0_chk1 v53), (k0_dev54 v53) < nD := fun v53 k0_hw1 => k0_hw1.1.2.2.2.2.2.2.2.2.2.2.2.2.2.2.2.2.2.2.2.2.2.2.2.2.2.2.1
theorem k0_dev55_lt : ∀ (v53 : BitVec 32) (k0_hw1 : k0_chk1 v53), (k0_dev55 v53) < nD := fun v53 k0_hw1 => k0_hw1.1.2.2.2.2.2.2.2.2.2.2.2.2.2.2.2.2.2.2.2.2.2.2.2.2.2.2.2.1
theorem k0_dev57_lt : ∀ (v53 : BitVec 32) (k0_hw1 : k0_chk1 v53), (k0_dev57 v53) < nD := fun v53 k0_hw1 => k0_hw1.1.2.2.2.2.2.2.2.2.2.2.2.2.2.2.2.2.2.2.2.2.2.2.2.2.2.2.2.2.1
theorem k0_dev60_lt : ∀ (v53 : BitVec 32) (k0_hw1 : k0_chk1 v53), (k0_dev60 v53) < nD := fun v53 k0_hw1 => k0_hw1.1.2.2.2.2.2.2.2.2.2.2.2.2.2.2.2.2.2.2.2.2.2.2.2.2.2.2.2.2.2.1
theorem k0_dev62_lt : ∀ (v53 : BitVec 32) (k0_hw1 : k0_chk1 v53), (k0_dev62 v53) < nD := fun v53 k0_hw1 => k0_hw1.1.2.2.2.2.2.2.2.2.2.2.2.2.2.2.2.2.2.2.2.2.2.2.2.2.2.2.2.2.2.2.1
theorem k0_dev63_lt : ∀ (v53 : BitVec 32) (k0_hw1 : k0_chk1 v53), (k0_dev63 v53) < nD := fun v53 k0_hw1 => k0_hw1.1.2.2.2.2.2.2.2.2.2.2.2.2.2.2.2.2.2.2.2.2.2.2.2.2.2.2.2.2.2.2.2
theorem k0_dev65_lt : ∀ (v53 : BitVec 32) (k0_hw1 : k0_chk1 v53), (k0_dev65 v53) < nD := fun v53 k0_hw1 => k0_hw1.2.1.1
theorem k0_dev68_lt : ∀ (v53 : BitVec 32) (k0_hw1 : k0_chk1 v53), (k0_dev68 v53) < nD := fun v53 k0_hw1 => k0_hw1.2.1.2.1
theorem k0_dev70_lt : ∀ (v53 : BitVec 32) (k0_hw1 : k0_chk1 v53), (k0_dev70 v53) < nD := fun v53 k0_hw1 => k0_hw1.2.1.2.2.1
theorem k0_dev71_lt : ∀ (v53 : BitVec 32) (k0_hw1 : k0_chk1 v53), (k0_dev71 v53) < nD := fun v53 k0_hw1 => k0_hw1.2.1.2.2.2.1
theorem k0_dev73_lt : ∀ (v53 : BitVec 32) (k0_hw1 : k0_chk1 v53), (k0_dev73 v53) < nD := fun v53 k0_hw1 => k0_hw1.2.1.2.2.2.2.1
theorem k0_dev76_lt : ∀ (v53 : BitVec 32) (k0_hw1 : k0_chk1 v53), (k0_dev76 v53) < nD := fun v53 k0_hw1 => k0_hw1.2.1.2.2.2.2.2.1
theorem k0_dev78_lt : ∀ (v53 : BitVec 32) (k0_hw1 : k0_chk1 v53), (k0_dev78 v53) < nD := fun v53 k0_hw1 => k0_hw1.2.1.2.2.2.2.2.2.1
theorem k0_dev79_lt : ∀ (v53 : BitVec 32) (k0_hw1 : k0_chk1 v53), (k0_dev79 v53) < nD := fun v53 k0_hw1 => k0_hw1.2.1.2.2.2.2.2.2.2.1
theorem k0_dev81_lt : ∀ (v53 : BitVec 32) (k0_hw1 : k0_chk1 v53), (k0_dev81 v53) < nD := fun v53 k0_hw1 => k0_hw1.2.1.2.2.2.2.2.2.2.2.1
theorem k0_dev84_lt : ∀ (v53 : BitVec 32) (k0_hw1 : k0_chk1 v53), (k0_dev84 v53) < nD := fun v53 k0_hw1 => k0_hw1.2.1.2.2.2.2.2.2.2.2.2.1
theorem k0_dev86_lt : ∀ (v53 : BitVec 32) (k0_hw1 : k0_chk1 v53), (k0_dev86 v53) < nD := fun v53 k0_hw1 => k0_hw1.2.1.2.2.2.2.2.2.2.2.2.2.1
theorem k0_dev87_lt : ∀ (v53 : BitVec 32) (k0_hw1 : k0_chk1 v53), (k0_dev87 v53) < nD := fun v53 k0_hw1 => k0_hw1.2.1.2.2.2.2.2.2.2.2.2.2.2.1
theorem k0_dev89_lt : ∀ (v53 : BitVec 32) (k0_hw1 : k0_chk1 v53), (k0_dev89 v53) < nD := fun v53 k0_hw1 => k0_hw1.2.1.2.2.2.2.2.2.2.2.2.2.2.2.1
theorem k0_dev92_lt : ∀ (v53 : BitVec 32) (k0_hw1 : k0_chk1 v53), (k0_dev92 v53) < nD := fun v53 k0_hw1 => k0_hw1.2.1.2.2.2.2.2.2.2.2.2.2.2.2.2.1
theorem k0_dev94_lt : ∀ (v53 : BitVec 32) (k0_hw1 : k0_chk1 v53), (k0_dev94 v53) < nD := fun v53 k0_hw1 => k0_hw1.2.1.2.2.2.2.2.2.2.2.2.2.2.2.2.2.1
theorem k0_dev95_lt : ∀ (v53 : BitVec 32) (k0_hw1 : k0_chk1 v53), (k0_dev95 v53) < nD := fun v53 k0_hw1 => k0_hw1.2.1.2.2.2.2.2.2.2.2.2.2.2.2.2.2.2.1
theorem k0_dev97_lt : ∀ (v53 : BitVec 32) (k0_hw1 : k0_chk1 v53), (k0_dev97 v53) < nD := fun v53 k0_hw1 => k0_hw1.2.1.2.2.2.2.2.2.2.2.2.2.2.2.2.2.2.2.1
theorem k0_dev100_lt : ∀ (v53 : BitVec 32) (k0_hw1 : k0_chk1 v53), (k0_dev100 v53) < nD := fun v53 k0_hw1 => k0_hw1.2.1.2.2.2.2.2.2.2.2.2.2.2.2.2.2.2.2.2.1
theorem k0_dev102_lt : ∀ (v53 : BitVec 32) (k0_hw1 : k0_chk1 v53), (k0_dev102 v53) < nD := fun v53 k0_hw1 => k0_hw1.2.1.2.2.2.2.2.2.2.2.2.2.2.2.2.2.2.2.2.2.1
theorem k0_dev103_lt : ∀ (v53 : BitVec 32) (k0_hw1 : k0_chk1 v53), (k0_dev103 v53) < nD := fun v53 k0_hw1 => k0_hw1.2.1.2.2.2.2.2.2.2.2.2.2.2.2.2.2.2.2.2.2.2.1
theorem k0_dev105_lt : ∀ (v53 : BitVec 32) (k0_hw1 : k0_chk1 v53), (k0_dev105 v53) < nD := fun v53 k0_hw1 => k0_hw1.2.1.2.2.2.2.2.2.2.2.2.2.2.2.2.2.2.2.2.2.2.2.1
theorem k0_dev108_lt : ∀ (v53 : BitVec 32) (k0_hw1 : k0_chk1 v53), (k0_dev108 v53) < nD := fun v53 k0_hw1 => k0_hw1.2.1.2.2.2.2.2.2.2.2.2.2.2.2.2.2.2.2.2.2.2.2.2.1
theorem k0_dev110_lt : ∀ (v53 : BitVec 32) (k0_hw1 : k0_chk1 v53), (k0_dev110 v53) < nD := fun v53 k0_hw1 => k0_hw1.2.1.2.2.2.2.2.2.2.2.2.2.2.2.2.2.2.2.2.2.2.2.2.2.1
theorem k0_dev111_lt : ∀ (v53 : BitVec 32) (k0_hw1 : k0_chk1 v53), (k0_dev111 v53) < nD := fun v53 k0_hw1 => k0_hw1.2.1.2.2.2.2.2.2.2.2.2.2.2.2.2.2.2.2.2.2.2.2.2.2.2.1
theorem k0_dev113_lt : ∀ (v53 : BitVec 32) (k0_hw1 : k0_chk1 v53), (k0_dev113 v53) < nD := fun v53 k0_hw1 => k0_hw1.2.1.2.2.2.2.2.2.2.2.2.2.2.2.2.2.2.2.2.2.2.2.2.2.2.2.1
theorem k0_dev116_lt : ∀ (v53 : BitVec 32) (k0_hw1 : k0_chk1 v53), (k0_dev116 v53) < nD := fun v53 k0_hw1 => k0_hw1.2.1.2.2.2.2.2.2.2.2.2.2.2.2.2.2.2.2.2.2.2.2.2.2.2.2.2.1
theorem k0_dev118_lt : ∀ (v53 : BitVec 32) (k0_hw1 : k0_chk1 v53), (k0_dev118 v53) < nD := fun v53 k0_hw1 => k0_hw1.2.1.2.2.2.2.2.2.2.2.2.2.2.2.2.2.2.2.2.2.2.2.2.2.2.2.2.2.1
theorem k0_dev119_lt : ∀ (v53 : BitVec 32) (k0_hw1 : k0_chk1 v53), (k0_dev119 v53) < nD := fun v53 k0_hw1 => k0_hw1.2.1.2.2.2.2.2.2.2.2.2.2.2.2.2.2.2.2.2.2.2.2.2.2.2.2.2.2.2.1
theorem k0_dev121_lt : ∀ (v53 : BitVec 32) (k0_hw1 : k0_chk1 v53), (k0_dev121 v53) < nD := fun v53 k0_hw1 => k0_hw1.2.1.2.2.2.2.2.2.2.2.2.2.2.2.2.2.2.2.2.2.2.2.2.2.2.2.2.2.2.2.1
theorem k0_dev124_lt : ∀ (v53 : BitVec 32) (k0_hw1 : k0_chk1 v53), (k0_dev124 v53) < nD := fun v53 k0_hw1 => k0_hw1.2.1.2.2.2.2.2.2.2.2.2.2.2.2.2.2.2.2.2.2.2.2.2.2.2.2.2.2.2.2.2.1
theorem k0_dev126_lt : ∀ (v53 : BitVec 32) (k0_hw1 : k0_chk1 v53), (k0_dev126 v53) < nD := fun v53 k0_hw1 => k0_hw1.2.1.2.2.2.2.2.2.2.2.2.2.2.2.2.2.2.2.2.2.2.2.2.2.2.2.2.2.2.2.2.2.1
theorem k0_dev127_lt : ∀ (v53 : BitVec 32) (k0_hw1 : k0_chk1 v53), (k0_dev127 v53) < nD := fun v53 k0_hw1 => k0_hw1.2.1.2.2.2.2.2.2.2.2.2.2.2.2.2.2.2.2.2.2.2.2.2.2.2.2.2.2.2.2.2.2.2
theorem k0_dev129_lt : ∀ (v53 : BitVec 32) (k0_hw1 : k0_chk1 v53), (k0_dev129 v53) < nD := fun v53 k0_hw1 => k0_hw1.2.2.1.1
theorem k0_dev132_lt : ∀ (v53 : BitVec 32) (k0_hw1 : k0_chk1 v53), (k0_dev132 v53) < nD := fun v53 k0_hw1 => k0_hw1.2.2.1.2.1
theorem k0_dev134_lt : ∀ (v53 : BitVec 32) (k0_hw1 : k0_chk1 v53), (k0_dev134 v53) < nD := fun v53 k0_hw1 => k0_hw1.2.2.1.2.2.1
theorem k0_dev135_lt : ∀ (v53 : BitVec 32) (k0_hw1 : k0_chk1 v53), (k0_dev135 v53) < nD := fun v53 k0_hw1 => k0_hw1.2.2.1.2.2.2.1
theorem k0_dev137_lt : ∀ (v53 : BitVec 32) (k0_hw1 : k0_chk1 v53), (k0_dev137 v53) < nD := fun v53 k0_hw1 => k0_hw1.2.2.1.2.2.2.2.1
theorem k0_dev140_lt : ∀ (v53 : BitVec 32) (k0_hw1 : k0_chk1 v53), (k0_dev140 v53) < nD := fun v53 k0_hw1 => k0_hw1.2.2.1.2.2.2.2.2.1
theorem k0_dev142_lt : ∀ (v53 : BitVec 32) (k0_hw1 : k0_chk1 v53), (k0_dev142 v53) < nD := fun v53 k0_hw1 => k0_hw1.2.2.1.2.2.2.2.2.2.1
theorem k0_dev143_lt : ∀ (v53 : BitVec 32) (k0_hw1 : k0_chk1 v53), (k0_dev143 v53) < nD := fun v53 k0_hw1 => k0_hw1.2.2.1.2.2.2.2.2.2.2.1
theorem k0_dev145_lt : ∀ (v53 : BitVec 32) (k0_hw1 : k0_chk1 v53), (k0_dev145 v53) < nD := fun v53 k0_hw1 => k0_hw1.2.2.1.2.2.2.2.2.2.2.2.1
theorem k0_dev148_lt : ∀ (v53 : BitVec 32) (k0_hw1 : k0_chk1 v53), (k0_dev148 v53) < nD := fun v53 k0_hw1 => k0_hw1.2.2.1.2.2.2.2.2.2.2.2.2.1
theorem k0_dev150_lt : ∀ (v53 : BitVec 32) (k0_hw1 : k0_chk1 v53), (k0_dev150 v53) < nD := fun v53 k0_hw1 => k0_hw1.2.2.1.2.2.2.2.2.2.2.2.2.2.1
theorem k0_dev151_lt : ∀ (v53 : BitVec 32) (k0_hw1 : k0_chk1 v53), (k0_dev151 v53) < nD := fun v53 k0_hw1 => k0_hw1.2.2.1.2.2.2.2.2.2.2.2.2.2.2.1
theorem k0_dev153_lt : ∀ (v53 : BitVec 32) (k0_hw1 : k0_chk1 v53), (k0_dev153 v53) < nD := fun v53 k0_hw1 => k0_hw1.2.2.1.2.2.2.2.2.2.2.2.2.2.2.2.1
theorem k0_dev156_lt : ∀ (v53 : BitVec 32) (k0_hw1 : k0_chk1 v53), (k0_dev156 v53) < nD := fun v53 k0_hw1 => k0_hw1.2.2.1.2.2.2.2.2.2.2.2.2.2.2.2.2.1
theorem k0_dev158_lt : ∀ (v53 : BitVec 32) (k0_hw1 : k0_chk1 v53), (k0_dev158 v53) < nD := fun v53 k0_hw1 => k0_hw1.2.2.1.2.2.2.2.2.2.2.2.2.2.2.2.2.2.1
theorem k0_dev159_lt : ∀ (v53 : BitVec 32) (k0_hw1 : k0_chk1 v53), (k0_dev159 v53) < nD := fun v53 k0_hw1 => k0_hw1.2.2.1.2.2.2.2.2.2.2.2.2.2.2.2.2.2.2.1
theorem k0_dev161_lt : ∀ (v53 : BitVec 32) (k0_hw1 : k0_chk1 v53), (k0_dev161 v53) < nD := fun v53 k0_hw1 => k0_hw1.2.2.1.2.2.2.2.2.2.2.2.2.2.2.2.2.2.2.2.1
theorem k0_dev164_lt : ∀ (v53 : BitVec 32) (k0_hw1 : k0_chk1 v53), (k0_dev164 v53) < nD := fun v53 k0_hw1 => k0_hw1.2.2.1.2.2.2.2.2.2.2.2.2.2.2.2.2.2.2.2.2.1
theorem k0_dev166_lt : ∀ (v53 : BitVec 32) (k0_hw1 : k0_chk1 v53), (k0_dev166 v53) < nD := fun v53 k0_hw1 => k0_hw1.2.2.1.2.2.2.2.2.2.2.2.2.2.2.2.2.2.2.2.2.2.1
theorem k0_dev167_lt : ∀ (v53 : BitVec 32) (k0_hw1 : k0_chk1 v53), (k0_dev167 v53) < nD := fun v53 k0_hw1 => k0_hw1.2.2.1.2.2.2.2.2.2.2.2.2.2.2.2.2.2.2.2.2.2.2.1
theorem k0_dev169_lt : ∀ (v53 : BitVec 32) (k0_hw1 : k0_chk1 v53), (k0_dev169 v53) < nD := fun v53 k0_hw1 => k0_hw1.2.2.1.2.2.2.2.2.2.2.2.2.2.2.2.2.2.2.2.2.2.2.2.1
theorem k0_dev172_lt : ∀ (v53 : BitVec 32) (k0_hw1 : k0_chk1 v53), (k0_dev172 v53) < nD := fun v53 k0_hw1 => k0_hw1.2.2.1.2.2.2.2.2.2.2.2.2.2.2.2.2.2.2.2.2.2.2.2.2.1
theorem k0_dev174_lt : ∀ (v53 : BitVec 32) (k0_hw1 : k0_chk1 v53), (k0_dev174 v53) < nD := fun v53 k0_hw1 => k0_hw1.2.2.1.2.2.2.2.2.2.2.2.2.2.2.2.2.2.2.2.2.2.2.2.2.2.1
theorem k0_dev175_lt : ∀ (v53 : BitVec 32) (k0_hw1 : k0_chk1 v53), (k0_dev175 v53) < nD := fun v53 k0_hw1 => k0_hw1.2.2.1.2.2.2.2.2.2.2.2.2.2.2.2.2.2.2.2.2.2.2.2.2.2.2.1
theorem k0_dev177_lt : ∀ (v53 : BitVec 32) (k0_hw1 : k0_chk1 v53), (k0_dev177 v53) < nD := fun v53 k0_hw1 => k0_hw1.2.2.1.2.2.2.2.2.2.2.2.2.2.2.2.2.2.2.2.2.2.2.2.2.2.2.2.1
theorem k0_dev180_lt : ∀ (v53 : BitVec 32) (k0_hw1 : k0_chk1 v53), (k0_dev180 v53) < nD := fun v53 k0_hw1 => k0_hw1.2.2.1.2.2.2.2.2.2.2.2.2.2.2.2.2.2.2.2.2.2.2.2.2.2.2.2.2.1
theorem k0_dev182_lt : ∀ (v53 : BitVec 32) (k0_hw1 : k0_chk1 v53), (k0_dev182 v53) < nD := fun v53 k0_hw1 => k0_hw1.2.2.1.2.2.2.2.2.2.2.2.2.2.2.2.2.2.2.2.2.2.2.2.2.2.2.2.2.2.1
theorem k0_dev183_lt : ∀ (v53 : BitVec 32) (k0_hw1 : k0_chk1 v53), (k0_dev183 v53) < nD := fun v53 k0_hw1 => k0_hw1.2.2.1.2.2.2.2.2.2.2.2.2.2.2.2.2.2.2.2.2.2.2.2.2.2.2.2.2.2.2.1
theorem k0_dev185_lt : ∀ (v53 : BitVec 32) (k0_hw1 : k0_chk1 v53), (k0_dev185 v53) < nD := fun v53 k0_hw1 => k0_hw1.2.2.1.2.2.2.2.2.2.2.2.2.2.2.2.2.2.2.2.2.2.2.2.2.2.2.2.2.2.2.2.1
theorem k0_dev188_lt : ∀ (v53 : BitVec 32) (k0_hw1 : k0_chk1 v53), (k0_dev188 v53) < nD := fun v53 k0_hw1 => k0_hw1.2.2.1.2.2.2.2.2.2.2.2.2.2.2.2.2.2.2.2.2.2.2.2.2.2.2.2.2.2.2.2.2.1
theorem k0_dev190_lt : ∀ (v53 : BitVec 32) (k0_hw1 : k0_chk1 v53), (k0_dev190 v53) < nD := fun v53 k0_hw1 => k0_hw1.2.2.1.2.2.2.2.2.2.2.2.2.2.2.2.2.2.2.2.2.2.2.2.2.2.2.2.2.2.2.2.2.2.1
theorem k0_dev191_lt : ∀ (v53 : BitVec 32) (k0_hw1 : k0_chk1 v53), (k0_dev191 v53) < nD := fun v53 k0_hw1 => k0_hw1.2.2.1.2.2.2.2.2.2.2.2.2.2.2.2.2.2.2.2.2.2.2.2.2.2.2.2.2.2.2.2.2.2.2
theorem k0_dev193_lt : ∀ (v53 : BitVec 32) (k0_hw1 : k0_chk1 v53), (k0_dev193 v53) < nD := fun v53 k0_hw1 => k0_hw1.2.2.2.1
theorem k0_dev196_lt : ∀ (v53 : BitVec 32) (k0_hw1 : k0_chk1 v53), (k0_dev196 v53) < nD := fun v53 k0_hw1 => k0_hw1.2.2.2.2.1
theorem k0_dev198_lt : ∀ (v53 : BitVec 32) (k0_hw1 : k0_chk1 v53), (k0_dev198 v53) < nD := fun v53 k0_hw1 => k0_hw1.2.2.2.2.2.1
theorem k0_dev199_lt : ∀ (v53 : BitVec 32) (k0_hw1 : k0_chk1 v53), (k0_dev199 v53) < nD := fun v53 k0_hw1 => k0_hw1.2.2.2.2.2.2.1
theorem k0_dev201_lt : ∀ (v53 : BitVec 32) (k0_hw1 : k0_chk1 v53), (k0_dev201 v53) < nD := fun v53 k0_hw1 => k0_hw1.2.2.2.2.2.2.2.1
theorem k0_dev204_lt : ∀ (v53 : BitVec 32) (k0_hw1 : k0_chk1 v53), (k0_dev204 v53) < nD := fun v53 k0_hw1 => k0_hw1.2.2.2.2.2.2.2.2.1
theorem k0_dev206_lt : ∀ (v53 : BitVec 32) (k0_hw1 : k0_chk1 v53), (k0_dev206 v53) < nD := fun v53 k0_hw1 => k0_hw1.2.2.2.2.2.2.2.2.2.1
theorem k0_dev207_lt : ∀ (v53 : BitVec 32) (k0_hw1 : k0_chk1 v53), (k0_dev207 v53) < nD := fun v53 k0_hw1 => k0_hw1.2.2.2.2.2.2.2.2.2.2.1
theorem k0_dev209_lt : ∀ (v53 : BitVec 32) (k0_hw1 : k0_chk1 v53), (k0_dev209 v53) < nD := fun v53 k0_hw1 => k0_hw1.2.2.2.2.2.2.2.2.2.2.2.1
theorem k0_dev212_lt : ∀ (v53 : BitVec 32) (k0_hw1 : k0_chk1 v53), (k0_dev212 v53) < nD := fun v53 k0_hw1 => k0_hw1.2.2.2.2.2.2.2.2.2.2.2.2.1
theorem k0_dev214_lt : ∀ (v53 : BitVec 32) (k0_hw1 : k0_chk1 v53), (k0_dev214 v53) < nD := fun v53 k0_hw1 => k0_hw1.2.2.2.2.2.2.2.2.2.2.2.2.2.1
theorem k0_dev215_lt : ∀ (v53 : BitVec 32) (k0_hw1 : k0_chk1 v53), (k0_dev215 v53) < nD := fun v53 k0_hw1 => k0_hw1.2.2.2.2.2.2.2.2.2.2.2.2.2.2.1
theorem k0_dev217_lt : ∀ (v53 : BitVec 32) (k0_hw1 : k0_chk1 v53), (k0_dev217 v53) < nD := fun v53 k0_hw1 => k0_hw1.2.2.2.2.2.2.2.2.2.2.2.2.2.2.2.1
theorem k0_dev220_lt : ∀ (v53 : BitVec 32) (k0_hw1 : k0_chk1 v53), (k0_dev220 v53) < nD := fun v53 k0_hw1 => k0_hw1.2.2.2.2.2.2.2.2.2.2.2.2.2.2.2.2.1
theorem k0_dev222_lt : ∀ (v53 : BitVec 32) (k0_hw1 : k0_chk1 v53), (k0_dev222 v53) < nD := fun v53 k0_hw1 => k0_hw1.2.2.2.2.2.2.2.2.2.2.2.2.2.2.2.2.2.1
theorem k0_dev223_lt : ∀ (v53 : BitVec 32) (k0_hw1 : k0_chk1 v53), (k0_dev223 v53) < nD := fun v53 k0_hw1 => k0_hw1.2.2.2.2.2.2.2.2.2.2.2.2.2.2.2.2.2.2.1
theorem k0_dev225_lt : ∀ (v53 : BitVec 32) (k0_hw1 : k0_chk1 v53), (k0_dev225 v53) < nD := fun v53 k0_hw1 => k0_hw1.2.2.2.2.2.2.2.2.2.2.2.2.2.2.2.2.2.2.2.1
theorem k0_dev228_lt : ∀ (v53 : BitVec 32) (k0_hw1 : k0_chk1 v53), (k0_dev228 v53) < nD := fun v53 k0_hw1 => k0_hw1.2.2.2.2.2.2.2.2.2.2.2.2.2.2.2.2.2.2.2.2.1
theorem k0_dev230_lt : ∀ (v53 : BitVec 32) (k0_hw1 : k0_chk1 v53), (k0_dev230 v53) < nD := fun v53 k0_hw1 => k0_hw1.2.2.2.2.2.2.2.2.2.2.2.2.2.2.2.2.2.2.2.2.2.1
theorem k0_dev231_lt : ∀ (v53 : BitVec 32) (k0_hw1 : k0_chk1 v53), (k0_dev231 v53) < nD := fun v53 k0_hw1 => k0_hw1.2.2.2.2.2.2.2.2.2.2.2.2.2.2.2.2.2.2.2.2.2.2.1
theorem k0_dev233_lt : ∀ (v53 : BitVec 32) (k0_hw1 : k0_chk1 v53), (k0_dev233 v53) < nD := fun v53 k0_hw1 => k0_hw1.2.2.2.2.2.2.2.2.2.2.2.2.2.2.2.2.2.2.2.2.2.2.2.1
theorem k0_dev236_lt : ∀ (v53 : BitVec 32) (k0_hw1 : k0_chk1 v53), (k0_dev236 v53) < nD := fun v53 k0_hw1 => k0_hw1.2.2.2.2.2.2.2.2.2.2.2.2.2.2.2.2.2.2.2.2.2.2.2.2.1
theorem k0_dev238_lt : ∀ (v53 : BitVec 32) (k0_hw1 : k0_chk1 v53), (k0_dev238 v53) < nD := fun v53 k0_hw1 => k0_hw1.2.2.2.2.2.2.2.2.2.2.2.2.2.2.2.2.2.2.2.2.2.2.2.2.2.1
theorem k0_dev239_lt : ∀ (v53 : BitVec 32) (k0_hw1 : k0_chk1 v53), (k0_dev239 v53) < nD := fun v53 k0_hw1 => k0_hw1.2.2.2.2.2.2.2.2.2.2.2.2.2.2.2.2.2.2.2.2.2.2.2.2.2.2.1
theorem k0_dev241_lt : ∀ (v53 : BitVec 32) (k0_hw1 : k0_chk1 v53), (k0_dev241 v53) < nD := fun v53 k0_hw1 => k0_hw1.2.2.2.2.2.2.2.2.2.2.2.2.2.2.2.2.2.2.2.2.2.2.2.2.2.2.2.1
theorem k0_dev244_lt : ∀ (v53 : BitVec 32) (k0_hw1 : k0_chk1 v53), (k0_dev244 v53) < nD := fun v53 k0_hw1 => k0_hw1.2.2.2.2.2.2.2.2.2.2.2.2.2.2.2.2.2.2.2.2.2.2.2.2.2.2.2.2.1
theorem k0_dev246_lt : ∀ (v53 : BitVec 32) (k0_hw1 : k0_chk1 v53), (k0_dev246 v53) < nD := fun v53 k0_hw1 => k0_hw1.2.2.2.2.2.2.2.2.2.2.2.2.2.2.2.2.2.2.2.2.2.2.2.2.2.2.2.2.2

def k0_off126 (v7357 : BitVec 32) : Fin 2 → Nat :=
  let c128_i32_6739 : BitVec 32 := 128#32
  let v7358 : BitVec 32 := Scalar.muli v7357 c128_i32_6739
  let v7359 : Index := Scalar.indexCast v7358
  let c0_6740 : Index := 0#32
  ![v7359.toNat, 0]

def k0_chk128 (v7357 : BitVec 32) : Prop :=
  (∀ a, (k0_off126 v7357) a + S128x128.size a ≤ S4096x128.size a)
theorem k0_off126_inb : ∀ (v7357 : BitVec 32) (k0_hw128 : k0_chk128 v7357), ∀ a, (k0_off126 v7357) a + S128x128.size a ≤ S4096x128.size a := fun v7357 k0_hw128 => k0_hw128

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Ring.KernelIdeal.Body.lean ====
/- The kernel's body as one program over a symbolic stream and hop, and that the printed body is it. -/
module

public import proofs.«01_k».proof.Proof.Gen.KernelIdeal
public import proofs.«01_k».proof.Proof.Gen.KernelIdeal.Points
public import Idealize.ShloMosaic.Lib.Pipeline.Kit
public import Idealize.ShloMosaic.Lib.Pipeline.Regions

@[expose] public section

noncomputable section

namespace Cert.KernelIdeal.Ring

open Idealize.ShloMosaic Idealize.SL.Sem
open Cert.KernelIdeal Cert.KernelIdeal.Gen

variable {F : FTy → Type} [FloatOps F]

/-- The kernel's programs. -/
abbrev KProg (F : FTy → Type) [FloatOps F] : Type 1 := Prog (TpuEff nD τ sig (Elt F) Λ₀ .tc) PUnit

/-- What one of the four streams works on: its two landing slots, its send and receive semaphores and
    its credit semaphore. -/
structure Stream where
  comm : Memref sig .tc .vmem S2x128x2048 .f32
  ss : DmaSems sig S2
  rs : DmaSems sig S2
  cr : Sems sig S_

/-- Slot `s` of a stream's landing buffer lies inside it. -/
theorem inb_slot (s : Fin 2) : ∀ a, (![s.val, 0, 0] : Fin 3 → Nat) a + S1x128x2048.size a ≤ S2x128x2048.size a := by
  revert s; decide
/-- Semaphore `s` of a pair lies inside the pair. -/
theorem inb_sem (s : Fin 2) : ∀ a, (![s.val] : Fin 1 → Nat) a + S1.size a ≤ S2.size a := by
  revert s; decide
/-- The columns of stream `k` lie inside the weights and inside the result. -/
theorem inb_cols (k : Fin 4) : ∀ a, (![0, 2048 * k.val] : Fin 2 → Nat) a + S128x2048.size a ≤ S128x8192.size a := by
  revert k; decide

/-- The rectangle of slot `s`. -/
abbrev slotRect (s : Fin 2) := Rect.unit (s := S2x128x2048) ![s.val, 0, 0] S1x128x2048.size (inb_slot s)
/-- The rectangle of stream `k`'s columns. -/
abbrev colRect (k : Fin 4) := Rect.unit (s := S128x8192) ![0, 2048 * k.val] S128x2048.size (inb_cols k)
/-- Slot `s` of a landing buffer, as the copies name it. -/
abbrev slotM (M : Memref sig .tc .vmem S2x128x2048 .f32) (s : Fin 2) : Memref sig .tc .vmem S128x2048 .f32 :=
  (M.slice (slotRect s) (fun _ => rfl)).squeeze S128x2048 squeezes_S1x128x2048_S128x2048
/-- Semaphore `s` of a pair, as the copies name it. -/
abbrev pairSem (A : DmaSems sig S2) (s : Fin 2) : DmaSems sig S_ :=
  (A.slice (Rect.unit (s := S2) ![s.val] S1.size (inb_sem s))).squeeze S_ squeezes_S1_S_

/-- The barrier semaphore, as the kernel names it. -/
abbrev barSem : Sem sig := (SemArray.scalar (sig.barrier 0 rfl) : Sems sig S_).sem

/-- The word a table holds at an index, as the kernel reads it: a masked sum. -/
def tabAt (tbl : IVec S1x32 32) (i : BitVec 32) : BitVec 32 :=
  extractAt ![0, 0, 0] (shapeCast S1x1x1 (multiReductionI .add [1, 2] S1
    (shapeCast S1x1x32 (select (cmpi .eq (iota .tc S1x32 32 [1] iota_S1x32_d1_w32) (broadcast S1x32 i)) tbl
      (broadcast S1x32 0#32)) shapeCasts_S1x32_S1x1x32) 0#32 reduces_S1x1x32_S1 rfl) shapeCasts_S1_S1x1x1)
    inpos_S1x1x1_p0_0_0

/-- The remainder by 32, never negative, as the kernel computes it. -/
def modW (x : BitVec 32) : BitVec 32 :=
  let m := Scalar.select (Scalar.cmpi .eq 32#32 0#32) 1#32 32#32
  let r := Scalar.remsi x m
  Scalar.select (Scalar.andi (Scalar.xori (Scalar.cmpi .slt r 0#32) (Scalar.cmpi .slt m 0#32)) (Scalar.cmpi .ne r 0#32))
    (Scalar.addi r m) r

/-- The device a word names. -/
def devW (v : BitVec 32) : Nat := (Scalar.addi 0#32 (Scalar.muli v 1#32)).toNat

/-- The first row of the block of rows a word names. -/
def rowW (v : BitVec 32) : Fin 2 → Nat := ![(Scalar.indexCast (Scalar.muli v 128#32)).toNat, 0]
/-- The block of rows a word names lies inside the operand. -/
def rowOk (v : BitVec 32) : Prop := (∀ a, (rowW v) a + S128x128.size a ≤ S4096x128.size a)
instance rowOk.dec : ∀ v : BitVec 32, Decidable (rowOk v) := fun v => decidable_of_iff' _ (Iff.of_eq (rowOk.eq_1 v))

/-- The position whose block of rows hop `h` of stream `k` adds. -/
def idxW (k : Fin 4) (h : Nat) (p : BitVec 32) : BitVec 32 :=
  bif k.val.blt 2 then Scalar.subi (Scalar.subi p (BitVec.ofNat 32 h)) 2#32
  else Scalar.addi (Scalar.addi p (BitVec.ofNat 32 h)) 2#32

/-- The product of a block of rows with a stream's columns. -/
def part (x : Vec F S128x128 .f32) (w : Vec F S128x2048 .f32) : FVec F S128x2048 .f32 :=
  matmul dot_S128x128_S128x2048_S128x2048_1_0_0_1_n_n none (shapeCast S128x128 x shapeCasts_S128x128_S128x128)
    (shapeCast S128x2048 w shapeCasts_S128x2048_S128x2048) (constant S128x2048 .f32 0x00000000#32)

section
variable (X : Memref sig .tc .vmem S4096x128 .f32) (Wt : Memref sig .tc .vmem S128x8192 .f32)
  (Rg Ps : Memref sig .tc .vmem S1x32 .i32) (O : Memref sig .tc .vmem S128x8192 .f32) (St : Fin 4 → Stream)

/-- Compute the product of the rows a (checked) word names with stream `k`'s columns. -/
def loadPart (k : Fin 4) (v : BitVec 32) (hv : rowOk v) (K : FVec F S128x2048 .f32 → KProg F) : KProg F :=
  .op (.load X (Rect.unit (s := S4096x128) (rowW v) S128x128.size hv).toLoadRect (View.loadsAt_vmem h_S128x128))
    fun (x : Vec F S128x128 .f32) =>
  .op (.load Wt (colRect k).toLoadRect (View.loadsAt_vmem h_S128x2048)) fun (w : Vec F S128x2048 .f32) =>
  K (part x w)

/-- Check the word naming hop `h`'s block of stream `k`, and compute its product. -/
def nextPart (ring : IVec S1x32 32) (p : BitVec 32) (k : Fin 4) (h : Nat) (K : FVec F S128x2048 .f32 → KProg F) :
    KProg F :=
  .op (.assume (rowOk (tabAt ring (modW (idxW k h p)))) (rowOk.dec (tabAt ring (modW (idxW k h p))))) fun hv =>
  loadPart X Wt k (tabAt ring (modW (idxW k h p))) hv.down K

/-- Overwrite slot `s` of a landing buffer (the kernel reads what it overwrites first). -/
def putSlot (M : Memref sig .tc .vmem S2x128x2048 .f32) (s : Fin 2) (v : FVec F S128x2048 .f32) (K : KProg F) : KProg F :=
  .op (.load M (slotRect s).toLoadRect (View.loadsAt_vmem h_S1x128x2048)) fun (_ : Vec F S1x128x2048 .f32) =>
  .op (.store M (slotRect s) (shapeCast S1x128x2048 v shapeCasts_S128x2048_S1x128x2048) Finset.univ
    (View.stores_vmem_bits_univ h_S1x128x2048 rfl) (.inl rfl)) fun _ => K

/-- Start a hop of stream `k`: copy slot `s` to slot `t` of the device `d`. -/
def sendHop (k : Fin 4) (s t : Fin 2) (d : Dev nD) (K : KProg F) : KProg F :=
  .op (.enqueueDma (slotM (St k).comm s) (.remote (Dev.tc d) (slotM (St k).comm t)
      (.dma (pairSem (St k).ss s).sem)) (.dma (pairSem (St k).rs t).sem)
      ((View.wordExact_bits rfl).reshape _ _) ((View.wordExact_bits rfl).reshape _ _) ⟨⟨rfl, Or.inl rfl⟩, trivial⟩)
    fun _ => K

/-- Wait for a hop of stream `k`: for the copy sent from slot `s` and for the copy landing in slot `t`. -/
def waitHop (k : Fin 4) (s t : Fin 2) (K : KProg F) : KProg F :=
  .op (.waitDma2 (pairSem (St k).ss s).sem (slotM (St k).comm t) (slotM (St k).comm s)
      ((View.wordExact_bits rfl).reshape _ _) ((View.wordExact_bits rfl).reshape _ _)) fun _ =>
  .op (.waitDma2 (pairSem (St k).rs t).sem (slotM (St k).comm s) (slotM (St k).comm t)
      ((View.wordExact_bits rfl).reshape _ _) ((View.wordExact_bits rfl).reshape _ _)) fun _ => K

/-- One step of stream `k` at hop `h`, sent from slot `s` to slot `t`: the hop lands, its sender is freed, the
    partial product is added, the next hop is sent once its landing slot is free, and the next partial product
    is computed. -/
def step (ring : IVec S1x32 32) (p : BitVec 32) (dst up : Fin 4 → Dev nD) (k : Fin 4) (h : Nat) (s t : Fin 2)
    (loc : FVec F S128x2048 .f32) (K : FVec F S128x2048 .f32 → KProg F) : KProg F :=
  waitHop St k s t <|
  .op (.semSignal ((up k : Dev nD), .tc) (St k).cr.sem ((1 : ℕ) : ℤ)) fun _ =>
  .op (.load (St k).comm (slotRect t).toLoadRect (View.loadsAt_vmem h_S1x128x2048))
    fun (v : Vec F S1x128x2048 .f32) =>
  putSlot (St k).comm t (addf (shapeCast S128x2048 v shapeCasts_S1x128x2048_S128x2048) loc) <|
  .op (.semWait (St k).cr.sem ((1 : ℕ) : ℤ)) fun _ =>
  sendHop St k t s (dst k) <|
  nextPart X Wt ring p k (h + 1) K

/-- The last step of stream `k`: the last hop lands, and the result's columns are written. -/
def lastStep (k : Fin 4) (s t : Fin 2) (loc : FVec F S128x2048 .f32) (K : KProg F) : KProg F :=
  waitHop St k s t <|
  .op (.load (St k).comm (slotRect t).toLoadRect (View.loadsAt_vmem h_S1x128x2048))
    fun (v : Vec F S1x128x2048 .f32) =>
  .op (.load O (colRect k).toLoadRect (View.loadsAt_vmem h_S128x2048)) fun (_ : Vec F S128x2048 .f32) =>
  .op (.store O (colRect k)
    (maximumf (addf (shapeCast S128x2048 v shapeCasts_S1x128x2048_S128x2048) loc)
      (broadcast S128x2048 (Scalar.ofBits .f32 0x00000000#32))) Finset.univ
    (View.stores_vmem_bits_univ h_S128x2048 rfl) (.inl rfl)) fun _ => K

/-- `n` hops of the four streams from hop `h` on, which goes from slot `s` to slot `t`. -/
def hops (ring : IVec S1x32 32) (p : BitVec 32) (dst up : Fin 4 → Dev nD)
    (K : (l0 l1 l2 l3 : FVec F S128x2048 .f32) → KProg F) (n : Nat) :
    (h : Nat) → (s t : Fin 2) → (l0 l1 l2 l3 : FVec F S128x2048 .f32) → KProg F :=
  Nat.rec (motive := fun _ => (h : Nat) → (s t : Fin 2) → (l0 l1 l2 l3 : FVec F S128x2048 .f32) → KProg F)
    (fun _ _ _ l0 l1 l2 l3 => K l0 l1 l2 l3)
    (fun _ ih h s t l0 l1 l2 l3 =>
      step X Wt St ring p dst up 0 h s t l0 fun l0 =>
      step X Wt St ring p dst up 1 h s t l1 fun l1 =>
      step X Wt St ring p dst up 2 h s t l2 fun l2 =>
      step X Wt St ring p dst up 3 h s t l3 fun l3 => ih (h + 1) t s l0 l1 l2 l3) n

/-- The device of the streams' next hop. -/
def dirD (a b : Dev nD) : Fin 4 → Dev nD := fun k => bif k.val.blt 2 then a else b

/-- Send a stream's first partial product: its own block of rows, into slot 0. -/
def first (k : Fin 4) (v : BitVec 32) (hv : rowOk v) (K : KProg F) : KProg F :=
  loadPart X Wt k v hv fun t => putSlot (St k).comm 0 t K

/-- The body once the neighbours' devices are known: the barrier, the first hops, the steps and the last ones. -/
def bodyRing (ring : IVec S1x32 32) (p nxt prv : BitVec 32) (dn dp : Dev nD) : KProg F :=
  .op (.semSignal (dp, .tc) barSem ((1 : ℕ) : ℤ)) fun _ =>
  .op (.semSignal (dn, .tc) barSem ((1 : ℕ) : ℤ)) fun _ =>
  .op (.semWait barSem ((2 : ℕ) : ℤ)) fun _ =>
  .op (.assume (rowOk prv) (rowOk.dec prv)) fun r1 =>
  .op (.assume (rowOk nxt) (rowOk.dec nxt)) fun r2 =>
  first X Wt St 0 prv r1.down <|
  first X Wt St 1 prv r1.down <|
  first X Wt St 2 nxt r2.down <|
  first X Wt St 3 nxt r2.down <|
  sendHop St 0 0 1 (dirD dn dp 0) <|
  sendHop St 1 0 1 (dirD dn dp 1) <|
  sendHop St 2 0 1 (dirD dn dp 2) <|
  sendHop St 3 0 1 (dirD dn dp 3) <|
  nextPart X Wt ring p 0 0 fun l0 =>
  nextPart X Wt ring p 1 0 fun l1 =>
  nextPart X Wt ring p 2 0 fun l2 =>
  nextPart X Wt ring p 3 0 fun l3 =>
  hops X Wt St ring p (dirD dn dp) (dirD dp dn) (fun l0 l1 l2 l3 =>
    lastStep O St 0 0 1 l0 <| lastStep O St 1 0 1 l1 <| lastStep O St 2 0 1 l2 <| lastStep O St 3 0 1 l3 <| .ret ⟨⟩)
    30 0 0 1 l0 l1 l2 l3

/-- The body once the tables are read: the neighbours' words are checked. -/
def bodyWords (ring : IVec S1x32 32) (p nxt prv : BitVec 32) : KProg F :=
  .op (.assume (k0_chk2 nxt) (k0_chk2.dec nxt)) fun h2 =>
  .op (.assume (k0_chk1 prv) (k0_chk1.dec prv)) fun h1 =>
  bodyRing X Wt O St ring p nxt prv ⟨devW nxt, k0_dev2_lt nxt h2.down⟩ ⟨devW prv, k0_dev1_lt prv h1.down⟩

/-- The position a device reads off the table of positions. -/
def posRd (ps : IVec S1x32 32) (d : Dev nD) : BitVec 32 := tabAt ps (Scalar.remsi (Scalar.divsi (Dev.word d) 1#32) 32#32)
/-- The neighbours' words, read off the table of the ring. -/
def nxtRd (ring : IVec S1x32 32) (p : BitVec 32) : BitVec 32 := tabAt ring (modW (Scalar.addi p 1#32))
def prvRd (ring : IVec S1x32 32) (p : BitVec 32) : BitVec 32 := tabAt ring (modW (Scalar.subi p 1#32))

/-- The body once the tables are read. -/
def bodyTabs (ring ps : IVec S1x32 32) (d : Dev nD) : KProg F :=
  bodyWords X Wt O St ring (posRd ps d) (nxtRd ring (posRd ps d)) (prvRd ring (posRd ps d))

/-- The kernel's body. -/
def body : KProg F :=
  .op .deviceId fun (d0 : Dev nD) =>
  .op (.load Rg (Rect.unit (s := S1x32) ![0, 0] S1x32.size inb_S1x32_S1x32_0_0).toLoadRect (View.loadsAt_vmem h_S1x32))
    fun (rv : Vec F S1x32 .i32) =>
  .op (.load Ps (Rect.unit (s := S1x32) ![0, 0] S1x32.size inb_S1x32_S1x32_0_0).toLoadRect (View.loadsAt_vmem h_S1x32))
    fun (pv : Vec F S1x32 .i32) =>
  bodyTabs X Wt O St (shapeCast S1x32 rv shapeCasts_S1x32_S1x32) (shapeCast S1x32 pv shapeCasts_S1x32_S1x32) d0
end

/-- The printed body is the program above. -/
theorem cc0_body_eq (arg0 : Memref sig .tc .vmem S4096x128 .f32) (harg0 : arg0.IsWhole) (arg1 : Memref sig .tc .vmem S128x8192 .f32) (harg1 : arg1.IsWhole) (arg2 : Memref sig .tc .vmem S1x32 .i32) (harg2 : arg2.IsWhole) (arg3 : Memref sig .tc .vmem S1x32 .i32) (harg3 : arg3.IsWhole) (arg4 : Memref sig .tc .vmem S128x8192 .f32) (harg4 : arg4.IsWhole) (arg5 : Memref sig .tc .vmem S2x128x2048 .f32) (harg5 : arg5.IsWhole) (arg6 : Memref sig .tc .vmem S2x128x2048 .f32) (harg6 : arg6.IsWhole) (arg7 : Memref sig .tc .vmem S2x128x2048 .f32) (harg7 : arg7.IsWhole) (arg8 : Memref sig .tc .vmem S2x128x2048 .f32) (harg8 : arg8.IsWhole) (arg9 : DmaSems sig S2) (arg10 : DmaSems sig S2) (arg11 : DmaSems sig S2) (arg12 : DmaSems sig S2) (arg13 : DmaSems sig S2) (arg14 : DmaSems sig S2) (arg15 : DmaSems sig S2) (arg16 : DmaSems sig S2) (arg17 : Sems sig S_) (arg18 : Sems sig S_) (arg19 : Sems sig S_) (arg20 : Sems sig S_) :
    (cc0_body arg0 harg0 arg1 harg1 arg2 harg2 arg3 harg3 arg4 harg4 arg5 harg5 arg6 harg6 arg7 harg7 arg8 harg8 arg9 arg10 arg11 arg12 arg13 arg14 arg15 arg16 arg17 arg18 arg19 arg20 : KProg F) = body arg0 arg1 arg2 arg3 arg4
      ![⟨arg5, arg9, arg13, arg17⟩, ⟨arg6, arg10, arg14, arg18⟩, ⟨arg7, arg11, arg15, arg19⟩, ⟨arg8, arg12, arg16, arg20⟩] := by
  chain_rfl

end Cert.KernelIdeal.Ring

end
-- ==== Proof.Ring.KernelIdeal.Geometry.lean ====
/- The ring of devices: who sits where, who sends to whom, whose block of rows each hop adds, and that the
   kernel's words name exactly these. -/
module

public import proofs.«01_k».proof.Proof.Ring.KernelIdeal.Body

@[expose] public section

noncomputable section

namespace Cert.KernelIdeal.Ring

open Idealize.ShloMosaic Idealize.SL.Sem
open Cert.KernelIdeal Cert.KernelIdeal.Gen

/-- The device at a position of the ring. -/
def devAt : Fin 32 → Dev nD :=
  ![0, 3, 4, 7, 15, 12, 11, 8, 16, 19, 20, 23, 31, 28, 27, 24, 25, 26, 29, 30, 22, 21, 18, 17, 9, 10, 13, 14, 6, 5, 2, 1]
/-- A device's position in the ring. -/
def posOf : Dev nD → Fin 32 :=
  ![0, 31, 30, 1, 2, 29, 28, 3, 7, 24, 25, 6, 5, 26, 27, 4, 8, 23, 22, 9, 10, 21, 20, 11, 15, 16, 17, 14, 13, 18, 19, 12]

theorem devAt_posOf (c : Dev nD) : devAt (posOf c) = c := by revert c; decide
theorem posOf_devAt (p : Fin 32) : posOf (devAt p) = p := by revert p; decide

/-- The next device of the ring, and the one before. -/
def nx (c : Dev nD) : Dev nD := devAt (posOf c + 1)
def pv (c : Dev nD) : Dev nD := devAt (posOf c - 1)

theorem pv_nx (c : Dev nD) : pv (nx c) = c := by revert c; decide
theorem nx_pv (c : Dev nD) : nx (pv c) = c := by revert c; decide
theorem nx_ne_pv (c : Dev nD) : nx c ≠ pv c := by revert c; decide

/-- Where stream `k` sends: two streams go one way around the ring, two the other. -/
def dst (k : Fin 4) (c : Dev nD) : Dev nD := dirD (nx c) (pv c) k
/-- Where stream `k`'s data comes from. -/
def up (k : Fin 4) (c : Dev nD) : Dev nD := dirD (pv c) (nx c) k

theorem up_dst (k : Fin 4) (c : Dev nD) : up k (dst k c) = c := by revert k c; decide
theorem dst_up (k : Fin 4) (c : Dev nD) : dst k (up k c) = c := by revert k c; decide

/-- The position `j + 1` places behind (for the streams going forward) or ahead (for the others). -/
def offs (k : Fin 4) (p : Fin 32) (j : Nat) : Fin 32 := bif k.val.blt 2 then p - Fin.ofNat 32 (j + 1) else p + Fin.ofNat 32 (j + 1)
/-- The device whose rows stream `k` adds on device `c` before hop `j` (counted from zero). -/
def blk (k : Fin 4) (j : Nat) (c : Dev nD) : Dev nD := devAt (offs k (posOf c) j)

theorem blk_zero (k : Fin 4) (c : Dev nD) : blk k 0 c = up k c := by revert k c; decide

/-- The device `j` steps upstream. -/
def upN (k : Fin 4) : Nat → Dev nD → Dev nD
  | 0, c => c
  | j + 1, c => up k (upN k j c)

/-- The tables the host hands over, as the kernel reads them. -/
def ringT : IVec S1x32 32 :=
  shapeCast S1x32 (shapeCast S1x32 (fun i : S32.Idx => lit0 (S32.rowMajor i)) shapeCasts_S32_S1x32) shapeCasts_S1x32_S1x32
def posT : IVec S1x32 32 :=
  shapeCast S1x32 (shapeCast S1x32 (fun i : S32.Idx => lit1 (S32.rowMajor i)) shapeCasts_S32_S1x32) shapeCasts_S1x32_S1x32

/-- A device, or a position, as a word. -/
abbrev word (d : Fin 32) : BitVec 32 := BitVec.ofNat 32 d.val

/-- The ring's table holds the device at each position; -/
theorem tabAt_ring (q : Fin 32) : tabAt ringT (word q) = word (devAt q) := by revert q; decide +kernel
/-- the other table holds each device's position, which is what the kernel reads of itself. -/
theorem tabAt_pos (c : Dev nD) :
    tabAt posT (Scalar.remsi (Scalar.divsi (Dev.word c) 1#32) 32#32) = word (posOf c) := by revert c; decide +kernel

theorem modW_next (q : Fin 32) : modW (Scalar.addi (word q) 1#32) = word (q + 1) := by revert q; decide +kernel
theorem modW_prev (q : Fin 32) : modW (Scalar.subi (word q) 1#32) = word (q - 1) := by revert q; decide +kernel
theorem modW_idx_fin (k : Fin 4) (h : Fin 31) (q : Fin 32) : modW (idxW k h.val (word q)) = word (offs k q (h.val + 1)) := by
  revert k h q; decide +kernel

/-- The neighbours' words. -/
theorem word_nxt (c : Dev nD) : tabAt ringT (modW (Scalar.addi (word (posOf c)) 1#32)) = word (nx c) := by
  rw [modW_next, tabAt_ring]; rfl
theorem word_prv (c : Dev nD) : tabAt ringT (modW (Scalar.subi (word (posOf c)) 1#32)) = word (pv c) := by
  rw [modW_prev, tabAt_ring]; rfl
/-- The word naming hop `h`'s block of rows. -/
theorem word_blk (k : Fin 4) (h : Nat) (hh : h < 31) (c : Dev nD) :
    tabAt ringT (modW (idxW k h (word (posOf c)))) = word (blk k (h + 1) c) := by
  rw [modW_idx_fin k ⟨h, hh⟩, tabAt_ring]; rfl

/-- A device's word names its block of rows, which lies inside the operand. -/
theorem rowW_word (d : Fin 32) : rowW (word d) = ![128 * d.val, 0] := by revert d; decide +kernel
theorem rowOk_word (d : Fin 32) : rowOk (word d) := by revert d; decide +kernel

/-- A device's word passes every check the kernel makes of its neighbours, and names the device. -/
theorem chk2_word (d : Fin 32) : k0_chk2 (word d) := by revert d; decide +kernel
theorem chk1_word (d : Fin 32) : k0_chk1 (word d) := by revert d; decide +kernel
theorem devW_word (d : Fin 32) : devW (word d) = d.val := by revert d; decide +kernel

/-- Upstream's block before hop `j` is the block this device adds next. -/
theorem blk_up_fin (k : Fin 4) (j : Fin 31) (c : Dev nD) : blk k j.val (up k c) = blk k (j.val + 1) c := by
  revert k j c; decide +kernel
/-- The last block of rows added is the device's own. -/
theorem blk_last (k : Fin 4) (c : Dev nD) : blk k 31 c = c := by revert k c; decide
/-- Going upstream passes every device once. -/
theorem upN_bij (k : Fin 4) (c : Dev nD) : Function.Bijective fun j : Fin 32 => upN k j.val c := by
  rw [Finite.injective_iff_bijective.symm]
  revert k c; unfold Function.Injective; decide +kernel

end Cert.KernelIdeal.Ring

end
-- ==== Proof.Ring.KernelIdeal.Protocol.lean ====
/- The protocol of the ring: the semaphores by role, what each landing and each signal hands over, in which
   round, and what every device owes. -/
module

public import proofs.«01_k».proof.Proof.Ring.KernelIdeal.Geometry
public import proofs.«01_k».proof.Proof.Gen.KernelIdeal.Launch
public import Idealize.ShloMosaic.Lib.Rounds
public import Idealize.ShloMosaic.Lib.StableHlo
public import Idealize.ShloMosaic.Lib.Tactic
public import Idealize.ShloMosaic.PureOps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The streams and the semaphores by role -/

/-- The four streams' scratch operands. -/
def St : Fin 4 → Stream :=
  ![⟨Memref.whole cc0_scratch0, cc0_scratch4, cc0_scratch8, cc0_scratch12⟩,
    ⟨Memref.whole cc0_scratch1, cc0_scratch5, cc0_scratch9, cc0_scratch13⟩,
    ⟨Memref.whole cc0_scratch2, cc0_scratch6, cc0_scratch10, cc0_scratch14⟩,
    ⟨Memref.whole cc0_scratch3, cc0_scratch7, cc0_scratch11, cc0_scratch15⟩]

/-- What a semaphore is for. `send k s` serves stream `k`'s hops from slot `s`, `recv k t` those to slot `t`. -/
inductive Role where
  | bar
  | send (k : Fin 4) (s : Fin 2)
  | recv (k : Fin 4) (t : Fin 2)
  | cred (k : Fin 4)
  deriving DecidableEq

/-- The semaphore of a role. -/
def semOf : Role → SemLoc sig
  | .bar => .reg barSem
  | .send k s => .dma (pairSem (St k).ss s).sem
  | .recv k t => .dma (pairSem (St k).rs t).sem
  | .cred k => .reg (St k).cr.sem

/-- The role of a semaphore, if it has one. -/
def roleOf : SemLoc sig → Option Role
  | .reg i => if i.val = 4 then some .bar else some (.cred (Fin.ofNat 4 i.val))
  | .dma i => if i.val < 5 then none
    else if i.val < 13 then some (.send (Fin.ofNat 4 ((i.val - 5) / 2)) (Fin.ofNat 2 (i.val - 5)))
    else some (.recv (Fin.ofNat 4 ((i.val - 13) / 2)) (Fin.ofNat 2 (i.val - 13)))

theorem roleOf_semOf (ρ : Role) : roleOf (semOf ρ) = some ρ := by
  cases ρ with
  | bar => decide +kernel
  | send k s => revert k s; decide +kernel
  | recv k t => revert k t; decide +kernel
  | cred k => revert k; decide +kernel

theorem semOf_inj {ρ ρ' : Role} (h : semOf ρ = semOf ρ') : ρ = ρ' := by
  have := congrArg roleOf h
  rw [roleOf_semOf, roleOf_semOf] at this
  exact Option.some.inj this

/-- A device's semaphore of a role. -/
abbrev cell (c : Dev nD) (ρ : Role) : GSem nD τ sig := ((c : Thread nD τ), semOf ρ)

theorem cell_inj {c d : Dev nD} {ρ ρ' : Role} (h : cell c ρ = cell d ρ') : c = d ∧ ρ = ρ' :=
  ⟨congrArg (fun g : GSem nD τ sig => g.1.1) h, semOf_inj (congrArg Prod.snd h)⟩

/-! ## The parities of hops -/

/-- The slot hop `h` is sent from; it lands in slot `par (h + 1)`. -/
def par (h : Nat) : Fin 2 := ⟨h % 2, Nat.mod_lt _ (by decide)⟩

theorem par_val (h : Nat) : (par h).val = h % 2 := rfl
theorem par_add_two (h : Nat) : par (h + 2) = par h := Fin.ext (by rw [par_val, par_val]; omega)

/-- The hop a round of a send semaphore is, -/
def hopS (s : Fin 2) (r : Nat) : Nat := 2 * r + s.val
/-- and of a receive semaphore. -/
def hopR (t : Fin 2) (r : Nat) : Nat := 2 * r + (1 - t.val)
theorem hopS_par (h : Nat) : hopS (par h) (h / 2) = h := by unfold hopS; rw [par_val]; omega
theorem hopR_par (h : Nat) : hopR (par (h + 1)) (h / 2) = h := by unfold hopR; rw [par_val]; omega

/-! ## The resource algebra -/

abbrev UR₂ : Type := Rounds.URounds (GSem nD τ sig) Bool
abbrev UU : Type := UR sig nD τ × UR₂

local notation "𝕄" => MT nD τ sig ℕ (Elt F) ℕ UU ℕ

/-- The staging protocol's part and the ring's. -/
abbrev EP : Emb (UR sig nD τ) (MT nD τ sig ℕ (Elt F) ℕ UU ℕ) := embL
abbrev ER : Emb UR₂ (MT nD τ sig ℕ (Elt F) ℕ UU ℕ) := embR

/-! ## The values -/

variable (xv : Dev nD → Vec F S4096x128 .f32) (wv : Dev nD → Vec F S128x8192 .f32)

/-- Device `d`'s block of rows of device `c`'s operand. -/
def xBlk (c d : Dev nD) : Vec F S128x128 .f32 := fun i =>
  xv c ((Rect.unit (s := S4096x128) (rowW (word d)) S128x128.size (rowOk_word d)).emb i)
/-- Stream `k`'s columns of device `c`'s weights. -/
def wCol (c : Dev nD) (k : Fin 4) : Vec F S128x2048 .f32 := fun i => wv c ((colRect k).emb i)
/-- The `j`-th partial product stream `k` computes on device `c`. -/
def prt (c : Dev nD) (k : Fin 4) (j : Nat) : FVec F S128x2048 .f32 := part (xBlk xv c (blk k j c)) (wCol wv c k)
/-- What stream `k` sends from device `c` at hop `h`: the sum of the partial products so far. -/
def acc (k : Fin 4) : Nat → Dev nD → FVec F S128x2048 .f32
  | 0, c => prt xv wv c k 0
  | h + 1, c => addf (acc k h (up k c)) (prt xv wv c k (h + 1))
/-- What the kernel leaves in stream `k`'s columns of device `c`'s result. -/
def outv (k : Fin 4) (c : Dev nD) : FVec F S128x2048 .f32 :=
  maximumf (acc xv wv k 31 c) (broadcast S128x2048 (Scalar.ofBits .f32 0x00000000#32))

/-! ## The slots -/

/-- Slot `s` of stream `k`'s landing buffer. -/
abbrev slotL (k : Fin 4) (s : Fin 2) : Memref sig .tc .vmem S128x2048 .f32 := slotM (St k).comm s

/-- Device `c` holds slot `s` of stream `k` at contents `f`. -/
def slotPts (c : Dev nD) (k : Fin 4) (s : Fin 2) (f : Buf (Elt F) ((slotL k s).view.loc (c : Thread nD τ))) : sProp 𝕄 :=
  (slotL k s).view.loc (c : Thread nD τ) ↦[(slotL k s).view.set]{fullShare} f
/-- The slot at contents not chosen. -/
def slotAny (c : Dev nD) (k : Fin 4) (s : Fin 2) : sProp 𝕄 := iprop(∃ f, slotPts (F := F) c k s f)
/-- The slot at contents that read as `v`. -/
def slotVal (c : Dev nD) (k : Fin 4) (s : Fin 2) (v : FVec F S128x2048 .f32) : sProp 𝕄 :=
  iprop(∃ f, ⌜(slotL k s).view.read (Elt F) f = v⌝ ∗ slotPts (F := F) c k s f)

instance slotPts_storable (c : Dev nD) (k : Fin 4) (s : Fin 2) (f : Buf (Elt F) ((slotL k s).view.loc (c : Thread nD τ))) :
    BI.Storable (upEmb : UEmb _ 𝕄) (slotPts (F := F) c k s f) := by unfold slotPts; infer_instance
instance slotAny_storable (c : Dev nD) (k : Fin 4) (s : Fin 2) :
    BI.Storable (upEmb : UEmb _ 𝕄) (slotAny (F := F) c k s) := by unfold slotAny; infer_instance
instance slotVal_storable (c : Dev nD) (k : Fin 4) (s : Fin 2) (v : FVec F S128x2048 .f32) :
    BI.Storable (upEmb : UEmb _ 𝕄) (slotVal (F := F) c k s v) := by unfold slotVal; infer_instance

theorem slotVal_any (c : Dev nD) (k : Fin 4) (s : Fin 2) (v : FVec F S128x2048 .f32) :
    (slotVal c k s v : sProp 𝕄) ⊢ slotAny c k s := by
  unfold slotVal slotAny
  iintro ⟨%f, -, H⟩
  iexists f; iexact H

/-- What a copy of a slot credits. -/
abbrev N : ℕ := (slotL 0 0).view.dmaCredit
theorem N_eq (k : Fin 4) (s : Fin 2) : (slotL k s).view.dmaCredit = N := by revert k s; decide +kernel
theorem N_pos : 0 < N := View.dmaCredit_pos _ (by decide)

/-! ## The schedule -/

/-- The streams that send to the device a barrier unit comes from. -/
abbrev ways : Bool → Fin 4 × Fin 4 := fun | true => (0, 1) | false => (2, 3)
/-- The neighbour a barrier unit comes from. -/
abbrev nbr (d : Bool) (c : Dev nD) : Dev nD := match d with | true => nx c | false => pv c

/-- Handed over with a barrier unit: the landing slots of the first hops, and that their round is open. -/
def barPay (c : Dev nD) (d : Bool) : sProp 𝕄 :=
  iprop((slotAny (F := F) (nbr d c) (ways d).1 1 ∗ reached ER (cell (nbr d c) (.recv (ways d).1 1)) 0)
    ∗ (slotAny (F := F) (nbr d c) (ways d).2 1 ∗ reached ER (cell (nbr d c) (.recv (ways d).2 1)) 0))
/-- Handed back when hop `h` has left: its slot. -/
def sendPay (c : Dev nD) (k : Fin 4) (h : Nat) : sProp 𝕄 := slotAny (F := F) c k (par h)
/-- Handed over when hop `h` lands: the slot with the sender's sum, and that the sender's credit round is open. -/
def recvPay (c : Dev nD) (k : Fin 4) (h : Nat) : sProp 𝕄 :=
  iprop(slotVal c k (par (h + 1)) (acc xv wv k h (up k c)) ∗ reached ER (cell (up k c) (.cred k)) h)
/-- Handed over with credit `h`: the receiver's slot for hop `h + 1`, and that its round is open. -/
def credPay (c : Dev nD) (k : Fin 4) (h : Nat) : sProp 𝕄 :=
  iprop(slotAny (F := F) (dst k c) k (par h) ∗ reached ER (cell (dst k c) (.recv k (par h))) ((h + 1) / 2))

/-- The duties of a role's rounds. -/
def dutiesR : Role → ℕ → Finset Bool
  | .bar, r => if r = 0 then Finset.univ else ∅
  | .send _ s, r => if hopS s r < 31 then {true} else ∅
  | .recv _ t, r => if hopR t r < 31 then {true} else ∅
  | .cred _, r => if r < 30 then {true} else ∅
/-- The units of a role's duties. -/
def amountR : Role → ℕ
  | .bar | .cred _ => 1
  | .send _ _ | .recv _ _ => N
/-- What a role's duties hand over. -/
def payR (c : Dev nD) : Role → ℕ → Bool → sProp 𝕄
  | .bar, _, d => barPay (F := F) c d
  | .send k s, r, _ => sendPay (F := F) c k (hopS s r)
  | .recv k t, r, _ => recvPay xv wv c k (hopR t r)
  | .cred k, r, _ => credPay (F := F) c k r

instance payR_storable (c : Dev nD) (ρ : Role) (r : ℕ) (d : Bool) : BI.Storable (upEmb : UEmb _ 𝕄) (payR xv wv c ρ r d) := by
  cases ρ <;> unfold payR
  · unfold barPay; infer_instance
  · unfold sendPay; infer_instance
  · unfold recvPay; infer_instance
  · unfold credPay; infer_instance

/-- The ring's schedule. -/
def rd : Rounds.Schedule (GSem nD τ sig) Bool 𝕄 where
  duties g r := if g.1.2 = .tc then (match roleOf g.2 with | some ρ => dutiesR ρ r | none => ∅) else ∅
  unitless _ := False
  amount g _ _ := match roleOf g.2 with | some ρ => amountR ρ | none => 1
  payload g r d := match roleOf g.2 with | some ρ => payR xv wv g.1.1 ρ r d | none => iprop(emp)
  amount_pos g _ _ _ := by
    split
    · rename_i ρ _; cases ρ
      · exact Nat.one_pos
      · exact N_pos
      · exact N_pos
      · exact Nat.one_pos
    · exact Nat.one_pos

instance rd_payload_storable (g : GSem nD τ sig) (r : ℕ) (d : Bool) : BI.Storable (upEmb : UEmb _ 𝕄) ((rd xv wv).payload g r d) := by
  show BI.Storable upEmb (match roleOf g.2 with | some ρ => payR xv wv g.1.1 ρ r d | none => iprop(emp))
  split <;> infer_instance

section
variable (c : Dev nD) (ρ : Role) (r : ℕ)

theorem duties_cell : (rd xv wv).duties (cell c ρ) r = dutiesR ρ r := by
  show (if (.tc : Proc τ) = .tc then (match roleOf (semOf ρ) with | some ρ => dutiesR ρ r | none => ∅) else ∅) = _
  rw [if_pos rfl, roleOf_semOf]
theorem amount_cell (d : Bool) : (rd xv wv).amount (cell c ρ) r d = amountR ρ := by
  show (match roleOf (semOf ρ) with | some ρ => amountR ρ | none => 1) = _
  rw [roleOf_semOf]
theorem payload_cell (d : Bool) : (rd xv wv).payload (cell c ρ) r d = payR xv wv c ρ r d := by
  show (match roleOf (semOf ρ) with | some ρ => payR xv wv c ρ r d | none => iprop(emp)) = _
  rw [roleOf_semOf]

/-- A round of one duty: its whole is that duty's units and that duty's payload. -/
theorem expect_one (h : dutiesR ρ r = {true}) : (rd xv wv).expect (cell c ρ) r = amountR ρ := by
  unfold Schedule.expect Schedule.amountOf
  rw [duties_cell, h, Finset.sum_singleton, amount_cell]
theorem rest_one (h : dutiesR ρ r = {true}) :
    bigSep ((rd xv wv).duties (cell c ρ) r \ ∅) (fun d => (rd xv wv).payload (cell c ρ) r d) = payR xv wv c ρ r true := by
  rw [Finset.sdiff_empty, duties_cell, h, bigSep_singleton, payload_cell]

theorem expect_bar : (rd xv wv).expect (cell c .bar) 0 = 2 := by
  unfold Schedule.expect Schedule.amountOf
  rw [duties_cell]; rfl
theorem rest_bar :
    bigSep ((rd xv wv).duties (cell c .bar) 0 \ ∅) (fun d => (rd xv wv).payload (cell c .bar) 0 d)
      = iprop(barPay (F := F) c true ∗ barPay (F := F) c false) := by
  rw [Finset.sdiff_empty, duties_cell, show dutiesR .bar 0 = insert true {false} from by decide,
    bigSep_insert (by decide), bigSep_singleton, payload_cell, payload_cell]
  rfl
end

theorem dutiesR_send {h : Nat} (k : Fin 4) (hh : h < 31) : dutiesR (.send k (par h)) (h / 2) = {true} := by
  show (if hopS (par h) (h / 2) < 31 then {true} else ∅) = _
  rw [hopS_par, if_pos hh]
theorem dutiesR_recv {h : Nat} (k : Fin 4) (hh : h < 31) : dutiesR (.recv k (par (h + 1))) (h / 2) = {true} := by
  show (if hopR (par (h + 1)) (h / 2) < 31 then {true} else ∅) = _
  rw [hopR_par, if_pos hh]
theorem dutiesR_cred {h : Nat} (k : Fin 4) (hh : h < 30) : dutiesR (.cred k) h = {true} := if_pos hh

/-- The rounds a role has. -/
def lenR : Role → ℕ
  | .bar => 1
  | .send _ s => 16 - s.val
  | .recv _ t => 15 + t.val
  | .cred _ => 30
/-- No duty lies beyond them. -/
theorem duties_end (c : Dev nD) (ρ : Role) (r : ℕ) (h : lenR ρ ≤ r) : (rd xv wv).duties (cell c ρ) r = ∅ := by
  rw [duties_cell]
  cases ρ with
  | bar => exact if_neg (by have : 1 ≤ r := h; omega)
  | send k s => exact if_neg (by have : 16 - s.val ≤ r := h; have := s.isLt; unfold hopS; omega)
  | recv k t => exact if_neg (by have : 15 + t.val ≤ r := h; have := t.isLt; unfold hopR; omega)
  | cred k => exact if_neg (by have : 30 ≤ r := h; omega)

/-! ## What each device owes; the levels -/

/-- The landing hop `h` of stream `k` owes at its receiver; -/
abbrev recvT (c : Dev nD) (k : Fin 4) (h : ℕ) : CellTallies nD τ sig ℕ := tallyAt (cell (dst k c) (.recv k (par (h + 1)))) h N
/-- the credit owed upstream for hop `h`. -/
abbrev credT (c : Dev nD) (k : Fin 4) (h : ℕ) : CellTallies nD τ sig ℕ := tallyAt (cell (up k c) (.cred k)) h 1

/-- The stream and hop of the step that `j + 1` steps before the last ones. -/
abbrev stK (j : ℕ) : Fin 4 := Fin.ofNat 4 (119 - j)
abbrev stH (j : ℕ) : ℕ := (119 - j) / 4
/-- What the last `j` of the 120 forwarding steps owe. -/
def rem (c : Dev nD) : ℕ → CellTallies nD τ sig ℕ
  | 0 => 0
  | j + 1 => rem c j + recvT c (stK j) (stH j + 1) + credT c (stK j) (stH j)
/-- What is owed once the barrier is passed: the first hops, and the steps; with the barrier's units. -/
def owedB (c : Dev nD) : CellTallies nD τ sig ℕ := rem c 120 + recvT c 3 0 + recvT c 2 0 + recvT c 1 0 + recvT c 0 0
def O₀ (c : Dev nD) : CellTallies nD τ sig ℕ := owedB c + tallyAt (cell (nx c) .bar) 0 1 + tallyAt (cell (pv c) .bar) 0 1

/-- The indices of a cell's units: the hops. -/
def L (g : GSem nD τ sig) : Finset ℕ := if g.1.2 = .tc then Finset.range 32 else ∅
/-- The levels: the barrier below every landing and credit, those in the order the steps need them. -/
def lvR : Role → ℕ → ℕ
  | .bar, _ => 1
  | .send _ _, _ => 0
  | .recv k _, h => 2 * (4 * h + k.val) + 2
  | .cred k, h => 2 * (4 * h + k.val) + 3
def lv (g : GSem nD τ sig) (i : ℕ) : ℕ := match roleOf g.2 with | some ρ => lvR ρ i | none => 0

theorem L_of_ne (g : GSem nD τ sig) (h : g.1.2 ≠ .tc) : L g = ∅ := if_neg h
theorem L_tc (c : Dev nD) (sm : SemLoc sig) : L ((c : Thread nD τ), sm) = Finset.range 32 := if_pos rfl
theorem lv_cell (c : Dev nD) (ρ : Role) (i : ℕ) : lv (cell c ρ) i = lvR ρ i := by
  show (match roleOf (semOf ρ) with | some ρ => lvR ρ i | none => 0) = _
  rw [roleOf_semOf]

/-- Everything owed in `O` lies above the level `b`. -/
def Above (b : ℕ) (O : CellTallies nD τ sig ℕ) : Prop := ∀ g i, 0 < O g i → i ∈ L g ∧ b < lv g i

theorem above_zero (b : ℕ) : Above b 0 := fun g i h => absurd h (Nat.lt_irrefl 0)
theorem above_mono {b b' : ℕ} {O : CellTallies nD τ sig ℕ} (hb : b' ≤ b) (h : Above b O) : Above b' O :=
  fun g i hp => ⟨(h g i hp).1, lt_of_le_of_lt hb (h g i hp).2⟩
theorem above_add {b : ℕ} {O O' : CellTallies nD τ sig ℕ} (h : Above b O) (h' : Above b O') : Above b (O + O') := fun g i hp => by
  rw [Pi.add_apply, Finsupp.add_apply] at hp
  rcases Nat.add_pos_iff_pos_or_pos.mp hp with hp | hp
  · exact h g i hp
  · exact h' g i hp
theorem above_tally {b : ℕ} {c : Dev nD} {ρ : Role} {i n : ℕ} (hi : i < 32) (hb : b < lvR ρ i) :
    Above b (tallyAt (cell c ρ) i n) := fun g j hp => by
  rw [tallyAt_apply] at hp
  split at hp
  · next h => rw [h.1, h.2, L_tc, lv_cell]; exact ⟨Finset.mem_range.mpr hi, hb⟩
  · exact absurd hp (Nat.lt_irrefl 0)

theorem above_rem (c : Dev nD) : ∀ j, j ≤ 120 → Above (2 * (120 - j) + 2) (rem c j)
  | 0, _ => above_zero _
  | j + 1, hj => by
    unfold rem
    refine above_add (above_add (above_mono (by omega) (above_rem c j (by omega))) (above_tally (by unfold stH; omega) ?_))
      (above_tally (by unfold stH; omega) ?_)
    · show _ < 2 * (4 * ((119 - j) / 4 + 1) + (119 - j) % 4) + 2; omega
    · show _ < 2 * (4 * ((119 - j) / 4) + (119 - j) % 4) + 3; omega

theorem above_owedB (c : Dev nD) : Above 1 (owedB c) := by
  unfold owedB
  refine above_add (above_add (above_add (above_add (above_mono (by omega) (above_rem c 120 (le_refl _))) ?_) ?_) ?_) ?_ <;>
    exact above_tally (by omega) (by show 1 < 2 * _ + 2; omega)
theorem above_O₀ (c : Dev nD) : Above 0 (O₀ c) := by
  unfold O₀
  refine above_add (above_add (above_mono (by omega) (above_owedB c)) ?_) ?_ <;>
    exact above_tally (by omega) (by show 0 < 1; omega)

/-- A wait below everything owed may be made. -/
theorem mayWait (c : Dev nD) (ρ : Role) (i : ℕ) (hi : i < 32) {O : CellTallies nD τ sig ℕ} (h : Above (lvR ρ i) O) :
    (levAts L lv : sProp 𝕄) ⊢ MayWait (c : Thread nD τ) (semOf ρ) i O :=
  MayOwe.of_cut (L := L) (lev := lv) (lvR ρ i)
    (fun p hp => by rw [Finset.mem_singleton.mp hp, L_tc]; exact Finset.mem_range.mpr hi)
    (fun g u hg => (h g u hg).1)
    (fun p hp => by rw [Finset.mem_singleton.mp hp]; exact le_of_eq (lv_cell c ρ i))
    (fun g u hg => (h g u hg).2)

end Cert.KernelIdeal.Ring

end
-- ==== Proof.Ring.KernelIdeal.Rules.lean ====
/- What one operation of the kernel does to the ring's protocol: waits, signals, copies, loads and stores. -/
module

public import proofs.«01_k».proof.Proof.Ring.KernelIdeal.Protocol

@[expose] public section

set_option maxRecDepth 20000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

/-- The weakest precondition of a piece of the kernel's program on device `c`. -/
abbrev WP (c : Dev nD) (p : KProg F) (Q : PUnit → sProp 𝕄) : sProp 𝕄 :=
  wp frame (wpE (defs₀ (F := F)) 𝒱₀ (c : Thread nD τ) none) Set.univ p Q

/-! ## The slots through the views that load, store and copy them -/

section
variable (M : Memref sig .tc .vmem S2x128x2048 .f32) (s : Fin 2)

theorem slot_set : (M.access (slotRect s)).set = (slotM M s).view.set := (View.set_reshape _ _).symm
/-- A load of a slot reads what the slot's view reads. -/
theorem slot_read (f : M.view.ty.Contents (Elt F)) :
    shapeCast S128x2048 ((M.access (slotRect s)).read (Elt F) f) shapeCasts_S1x128x2048_S128x2048 = (slotM M s).view.read (Elt F) f := rfl
/-- A store to a slot leaves what was stored. -/
theorem slot_write (f : M.view.ty.Contents (Elt F)) (v : FVec F S128x2048 .f32) :
    (slotM M s).view.read (Elt F) ((M.access (slotRect s)).write (Elt F) f
      (shapeCast S1x128x2048 v shapeCasts_S128x2048_S1x128x2048) Finset.univ) = v := by
  funext i
  refine (View.read_write_of_mem (v := M.access (slotRect s)) f _
    (Finset.mem_univ (Shape.reshapeEquiv squeezes_S1x128x2048_S128x2048.numel_eq i))).trans ?_
  show v (Shape.reshapeEquiv _ (Shape.reshapeEquiv _ i)) = v i
  refine congrArg v ?_
  exact (Shape.reshapeEquiv squeezes_S1x128x2048_S128x2048.numel_eq).symm_apply_apply i
end

variable (xv : Dev nD → Vec F S4096x128 .f32) (wv : Dev nD → Vec F S128x8192 .f32)

/-! ## The invariants -/

/-- The roles of a stream's five scratch semaphores, -/
def streamRole (k : Fin 4) : Fin 5 → Role := ![.cred k, .send k 0, .send k 1, .recv k 0, .recv k 1]
/-- and of all twenty. -/
def ownRole (i : Fin 20) : Role := streamRole (Fin.ofNat 4 (i.val / 5)) (Fin.ofNat 5 i.val)
theorem ownRole_pair (k : Fin 4) (j : Fin 5) : ownRole (finProdFinEquiv (k, j)) = streamRole k j := by revert k j; decide +kernel
theorem ownRole_inj : Function.Injective ownRole := by decide +kernel
theorem ownRole_ne_bar (i : Fin 20) : ownRole i ≠ .bar := by revert i; decide +kernel
theorem ownRole_surj (ρ : Role) (h : ρ ≠ .bar) : ∃ i, ownRole i = ρ := by
  cases ρ with
  | bar => exact absurd rfl h
  | send k s => clear h; revert k s; decide +kernel
  | recv k t => clear h; revert k t; decide +kernel
  | cred k => clear h; revert k; decide +kernel

def barEmb : Dev nD ↪ GSem nD τ sig := ⟨fun c => cell c .bar, fun _ _ h => (cell_inj h).1⟩
def ownEmb : Dev nD × Fin 20 ↪ GSem nD τ sig :=
  ⟨fun ci => cell ci.1 (ownRole ci.2), fun _ _ h => Prod.ext (cell_inj h).1 (ownRole_inj (cell_inj h).2)⟩
/-- The barrier cells, and the scratch semaphores' cells. -/
abbrev barCells : Finset (GSem nD τ sig) := Finset.univ.map barEmb
abbrev ownCells : Finset (GSem nD τ sig) := Finset.univ.map ownEmb

theorem cell_mem (c : Dev nD) (ρ : Role) : cell c ρ ∈ (barCells ∪ ownCells : Finset (GSem nD τ sig)) := by
  by_cases h : ρ = .bar
  · subst h; exact Finset.mem_union_left _ (Finset.mem_map_of_mem barEmb (Finset.mem_univ c))
  · obtain ⟨i, rfl⟩ := ownRole_surj ρ h
    exact Finset.mem_union_right _ (Finset.mem_map_of_mem ownEmb (Finset.mem_univ (c, i)))

/-- Every cell's invariant, at the names `κ`; and the levels. -/
def env (κ : GSem nD τ sig → ℕ) : sProp 𝕄 :=
  iprop((bigSep (barCells ∪ ownCells) fun g => cellInv ER (rd xv wv) (κ g) g) ∗ levAts L lv)
instance env_persistent (κ : GSem nD τ sig → ℕ) : BI.Persistent (env xv wv κ) := by unfold env; infer_instance

theorem inv_at (κ : GSem nD τ sig → ℕ) {g : GSem nD τ sig} (hg : g ∈ (barCells ∪ ownCells : Finset (GSem nD τ sig))) :
    (bigSep (barCells ∪ ownCells) fun g => (cellInv ER (rd xv wv) (κ g) g : sProp 𝕄)) ⊢ cellInv ER (rd xv wv) (κ g) g :=
  bigSep_elim hg

theorem env_inv (κ : GSem nD τ sig → ℕ) (c : Dev nD) (ρ : Role) :
    env xv wv κ ⊢ cellInv ER (rd xv wv) (κ (cell c ρ)) (cell c ρ) := by
  unfold env
  iintro ⟨H, -⟩
  iapply (inv_at xv wv κ (cell_mem c ρ)); iexact H
theorem env_lev (κ : GSem nD τ sig → ℕ) : env xv wv κ ⊢ (levAts L lv : sProp 𝕄) := by
  unfold env
  iintro ⟨-, H⟩; iexact H

/-- What a core still owes, whatever waits it has recorded. -/
def owesA (c : Dev nD) (O : CellTallies nD τ sig ℕ) : sProp 𝕄 := iprop(∃ W, owes (c : Thread nD τ) O W)

/-! ## What the rounds hand over -/

theorem payR_send (c : Dev nD) (k : Fin 4) (h : ℕ) (d : Bool) :
    payR xv wv c (.send k (par h)) (h / 2) d = slotAny (F := F) c k (par h) := by
  show sendPay (F := F) c k (hopS (par h) (h / 2)) = _
  rw [hopS_par]; rfl
theorem payR_recv (c : Dev nD) (k : Fin 4) (h : ℕ) (d : Bool) :
    payR xv wv c (.recv k (par (h + 1))) (h / 2) d = recvPay xv wv c k h := by
  show recvPay xv wv c k (hopR (par (h + 1)) (h / 2)) = _
  rw [hopR_par]

/-! ## Waits and signals -/

variable (κ : GSem nD τ sig → ℕ) (c : Dev nD)

/-- A wait for a whole round of one duty: its payload, and the next round is open. -/
theorem wait_cell {w : TpuEff nD τ sig (Elt F) Λ₀ .tc PUnit} (ρ : Role) (r i : ℕ)
    (hw : ∀ K : PUnit → sProp 𝕄, wpE (defs₀ (F := F)) 𝒱₀ (c : Thread nD τ) none Set.univ w K
      = waitSpec (c : Thread nD τ) Set.univ (semOf ρ) (amountR ρ) K)
    (hd : dutiesR ρ r = {true}) (hi : i < 32) {O : CellTallies nD τ sig ℕ} (hO : Above (lvR ρ i) O)
    (k : PUnit → KProg F) (Q : PUnit → sProp 𝕄) :
    iprop(env xv wv κ ∗ cred (tallyAt (cell c ρ) i (amountR ρ)) ∗ owesA c O ∗ atPos ER (cell c ρ) r ∅ 0)
      ⊢ iprop(((owesA c O ∗ atPos ER (cell c ρ) (r + 1) ∅ 0 ∗ reached ER (cell c ρ) (r + 1) ∗ payR xv wv c ρ r true)
          -∗ WP c (k ⟨⟩) Q) -∗ WP c (.op w k) Q) := by
  unfold owesA
  iintro ⟨#He, Hc, ⟨%W, HO⟩, Hat⟩ Hk
  ihave #Hl := (env_lev xv wv κ) $$ He
  iapply (Rounds.wp_wait_rest_token 𝒱₀ ER (rd xv wv) (c : Thread nD τ) none (κ := κ (cell c ρ)) hw (Set.mem_univ _) i
      (O := O) (W := W) (R := r) (m := 0) (T := ∅) ((Nat.zero_add _).trans (expect_one xv wv c ρ r hd).symm)) $$ [Hc HO Hat]
  · isplitr; · iapply (env_inv xv wv κ c ρ); iexact He
    isplitl [Hc]; · iexact Hc
    isplitl [HO]; · iexact HO
    isplitr; · iapply (mayWait (F := F) c ρ i hi hO); iexact Hl
    iexact Hat
  iintro ⟨HO, Hat, Hr, Hp⟩
  iapply Hk
  isplitl [HO]; · iexists _; iexact HO
  isplitl [Hat]; · iexact Hat
  isplitl [Hr]; · iexact Hr
  iapply (Entails.of_eq (rest_one xv wv c ρ r hd)) $$ Hp

/-- A wait for a copy of a slot. -/
theorem wait_slot {ρ : Role} {sm : DmaSem sig} (k : Fin 4) (s t : Fin 2) (hs : semOf ρ = .dma sm) (ha : amountR ρ = N)
    {h₁ : (slotL k t).view.WordExact} {h₂ : (slotL k s).view.WordExact} (K : PUnit → sProp 𝕄) :
    wpE (defs₀ (F := F)) 𝒱₀ (c : Thread nD τ) none Set.univ (.waitDma2 sm (slotL k t) (slotL k s) h₁ h₂) K
      = waitSpec (c : Thread nD τ) Set.univ (semOf ρ) (amountR ρ) K := by
  rw [hs, ha, ← N_eq k s]
  exact wpE_waitDma2_eq 𝒱₀ (c : Thread nD τ) none Set.univ K

/-- A signal of one unit to device `d`'s regular semaphore of a role. -/
theorem signal_cell (d : Dev nD) {sm : Sem sig} (ρ : Role) (hs : semOf ρ = .reg sm) (ha : amountR ρ = 1) (r i : ℕ) (b : Bool)
    (hd : b ∈ dutiesR ρ r) (O : CellTallies nD τ sig ℕ) (k : PUnit → KProg F) (Q : PUnit → sProp 𝕄) :
    iprop(env xv wv κ ∗ owesA c (O + tallyAt (cell d ρ) i 1) ∗ dutyTok ER (cell d ρ) r b ∗ payR xv wv d ρ r b ∗ reached ER (cell d ρ) r)
      ⊢ iprop((owesA c O -∗ WP c (k ⟨⟩) Q) -∗ WP c (.op (.semSignal (d : Thread nD τ) sm ((1 : ℕ) : ℤ)) k) Q) := by
  unfold owesA
  iintro ⟨#He, ⟨%W, HO⟩, Ht, Hp, #Hr⟩ Hk
  ihave #Hi := (env_inv xv wv κ d ρ) $$ He
  have e : cell d ρ = ((d : Thread nD τ), .reg sm) := Prod.ext rfl hs
  ihave Hp' := (Entails.of_eq (payload_cell xv wv d ρ r b).symm) $$ Hp
  have hm := duties_cell xv wv d ρ r
  have hk := amount_cell xv wv d ρ r b
  rw [ha] at hk
  rw [e] at hm hk
  rw [e]
  iapply (Rounds.wp_signal 𝒱₀ ER (rd xv wv) (c : Thread nD τ) none (dst := (d : Thread nD τ)) (sem := sm) (r := r) (d := b)
      (κ := κ ((d : Thread nD τ), .reg sm)) (by rw [hm]; exact hd) hk i O rfl) $$ [HO Ht Hp']
  · isplitr; · iexact Hi
    isplitl [HO]; · iexact HO
    isplitl [Ht]; · iexact Ht
    isplitl [Hp']; · iexact Hp'
    iexact Hr
  iintro HO
  iapply Hk
  iexists W; iexact HO

end Cert.KernelIdeal.Ring

end
-- ==== Proof.Ring.KernelIdeal.Steps.lean ====
/- One step of a stream: the hop that lands, the sum it becomes, and the hop that is sent on. -/
module

public import proofs.«01_k».proof.Proof.Ring.KernelIdeal.Rules

@[expose] public section

set_option maxRecDepth 20000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (xv : Dev nD → Vec F S4096x128 .f32) (wv : Dev nD → Vec F S128x8192 .f32)
variable (κ : GSem nD τ sig → ℕ) (c : Dev nD)

/-- Sending hop `h`: the sum goes to the next device's free slot, and its landing is paid. -/
theorem hop_send (k : Fin 4) (h : ℕ) (hh : h < 31) (s t : Fin 2) (hs : s = par h) (ht : t = par (h + 1))
    (O : CellTallies nD τ sig ℕ) (K : KProg F) (Q : PUnit → sProp 𝕄) :
    iprop(env xv wv κ ∗ slotVal c k s (acc xv wv k h c) ∗ slotAny (F := F) (dst k c) k t ∗ reached ER (cell c (.cred k)) h
        ∗ owesA c (O + tallyAt (cell (dst k c) (.recv k t)) h N)
        ∗ dutyTok ER (cell c (.send k s)) (h / 2) true ∗ reached ER (cell c (.send k s)) (h / 2)
        ∗ dutyTok ER (cell (dst k c) (.recv k t)) (h / 2) true ∗ reached ER (cell (dst k c) (.recv k t)) (h / 2))
      ⊢ iprop(((cred (tallyAt (cell c (.send k s)) 0 N) ∗ owesA c O) -∗ WP c K Q) -∗ WP c (sendHop St k s t (dst k c) K) Q) := by
  subst hs ht
  unfold owesA sendHop slotVal slotAny
  iintro ⟨#He, ⟨%fs, %hfs, Hs⟩, ⟨%fd, Hd⟩, #Hrc, ⟨%W, HO⟩, HtS, #HrS, HtR, #HrR⟩ Hk
  iapply (Rounds.wp_send_pointsTo_with 𝒱₀ ER (rd xv wv) (c : Thread nD τ) none (c' := (dst k c : Thread nD τ))
      (src := slotL k (par h)) (dst := slotL k (par (h + 1)))
      (sS := .dma (pairSem (St k).ss (par h)).sem) (sem := .dma (pairSem (St k).rs (par (h + 1))).sem)
      (q := fullShare) (fs := fs) (fd := fd) (F := reached ER (cell c (.cred k)) h)
      (κ₁ := κ (cell c (.send k (par h)))) (κ₂ := κ (cell (dst k c) (.recv k (par (h + 1)))))
      (r₁ := h / 2) (r₂ := h / 2) (d₁ := true) (d₂ := true)
      (by
        have := duties_cell xv wv c (.send k (par h)) (h / 2)
        rw [dutiesR_send k hh] at this
        exact this ▸ Finset.mem_singleton_self _)
      (by
        have := duties_cell xv wv (dst k c) (.recv k (par (h + 1))) (h / 2)
        rw [dutiesR_recv k hh] at this
        exact this ▸ Finset.mem_singleton_self _)
      h 0 N (N_eq k _) (amount_cell xv wv c (.send k (par h)) (h / 2) true) (amount_cell xv wv (dst k c) (.recv k (par (h + 1))) (h / 2) true)
      O rfl (W := W)
      (by
        refine BIBase.Entails.trans ?_ (Entails.of_eq ((payload_cell xv wv c (.send k (par h)) (h / 2) true).trans
          (payR_send xv wv c k h true)).symm)
        unfold slotAny slotPts
        iintro H; iexists fs; iexact H)
      (by
        refine BIBase.Entails.trans ?_ (Entails.of_eq ((payload_cell xv wv (dst k c) (.recv k (par (h + 1))) (h / 2) true).trans
          (payR_recv xv wv (dst k c) k h true)).symm)
        unfold recvPay slotVal slotPts
        rw [up_dst]
        iintro ⟨H, Hr⟩
        isplitl [H]
        · iexists ((slotL k (par (h + 1))).view.write (Elt F) fd ((slotL k (par h)).view.read (Elt F) fs) Finset.univ)
          isplitr
          · ipureintro
            exact (View.read_write_univ _ _).trans hfs
          iexact H
        iexact Hr)) $$ [Hs Hd HO HtS HtR]
  · isplitr; · iapply (env_inv xv wv κ c (.send k (par h))); iexact He
    isplitr; · iapply (env_inv xv wv κ (dst k c) (.recv k (par (h + 1)))); iexact He
    isplitl [Hs]; · unfold slotPts; iexact Hs
    isplitl [Hd]
    · isplitl [Hd]; · unfold slotPts; iexact Hd
      iexact Hrc
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- Overwriting a slot. -/
theorem put_slot (k : Fin 4) (s : Fin 2) (v : FVec F S128x2048 .f32) (K : KProg F) (Q : PUnit → sProp 𝕄) :
    (slotAny (F := F) c k s : sProp 𝕄) ⊢ iprop((slotVal c k s v -∗ WP c K Q) -∗ WP c (putSlot (St k).comm s v K) Q) := by
  unfold slotAny slotVal slotPts putSlot
  iintro ⟨%f, H⟩ Hk
  iapply (wp_load_rect 𝒱₀ (c : Thread nD τ) none Set.univ (m := (St k).comm) (r := slotRect s)
    (S := (slotL k s).view.set) (q := fullShare) (f := f) (subset_of_eq (slot_set (St k).comm s))) $$ [H]
  · iexact H
  iintro H
  iapply (wp_store 𝒱₀ (c : Thread nD τ) none Set.univ (m := (St k).comm) (r := slotRect s)
    (S := (slotL k s).view.set) (f := f) (by rw [View.setOn_univ]; exact subset_of_eq (slot_set (St k).comm s))) $$ [H]
  · iexact H
  iintro H
  iapply Hk
  iexists _
  isplitr
  · ipureintro
    exact slot_write (St k).comm s f v
  iexact H

/-- The two operands' staging buffers, held at contents. -/
def inp (X : Memref sig .tc .vmem S4096x128 .f32) (Wt : Memref sig .tc .vmem S128x8192 .f32)
    (fx : Buf (Elt F) (X.view.loc (c : Thread nD τ))) (fw : Buf (Elt F) (Wt.view.loc (c : Thread nD τ))) : sProp 𝕄 :=
  iprop((X.view.loc (c : Thread nD τ) ↦[X.view.set]{fullShare} fx) ∗ (Wt.view.loc (c : Thread nD τ) ↦[Wt.view.set]{fullShare} fw))

section
variable (X : Memref sig .tc .vmem S4096x128 .f32) (Wt : Memref sig .tc .vmem S128x8192 .f32)
  (fx : Buf (Elt F) (X.view.loc (c : Thread nD τ))) (fw : Buf (Elt F) (Wt.view.loc (c : Thread nD τ)))
  (hX : X.view.read (Elt F) fx = xv c) (hW : Wt.view.read (Elt F) fw = wv c)

include hX hW in
/-- The product of device `d`'s block of rows with stream `k`'s columns. -/
theorem load_part (k : Fin 4) (d : Dev nD) (v : BitVec 32) (hv : rowOk v) (e : v = word d)
    (K : FVec F S128x2048 .f32 → KProg F) (Q : PUnit → sProp 𝕄) :
    (inp c X Wt fx fw : sProp 𝕄)
      ⊢ iprop((inp c X Wt fx fw -∗ WP c (K (part (xBlk xv c d) (wCol wv c k))) Q) -∗ WP c (loadPart X Wt k v hv K) Q) := by
  subst e
  have e1 : (X.access (Rect.unit (s := S4096x128) (rowW (word d)) S128x128.size hv)).read (Elt F) fx = xBlk xv c d :=
    funext fun i => congrFun hX _
  have e2 : (Wt.access (colRect k)).read (Elt F) fw = wCol wv c k := funext fun i => congrFun hW _
  rw [← e1, ← e2]
  unfold inp loadPart
  iintro ⟨Hx, Hw⟩ Hk
  iapply (wp_load_rect 𝒱₀ (c : Thread nD τ) none Set.univ (m := X) (r := Rect.unit (s := S4096x128) (rowW (word d)) S128x128.size hv)
    (S := X.view.set) (q := fullShare) (f := fx) (View.set_slice_subset _ _)) $$ [Hx]
  · iexact Hx
  iintro Hx
  iapply (wp_load_rect 𝒱₀ (c : Thread nD τ) none Set.univ (m := Wt) (r := colRect k)
    (S := Wt.view.set) (q := fullShare) (f := fw) (View.set_slice_subset _ _)) $$ [Hw]
  · iexact Hw
  iintro Hw
  iapply Hk
  isplitl [Hx]; · iexact Hx
  iexact Hw

include hX hW in
/-- The partial product of the hop after `h`. -/
theorem next_part (k : Fin 4) (h : ℕ) (hh : h < 31) (K : FVec F S128x2048 .f32 → KProg F) (Q : PUnit → sProp 𝕄) :
    (inp c X Wt fx fw : sProp 𝕄)
      ⊢ iprop((inp c X Wt fx fw -∗ WP c (K (prt xv wv c k (h + 1))) Q)
        -∗ WP c (nextPart X Wt ringT (word (posOf c)) k h K) Q) := by
  have e := word_blk k h hh c
  unfold nextPart
  iintro H Hk
  iapply (wp_assume 𝒱₀ (c : Thread nD τ) none Set.univ (by rw [e]; exact rowOk_word _))
  iapply (load_part xv wv c X Wt fx fw hX hW k (blk k (h + 1) c) _ _ e K Q) $$ [H]
  · iexact H
  iexact Hk

/-! ## A stream at a hop -/

/-- What step `j` of stream `k` uses up: the right to send the next hop and to pay its landing, the right to
    free the sender, and the credit to wait for this step's free slot and for the next hop. -/
def toks (k : Fin 4) (j : ℕ) : sProp 𝕄 :=
  iprop(dutyTok ER (cell c (.send k (par (j + 1)))) ((j + 1) / 2) true
    ∗ dutyTok ER (cell (dst k c) (.recv k (par j))) ((j + 1) / 2) true
    ∗ dutyTok ER (cell (up k c) (.cred k)) j true
    ∗ cred (tallyAt (cell c (.cred k)) j 1)
    ∗ cred (tallyAt (cell c (.recv k (par j))) (j + 1) N))

/-- Stream `k` with hop `h` under way from slot `s` to slot `t`. -/
def stream (k : Fin 4) (h : ℕ) (s t : Fin 2) : sProp 𝕄 :=
  iprop((atPos ER (cell c (.send k s)) (h / 2) ∅ 0 ∗ atPos ER (cell c (.send k t)) ((h + 1) / 2) ∅ 0
      ∗ reached ER (cell c (.send k t)) ((h + 1) / 2))
    ∗ (atPos ER (cell c (.recv k t)) (h / 2) ∅ 0 ∗ atPos ER (cell c (.recv k s)) ((h + 1) / 2) ∅ 0
      ∗ reached ER (cell c (.recv k s)) ((h + 1) / 2))
    ∗ atPos ER (cell c (.cred k)) h ∅ 0
    ∗ cred (tallyAt (cell c (.send k s)) 0 N) ∗ cred (tallyAt (cell c (.recv k t)) h N))

/-- A stream that has landed its last hop: its semaphores at their ends, its slots free. -/
def streamEnd (k : Fin 4) : sProp 𝕄 :=
  iprop((atPos ER (cell c (.send k 0)) 16 ∅ 0 ∗ atPos ER (cell c (.send k 1)) 15 ∅ 0)
    ∗ (atPos ER (cell c (.recv k 0)) 15 ∅ 0 ∗ atPos ER (cell c (.recv k 1)) 16 ∅ 0)
    ∗ atPos ER (cell c (.cred k)) 30 ∅ 0
    ∗ slotAny (F := F) c k 0 ∗ slotAny (F := F) c k 1)

/-- Waiting for hop `h`: its slot comes free, its landing slot comes with the sum so far. -/
theorem wait_hop (k : Fin 4) (h : ℕ) (hh : h < 31) (s t : Fin 2) (hs : s = par h) (ht : t = par (h + 1))
    {O : CellTallies nD τ sig ℕ} (hO : Above (2 * (4 * h + k.val) + 2) O) (K : KProg F) (Q : PUnit → sProp 𝕄) :
    iprop(env xv wv κ ∗ atPos ER (cell c (.send k s)) (h / 2) ∅ 0 ∗ atPos ER (cell c (.recv k t)) (h / 2) ∅ 0
        ∗ cred (tallyAt (cell c (.send k s)) 0 N) ∗ cred (tallyAt (cell c (.recv k t)) h N) ∗ owesA c O)
      ⊢ iprop(((owesA c O ∗ (atPos ER (cell c (.send k s)) (h / 2 + 1) ∅ 0 ∗ reached ER (cell c (.send k s)) (h / 2 + 1))
            ∗ (atPos ER (cell c (.recv k t)) (h / 2 + 1) ∅ 0 ∗ reached ER (cell c (.recv k t)) (h / 2 + 1))
            ∗ slotAny (F := F) c k s ∗ slotVal c k t (acc xv wv k h (up k c)) ∗ reached ER (cell (up k c) (.cred k)) h)
          -∗ WP c K Q) -∗ WP c (waitHop St k s t K) Q) := by
  subst hs ht
  unfold waitHop
  iintro ⟨#He, HaS, HaR, HcS, HcR, HO⟩ Hk
  iapply (wait_cell xv wv κ c (.send k (par h)) (h / 2) 0
    (fun K => wait_slot c (ρ := .send k (par h)) k (par h) (par (h + 1)) rfl rfl K) (dutiesR_send k hh) (by decide)
    (above_mono (Nat.zero_le _) hO)) $$ [HcS HO HaS]
  · isplitr; · iexact He
    isplitl [HcS]; · iexact HcS
    isplitl [HO]; · iexact HO
    iexact HaS
  iintro ⟨HO, HaS, HrS, Hp⟩
  ihave Hs := (Entails.of_eq (payR_send xv wv c k h true)) $$ Hp
  iapply (wait_cell xv wv κ c (.recv k (par (h + 1))) (h / 2) h
    (fun K => wait_slot c (ρ := .recv k (par (h + 1))) k (par (h + 1)) (par h) rfl rfl K) (dutiesR_recv k hh) (by omega)
    hO) $$ [HcR HO HaR]
  · isplitr; · iexact He
    isplitl [HcR]; · iexact HcR
    isplitl [HO]; · iexact HO
    iexact HaR
  iintro ⟨HO, HaR, HrR, Hp⟩
  ihave Hq := (Entails.of_eq (payR_recv xv wv c k h true)) $$ Hp
  unfold recvPay
  icases Hq with ⟨Ht, Hrc⟩
  iapply Hk
  isplitl [HO]; · iexact HO
  isplitl [HaS HrS]; · isplitl [HaS]; · iexact HaS
                       iexact HrS
  isplitl [HaR HrR]; · isplitl [HaR]; · iexact HaR
                       iexact HrR
  isplitl [Hs]; · iexact Hs
  isplitl [Ht]; · iexact Ht
  iexact Hrc

include hX hW in
/-- One step of a stream. -/
theorem step_wp (k : Fin 4) (h : ℕ) (hh : h < 30) (s t : Fin 2) (hs : s = par h) (ht : t = par (h + 1))
    {O : CellTallies nD τ sig ℕ} (hO : Above (2 * (4 * h + k.val) + 3) O)
    (K : FVec F S128x2048 .f32 → KProg F) (Q : PUnit → sProp 𝕄) :
    iprop(env xv wv κ ∗ stream c k h s t ∗ toks c k h ∗ inp c X Wt fx fw
        ∗ owesA c (O + recvT c k (h + 1) + credT c k h))
      ⊢ iprop(((stream c k (h + 1) t s ∗ inp c X Wt fx fw ∗ owesA c O) -∗ WP c (K (prt xv wv c k (h + 2))) Q)
        -∗ WP c (step X Wt St ringT (word (posOf c)) (fun k => dst k c) (fun k => up k c) k h s t (prt xv wv c k (h + 1)) K) Q) := by
  have hs2 : s = par (h + 2) := hs.trans (par_add_two h).symm
  have ht2 : par (h + 1 + 1) = s := hs2.symm
  have hO' : Above (2 * (4 * h + k.val) + 2) (O + recvT c k (h + 1) + credT c k h) :=
    above_add (above_add (above_mono (by omega) hO) (above_tally (by omega) (by show _ < 2 * (4 * (h + 1) + k.val) + 2; omega)))
      (above_tally (by omega) (by show _ < 2 * (4 * h + k.val) + 3; omega))
  have hO3 : Above (2 * (4 * h + k.val) + 3) (O + recvT c k (h + 1)) :=
    above_add hO (above_tally (by omega) (by show _ < 2 * (4 * (h + 1) + k.val) + 2; omega))
  unfold step stream toks
  rw [← ht, ← hs]
  iintro ⟨#He, ⟨⟨HaSs, HaSt, #HrSt⟩, ⟨HaRt, HaRs, #HrRs⟩, HaC, HcS, HcR⟩, ⟨HdS, HdR, HdC, HcC, HcR'⟩, Hin, HO⟩ Hk
  iapply (wait_hop xv wv κ c k h (by omega) s t hs ht hO') $$ [HaSs HaRt HcS HcR HO]
  · isplitr; · iexact He
    isplitl [HaSs]; · iexact HaSs
    isplitl [HaRt]; · iexact HaRt
    isplitl [HcS]; · iexact HcS
    isplitl [HcR]; · iexact HcR
    iexact HO
  iintro ⟨HO, ⟨HaSs, #HrSs⟩, ⟨HaRt, #HrRt⟩, Hs, Ht, #HrC⟩
  iapply (signal_cell xv wv κ c (up k c) (.cred k) rfl rfl h h true (by rw [dutiesR_cred k hh]; exact Finset.mem_singleton_self _)
    (O + recvT c k (h + 1))) $$ [HO HdC Hs]
  · isplitr; · iexact He
    isplitl [HO]; · iexact HO
    isplitl [HdC]; · iexact HdC
    isplitl [Hs]
    · iapply (show credPay (F := F) (up k c) k h ⊢ payR xv wv (up k c) (.cred k) h true from BI.Entails.refl _)
      unfold credPay
      rw [dst_up, ← hs]
      isplitl [Hs]; · iexact Hs
      iexact HrRs
    iexact HrC
  iintro HO
  unfold slotVal
  icases Ht with ⟨%f, %hf, Ht⟩
  unfold slotPts
  iapply (wp_load_rect 𝒱₀ (c : Thread nD τ) none Set.univ (m := (St k).comm) (r := slotRect t)
    (S := (slotL k t).view.set) (q := fullShare) (f := f) (subset_of_eq (slot_set (St k).comm t))) $$ [Ht]
  · iexact Ht
  iintro Ht
  have hv : addf (shapeCast S128x2048 (((St k).comm.access (slotRect t)).read (Elt F) f) shapeCasts_S1x128x2048_S128x2048)
      (prt xv wv c k (h + 1)) = acc xv wv k (h + 1) c := by
    rw [slot_read, hf]; rfl
  rw [hv]
  iapply (put_slot c k t (acc xv wv k (h + 1) c)) $$ [Ht]
  · unfold slotAny slotPts; iexists f; iexact Ht
  iintro Ht
  iapply (wait_cell xv wv κ c (.cred k) h h (fun K => wpE_semWait_eq 𝒱₀ (c : Thread nD τ) none Set.univ K)
    (dutiesR_cred k hh) (by omega) hO3) $$ [HcC HO HaC]
  · isplitr; · iexact He
    isplitl [HcC]; · iexact HcC
    isplitl [HO]; · iexact HO
    iexact HaC
  iintro ⟨HO, HaC, #HrC', Hp⟩
  ihave Hq := (show payR xv wv c (.cred k) h true ⊢ credPay (F := F) c k h from BI.Entails.refl _) $$ Hp
  unfold credPay
  rw [← hs]
  icases Hq with ⟨Hd, #HrD⟩
  iapply (hop_send xv wv κ c k (h + 1) (by omega) t s ht hs2 O) $$ [Ht Hd HO HdS HdR]
  · isplitr; · iexact He
    isplitl [Ht]; · iexact Ht
    isplitl [Hd]; · iexact Hd
    isplitr; · iexact HrC'
    isplitl [HO]; · rw [← ht2]; iexact HO
    isplitl [HdS]; · iexact HdS
    isplitr; · iexact HrSt
    isplitl [HdR]; · iexact HdR
    iexact HrD
  iintro ⟨HcS, HO⟩
  iapply (next_part xv wv c X Wt fx fw hX hW k (h + 1) (by omega)) $$ [Hin]
  · iexact Hin
  iintro Hin
  iapply Hk
  have e2 : (h + 1 + 1) / 2 = h / 2 + 1 := by omega
  rw [e2]
  isplitr [Hin HO]
  · isplitl [HaSs HaSt]
    · isplitl [HaSt]; · iexact HaSt
      isplitl [HaSs]; · iexact HaSs
      iexact HrSs
    isplitl [HaRs HaRt]
    · isplitl [HaRs]; · iexact HaRs
      isplitl [HaRt]; · iexact HaRt
      iexact HrRt
    isplitl [HaC]; · iexact HaC
    isplitl [HcS]; · iexact HcS
    iexact HcR'
  isplitl [Hin]; · iexact Hin
  iexact HO

/-- The last step of a stream: the result's columns are written. -/
theorem last_wp (Om : Memref sig .tc .vmem S128x8192 .f32) (fo : Buf (Elt F) (Om.view.loc (c : Thread nD τ))) (k : Fin 4)
    (K : KProg F) (Q : PUnit → sProp 𝕄) :
    iprop(env xv wv κ ∗ stream c k 30 0 1 ∗ (Om.view.loc (c : Thread nD τ) ↦[Om.view.set]{fullShare} fo) ∗ owesA c 0)
      ⊢ iprop(((streamEnd (F := F) c k ∗ owesA c 0
            ∗ (Om.view.loc (c : Thread nD τ) ↦[Om.view.set]{fullShare}
                ((Om.access (colRect k)).write (Elt F) fo (outv xv wv k c) Finset.univ)))
          -∗ WP c K Q) -∗ WP c (lastStep Om St k 0 1 (prt xv wv c k 31) K) Q) := by
  unfold lastStep stream streamEnd
  iintro ⟨#He, ⟨⟨HaSs, HaSt, -⟩, ⟨HaRt, HaRs, -⟩, HaC, HcS, HcR⟩, Ho, HO⟩ Hk
  iapply (wait_hop xv wv κ c k 30 (by decide) 0 1 (by decide) (by decide) (above_zero _)) $$ [HaSs HaRt HcS HcR HO]
  · isplitr; · iexact He
    isplitl [HaSs]; · iexact HaSs
    isplitl [HaRt]; · iexact HaRt
    isplitl [HcS]; · iexact HcS
    isplitl [HcR]; · iexact HcR
    iexact HO
  iintro ⟨HO, ⟨HaSs, -⟩, ⟨HaRt, -⟩, Hs, Ht, -⟩
  unfold slotVal
  icases Ht with ⟨%f, %hf, Ht⟩
  unfold slotPts
  iapply (wp_load_rect 𝒱₀ (c : Thread nD τ) none Set.univ (m := (St k).comm) (r := slotRect 1)
    (S := (slotL k 1).view.set) (q := fullShare) (f := f) (subset_of_eq (slot_set (St k).comm 1))) $$ [Ht]
  · iexact Ht
  iintro Ht
  iapply (wp_load_rect 𝒱₀ (c : Thread nD τ) none Set.univ (m := Om) (r := colRect k)
    (S := Om.view.set) (q := fullShare) (f := fo) (View.set_slice_subset _ _)) $$ [Ho]
  · iexact Ho
  iintro Ho
  have hv : maximumf (addf (shapeCast S128x2048 (((St k).comm.access (slotRect 1)).read (Elt F) f) shapeCasts_S1x128x2048_S128x2048)
      (prt xv wv c k 31)) (broadcast S128x2048 (Scalar.ofBits .f32 0x00000000#32)) = outv xv wv k c := by
    rw [slot_read, hf]; rfl
  rw [hv]
  iapply (wp_store 𝒱₀ (c : Thread nD τ) none Set.univ (m := Om) (r := colRect k)
    (S := Om.view.set) (f := fo) (by rw [View.setOn_univ]; exact View.set_slice_subset _ _)) $$ [Ho]
  · iexact Ho
  iintro Ho
  iapply Hk
  isplitl [HaSs HaSt HaRs HaRt HaC Hs Ht]
  · isplitl [HaSs HaSt]
    · isplitl [HaSs]; · iexact HaSs
      iexact HaSt
    isplitl [HaRs HaRt]
    · isplitl [HaRs]; · iexact HaRs
      iexact HaRt
    isplitl [HaC]; · iexact HaC
    isplitl [Hs]; · iexact Hs
    unfold slotAny slotPts
    iexists f; iexact Ht
  isplitl [HO]; · iexact HO
  iexact Ho
end

end Cert.KernelIdeal.Ring

end
-- ==== Proof.Ring.KernelIdeal.Run.lean ====
/- The whole body on one device: the barrier, the first hops, the forwarding steps, the last ones. -/
module

public import proofs.«01_k».proof.Proof.Ring.KernelIdeal.Steps
public import Idealize.ShloMosaic.Lib.Ring
public import Idealize.ShloMosaic.Lib.Pipeline.Value

@[expose] public section

set_option maxRecDepth 20000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (xv : Dev nD → Vec F S4096x128 .f32) (wv : Dev nD → Vec F S128x8192 .f32)
variable (κ : GSem nD τ sig → ℕ) (c : Dev nD)

/-! ## The forwarding steps -/

/-- Something for each of the four streams. -/
def each (Φ : Fin 4 → sProp 𝕄) : sProp 𝕄 := iprop(Φ 0 ∗ Φ 1 ∗ Φ 2 ∗ Φ 3)

/-- What hop `h` of stream `k` settles of what a device owes. -/
theorem rem_step (k : Fin 4) (h n : ℕ) (hn : n + 1 + h = 30) :
    rem c (4 * n + (3 - k.val) + 1) = rem c (4 * n + (3 - k.val)) + recvT c k (h + 1) + credT c k h := by
  have e1 : stK (4 * n + (3 - k.val)) = k := Fin.ext (by show (119 - (4 * n + (3 - k.val))) % 4 = k.val; omega)
  have e2 : stH (4 * n + (3 - k.val)) = h := by unfold stH; omega
  show rem c _ + recvT c (stK (4 * n + (3 - k.val))) (stH (4 * n + (3 - k.val)) + 1) + credT c (stK (4 * n + (3 - k.val))) (stH (4 * n + (3 - k.val))) = _
  rw [e1, e2]

theorem above_step (k : Fin 4) (h n : ℕ) (hn : n + 1 + h = 30) : Above (2 * (4 * h + k.val) + 3) (rem c (4 * n + (3 - k.val))) :=
  above_mono (by omega) (above_rem c (4 * n + (3 - k.val)) (by omega))

section
variable (X : Memref sig .tc .vmem S4096x128 .f32) (Wt : Memref sig .tc .vmem S128x8192 .f32)
  (fx : Buf (Elt F) (X.view.loc (c : Thread nD τ))) (fw : Buf (Elt F) (Wt.view.loc (c : Thread nD τ)))
  (hX : X.view.read (Elt F) fx = xv c) (hW : Wt.view.read (Elt F) fw = wv c)

include hX hW in
/-- The forwarding steps from hop `h` on. -/
theorem hops_wp (K : (l0 l1 l2 l3 : FVec F S128x2048 .f32) → KProg F) (Q : PUnit → sProp 𝕄) (n : ℕ) :
    ∀ (h : ℕ) (s t : Fin 2), n + h = 30 → s = par h → t = par (h + 1) →
    iprop(env xv wv κ ∗ each (fun k => stream (F := F) c k h s t)
        ∗ bigSep (Ring.rangeSet 30 h 30) (fun j => each fun k => toks (F := F) c k j.val)
        ∗ inp c X Wt fx fw ∗ owesA c (rem c (4 * n)))
      ⊢ iprop(((each (fun k => stream (F := F) c k 30 0 1) ∗ inp c X Wt fx fw ∗ owesA c 0)
          -∗ WP c (K (prt xv wv c 0 31) (prt xv wv c 1 31) (prt xv wv c 2 31) (prt xv wv c 3 31)) Q)
        -∗ WP c (hops X Wt St ringT (word (posOf c)) (fun k => dst k c) (fun k => up k c) K n h s t
            (prt xv wv c 0 (h + 1)) (prt xv wv c 1 (h + 1)) (prt xv wv c 2 (h + 1)) (prt xv wv c 3 (h + 1))) Q) := by
  induction n with
  | zero =>
    intro h s t hn hs ht
    obtain rfl : h = 30 := by omega
    obtain rfl : s = 0 := hs.trans (by decide)
    obtain rfl : t = 1 := ht.trans (by decide)
    iintro ⟨-, Hs, -, Hin, HO⟩ Hk
    iapply Hk
    isplitl [Hs]; · iexact Hs
    isplitl [Hin]; · iexact Hin
    iexact HO
  | succ n ih =>
    intro h s t hn hs ht
    have r0 := rem_step c 0 h n hn
    have r1 := rem_step c 1 h n hn
    have r2 := rem_step c 2 h n hn
    have r3 := rem_step c 3 h n hn
    have a0 := above_step c 0 h n hn
    have a1 := above_step c 1 h n hn
    have a2 := above_step c 2 h n hn
    have a3 := above_step c 3 h n hn
    show iprop(env xv wv κ ∗ _ ∗ _ ∗ _ ∗ owesA c (rem c (4 * n + (3 - (0 : Fin 4).val) + 1))) ⊢ _
    rw [Ring.bigSep_rangeSet_head (by omega) (by omega), r0]
    unfold each
    iintro ⟨#He, ⟨H0, H1, H2, H3⟩, ⟨⟨T0, T1, T2, T3⟩, HT⟩, Hin, HO⟩ Hk
    iapply (step_wp xv wv κ c X Wt fx fw hX hW 0 h (by omega) s t hs ht a0) $$ [H0 T0 Hin HO]
    · isplitr; · iexact He
      isplitl [H0]; · iexact H0
      isplitl [T0]; · iexact T0
      isplitl [Hin]; · iexact Hin
      iexact HO
    iintro ⟨H0, Hin, HO⟩
    iapply (step_wp xv wv κ c X Wt fx fw hX hW 1 h (by omega) s t hs ht a1) $$ [H1 T1 Hin HO]
    · isplitr; · iexact He
      isplitl [H1]; · iexact H1
      isplitl [T1]; · iexact T1
      isplitl [Hin]; · iexact Hin
      rw [← r1]; iexact HO
    iintro ⟨H1, Hin, HO⟩
    iapply (step_wp xv wv κ c X Wt fx fw hX hW 2 h (by omega) s t hs ht a2) $$ [H2 T2 Hin HO]
    · isplitr; · iexact He
      isplitl [H2]; · iexact H2
      isplitl [T2]; · iexact T2
      isplitl [Hin]; · iexact Hin
      rw [← r2]; iexact HO
    iintro ⟨H2, Hin, HO⟩
    iapply (step_wp xv wv κ c X Wt fx fw hX hW 3 h (by omega) s t hs ht a3) $$ [H3 T3 Hin HO]
    · isplitr; · iexact He
      isplitl [H3]; · iexact H3
      isplitl [T3]; · iexact T3
      isplitl [Hin]; · iexact Hin
      rw [← r3]; iexact HO
    iintro ⟨H3, Hin, HO⟩
    iapply (ih (h + 1) t s (by omega) ht (hs.trans (par_add_two h).symm)) $$ [H0 H1 H2 H3 HT Hin HO]
    · isplitr; · iexact He
      isplitl [H0 H1 H2 H3]
      · unfold each
        isplitl [H0]; · iexact H0
        isplitl [H1]; · iexact H1
        isplitl [H2]; · iexact H2
        iexact H3
      isplitl [HT]; · iexact HT
      isplitl [Hin]; · iexact Hin
      iexact HO
    unfold each
    iexact Hk
end

/-! ## The result's columns -/

/-- The stream and the place in its columns of an element of the result. -/
def colK (j : S128x8192.Idx) : Fin 4 := ⟨(j 1).val / 2048, by have h : (j 1).val < 8192 := (j 1).isLt; omega⟩
def colI (j : S128x8192.Idx) : S128x2048.Idx := fun a => match a with
  | ⟨0, _⟩ => ⟨(j 0).val, (j 0).isLt⟩
  | ⟨1, _⟩ => ⟨(j 1).val % 2048, Nat.mod_lt _ (by decide)⟩

theorem col_emb (j : S128x8192.Idx) : (colRect (colK j)).emb (colI j) = j := by
  funext a
  refine Fin.ext ?_
  fin_cases a
  · show 0 + 1 * (j 0).val = (j 0).val; omega
  · show 2048 * ((j 1).val / 2048) + 1 * ((j 1).val % 2048) = (j 1).val; omega

/-- What the kernel leaves in device `c`'s result. -/
def outAll (c : Dev nD) : Vec F S128x8192 .f32 := fun j => outv xv wv (colK j) c (colI j)

section
variable (Om : Memref sig .tc .vmem S128x8192 .f32)

/-- Different streams' columns share no element. -/
theorem cols_disjoint {k k' : Fin 4} (h : k ≠ k') : Disjoint (Om.view.slice (colRect k)).set ((Om.view.slice (colRect k')).setOn Finset.univ) := by
  rw [View.setOn_univ, Finset.disjoint_left]
  intro i hi hi'
  obtain ⟨x, -, rfl⟩ := Finset.mem_map.mp hi
  obtain ⟨y, -, e⟩ := Finset.mem_map.mp hi'
  have e' : (colRect k').emb y = (colRect k).emb x := Om.view.emb.injective e
  have e1 : 2048 * k'.val + 1 * (y 1).val = 2048 * k.val + 1 * (x 1).val := congrArg (fun j : S128x8192.Idx => (j 1).val) e'
  have hx : (x 1).val < 2048 := (x 1).isLt
  have hy : (y 1).val < 2048 := (y 1).isLt
  exact h (Fin.ext (by omega))

/-- The first `n` streams' columns are written. -/
def Done (n : ℕ) (f : Om.view.ty.Contents (Elt F)) : Prop :=
  ∀ k : Fin 4, k.val < n → (Om.access (colRect k)).read (Elt F) f = outv xv wv k c

theorem done_write (k : Fin 4) (f : Om.view.ty.Contents (Elt F)) (h : Done xv wv c Om k.val f) :
    Done xv wv c Om (k.val + 1) ((Om.access (colRect k)).write (Elt F) f (outv xv wv k c) Finset.univ) := fun k' hk' => by
  by_cases e : k' = k
  · subst e; exact View.read_write_univ _ _
  · exact (View.read_slice_write_slice_of_disjoint (v := Om.view) _ _ f _ _ (cols_disjoint Om e)).trans
      (h k' (by have : k'.val ≠ k.val := fun e' => e (Fin.ext e'); omega))

theorem done_all (f : Om.view.ty.Contents (Elt F)) (h : Done xv wv c Om 4 f) : Om.view.read (Elt F) f = outAll xv wv c := by
  funext j
  have := congrFun (h (colK j) (colK j).isLt) (colI j)
  rw [← col_emb j]
  rw [col_emb j]
  refine Eq.trans ?_ this
  show _ = Om.view.read (Elt F) f ((colRect (colK j)).emb (colI j))
  rw [col_emb]

/-- The result's staging buffer with the first `n` streams' columns written. -/
def outN (n : ℕ) : sProp 𝕄 :=
  iprop(∃ f, ⌜Done xv wv c Om n f⌝ ∗ (Om.view.loc (c : Thread nD τ) ↦[Om.view.set]{fullShare} f))

theorem last_wp' (k : Fin 4) (K : KProg F) (Q : PUnit → sProp 𝕄) :
    iprop(env xv wv κ ∗ stream c k 30 0 1 ∗ outN xv wv c Om k.val ∗ owesA c 0)
      ⊢ iprop(((streamEnd (F := F) c k ∗ owesA c 0 ∗ outN xv wv c Om (k.val + 1)) -∗ WP c K Q)
        -∗ WP c (lastStep Om St k 0 1 (prt xv wv c k 31) K) Q) := by
  unfold outN
  iintro ⟨#He, Hs, ⟨%f, %hf, Ho⟩, HO⟩ Hk
  iapply (last_wp xv wv κ c Om f k) $$ [Hs Ho HO]
  · isplitr; · iexact He
    isplitl [Hs]; · iexact Hs
    isplitl [Ho]; · iexact Ho
    iexact HO
  iintro ⟨Hs, HO, Ho⟩
  iapply Hk
  isplitl [Hs]; · iexact Hs
  isplitl [HO]; · iexact HO
  iexists _
  isplitr
  · ipureintro; exact done_write xv wv c Om k f hf
  iexact Ho
end

/-! ## The barrier -/

theorem bar_rest :
    bigSep ((rd xv wv).duties ((c : Thread nD τ), .reg barSem) 0 \ ∅) (fun d => (rd xv wv).payload ((c : Thread nD τ), .reg barSem) 0 d)
      ⊢ iprop(barPay (F := F) c true ∗ barPay (F := F) c false) := Entails.of_eq (rest_bar xv wv c)

/-- The wait for both neighbours: their first landing slots. -/
theorem wait_bar {O : CellTallies nD τ sig ℕ} (hO : Above 1 O) (k : PUnit → KProg F) (Q : PUnit → sProp 𝕄) :
    iprop(env xv wv κ ∗ cred (tallyAt (cell c .bar) 0 2) ∗ owesA c O ∗ atPos ER (cell c .bar) 0 ∅ 0)
      ⊢ iprop(((owesA c O ∗ atPos ER (cell c .bar) 1 ∅ 0 ∗ barPay (F := F) c true ∗ barPay (F := F) c false)
          -∗ WP c (k ⟨⟩) Q) -∗ WP c (.op (.semWait barSem ((2 : ℕ) : ℤ)) k) Q) := by
  unfold owesA
  iintro ⟨#He, Hc, ⟨%W, HO⟩, Hat⟩ Hk
  ihave #Hl := (env_lev xv wv κ) $$ He
  iapply (Rounds.wp_wait_rest_token 𝒱₀ ER (rd xv wv) (c : Thread nD τ) none (κ := κ (cell c .bar)) (sm := .reg barSem)
      (fun K => wpE_semWait_eq 𝒱₀ (c : Thread nD τ) none Set.univ K) (Set.mem_univ _) 0
      (O := O) (W := W) (R := 0) (m := 0) (T := ∅) ((Nat.zero_add _).trans (expect_bar xv wv c).symm)) $$ [Hc HO Hat]
  · isplitr; · iapply (env_inv xv wv κ c .bar); iexact He
    isplitl [Hc]; · iexact Hc
    isplitl [HO]; · iexact HO
    isplitr; · iapply (mayWait (F := F) c .bar 0 (by decide) hO); iexact Hl
    iexact Hat
  iintro ⟨HO, Hat, -, Hp⟩
  ihave Hq := (bar_rest xv wv c) $$ Hp
  icases Hq with ⟨Hp1, Hp2⟩
  iapply Hk
  isplitl [HO]; · iexists _; iexact HO
  isplitl [Hat]; · iexact Hat
  isplitl [Hp1]; · iexact Hp1
  iexact Hp2

/-! ## The body -/

/-- What stream `k` starts from: its positions, and the tokens and credit of its first hop. -/
def streamStart (k : Fin 4) : sProp 𝕄 :=
  iprop((atPos ER (cell c (.send k 0)) 0 ∅ 0 ∗ reached ER (cell c (.send k 0)) 0)
    ∗ (atPos ER (cell c (.send k 1)) 0 ∅ 0 ∗ reached ER (cell c (.send k 1)) 0)
    ∗ (atPos ER (cell c (.recv k 0)) 0 ∅ 0 ∗ reached ER (cell c (.recv k 0)) 0)
    ∗ (atPos ER (cell c (.recv k 1)) 0 ∅ 0 ∗ reached ER (cell c (.recv k 1)) 0)
    ∗ (atPos ER (cell c (.cred k)) 0 ∅ 0 ∗ reached ER (cell c (.cred k)) 0))
/-- The tokens and credit of stream `k`'s first hop. -/
def firstToks (k : Fin 4) : sProp 𝕄 :=
  iprop(dutyTok ER (cell c (.send k 0)) 0 true ∗ dutyTok ER (cell (dst k c) (.recv k 1)) 0 true
    ∗ cred (tallyAt (cell c (.recv k 1)) 0 N))
/-- What the barrier takes. -/
def barToks : sProp 𝕄 :=
  iprop(atPos ER (cell c .bar) 0 ∅ 0 ∗ cred (tallyAt (cell c .bar) 0 2)
    ∗ (dutyTok ER (cell (pv c) .bar) 0 true ∗ reached ER (cell (pv c) .bar) 0)
    ∗ (dutyTok ER (cell (nx c) .bar) 0 false ∗ reached ER (cell (nx c) .bar) 0))

theorem start_reached (k : Fin 4) :
    (streamStart (F := F) c k : sProp 𝕄) ⊢ iprop(streamStart (F := F) c k ∗ reached ER (cell c (.recv k 1)) 0) := by
  unfold streamStart
  iintro ⟨H1, H2, H3, ⟨Ha, #Hr⟩, H5⟩
  isplitl
  · isplitl [H1]; · iexact H1
    isplitl [H2]; · iexact H2
    isplitl [H3]; · iexact H3
    isplitl [Ha]
    · isplitl [Ha]; · iexact Ha
      iexact Hr
    iexact H5
  iexact Hr

/-- A stream's first hop. -/
theorem first_send (k : Fin 4) (O : CellTallies nD τ sig ℕ) (K : KProg F) (Q : PUnit → sProp 𝕄) :
    iprop(env xv wv κ ∗ streamStart (F := F) c k ∗ firstToks (F := F) c k ∗ slotVal c k 0 (prt xv wv c k 0)
        ∗ (slotAny (F := F) (dst k c) k 1 ∗ reached ER (cell (dst k c) (.recv k 1)) 0) ∗ owesA c (O + recvT c k 0))
      ⊢ iprop(((stream (F := F) c k 0 0 1 ∗ owesA c O) -∗ WP c K Q) -∗ WP c (sendHop St k 0 1 (dst k c) K) Q) := by
  unfold streamStart firstToks stream
  iintro ⟨#He, ⟨⟨HaS0, #HrS0⟩, ⟨HaS1, #HrS1⟩, ⟨HaR0, #HrR0⟩, ⟨HaR1, -⟩, ⟨HaC, #HrC⟩⟩, ⟨HdS, HdR, HcR⟩, Hs, ⟨Hd, #HrD⟩, HO⟩ Hk
  iapply (hop_send xv wv κ c k 0 (by decide) 0 1 (by decide) (by decide) O) $$ [Hs Hd HO HdS HdR]
  · isplitr; · iexact He
    isplitl [Hs]; · iexact Hs
    isplitl [Hd]; · iexact Hd
    isplitr; · iexact HrC
    isplitl [HO]; · iexact HO
    isplitl [HdS]; · iexact HdS
    isplitr; · iexact HrS0
    isplitl [HdR]; · iexact HdR
    iexact HrD
  iintro ⟨HcS, HO⟩
  iapply Hk
  isplitr [HO]
  · isplitl [HaS0 HaS1]
    · isplitl [HaS0]; · iexact HaS0
      isplitl [HaS1]; · iexact HaS1
      iexact HrS1
    isplitl [HaR1 HaR0]
    · isplitl [HaR1]; · iexact HaR1
      isplitl [HaR0]; · iexact HaR0
      iexact HrR0
    isplitl [HaC]; · iexact HaC
    isplitl [HcS]; · iexact HcS
    iexact HcR
  iexact HO

/-- The rectangle of a whole table. -/
abbrev tabRect := Rect.unit (s := S1x32) ![0, 0] S1x32.size inb_S1x32_S1x32_0_0
theorem tab_read (M : Memref sig .tc .vmem S1x32 .i32) (f : M.view.ty.Contents (Elt F)) :
    (shapeCast S1x32 ((M.access tabRect).read (Elt F) f) shapeCasts_S1x32_S1x32 : IVec S1x32 32) = M.view.read (Elt F) f := by
  refine (shapeCast_self (s := S1x32) _ _).trans ?_
  funext x
  show M.view.read (Elt F) f (tabRect.emb x) = _
  congr 1
  funext a
  refine Fin.ext ?_
  fin_cases a
  · show 0 + 1 * (x 0).val = (x 0).val; omega
  · show 0 + 1 * (x 1).val = (x 1).val; omega

section
variable (X : Memref sig .tc .vmem S4096x128 .f32) (Wt : Memref sig .tc .vmem S128x8192 .f32)
  (Rg Ps : Memref sig .tc .vmem S1x32 .i32) (Om : Memref sig .tc .vmem S128x8192 .f32)
  (fx : Buf (Elt F) (X.view.loc (c : Thread nD τ))) (fw : Buf (Elt F) (Wt.view.loc (c : Thread nD τ)))
  (fr : Buf (Elt F) (Rg.view.loc (c : Thread nD τ))) (fp : Buf (Elt F) (Ps.view.loc (c : Thread nD τ)))
  (hX : X.view.read (Elt F) fx = xv c) (hW : Wt.view.read (Elt F) fw = wv c)
  (hR : Rg.view.read (Elt F) fr = ringT) (hP : Ps.view.read (Elt F) fp = posT)

include hX hW in
/-- A stream's first partial product goes to its slot 0. -/
theorem first_wp (k : Fin 4) (v : BitVec 32) (hv : rowOk v) (e : v = word (up k c)) (K : KProg F) (Q : PUnit → sProp 𝕄) :
    iprop(inp c X Wt fx fw ∗ slotAny (F := F) c k 0)
      ⊢ iprop(((inp c X Wt fx fw ∗ slotVal c k 0 (prt xv wv c k 0)) -∗ WP c K Q) -∗ WP c (first X Wt St k v hv K) Q) := by
  unfold first
  iintro ⟨Hin, Hs⟩ Hk
  iapply (load_part xv wv c X Wt fx fw hX hW k (blk k 0 c) v hv (by rw [blk_zero]; exact e)) $$ [Hin]
  · iexact Hin
  iintro Hin
  iapply (put_slot c k 0) $$ [Hs]
  · iexact Hs
  iintro Hs
  iapply Hk
  isplitl [Hin]; · iexact Hin
  iexact Hs

/-- The two tables, held. -/
def tabs : sProp 𝕄 :=
  iprop((Rg.view.loc (c : Thread nD τ) ↦[Rg.view.set]{fullShare} fr) ∗ (Ps.view.loc (c : Thread nD τ) ↦[Ps.view.set]{fullShare} fp))

/-- What the body starts from, -/
def bodyPre : sProp 𝕄 :=
  iprop(env xv wv κ ∗ barToks (F := F) c ∗ each (fun k => streamStart (F := F) c k) ∗ each (fun k => firstToks (F := F) c k)
    ∗ (bigSep (Ring.rangeSet 30 0 30) fun j => each fun k => toks (F := F) c k j.val)
    ∗ each (fun k => slotAny (F := F) c k 0) ∗ each (fun k => slotAny (F := F) c k 1)
    ∗ inp c X Wt fx fw ∗ tabs c Rg Ps fr fp ∗ outN xv wv c Om 0 ∗ owesA c (O₀ c))
/-- and what it leaves. -/
def bodyPost : sProp 𝕄 :=
  iprop(atPos ER (cell c .bar) 1 ∅ 0 ∗ each (fun k => streamEnd (F := F) c k)
    ∗ inp c X Wt fx fw ∗ tabs c Rg Ps fr fp ∗ outN xv wv c Om 4 ∗ owesA c 0)

include hX hW in
/-- The body from the barrier on. -/
theorem ring_wp (Q : PUnit → sProp 𝕄) :
    bodyPre xv wv κ c X Wt Rg Ps Om fx fw fr fp
      ⊢ iprop((bodyPost xv wv c X Wt Rg Ps Om fx fw fr fp -∗ Q ⟨⟩)
        -∗ WP c (bodyRing X Wt Om St ringT (word (posOf c)) (word (nx c)) (word (pv c)) (nx c) (pv c)) Q) := by
  unfold bodyPre bodyPost barToks bodyRing
  iintro ⟨#He, ⟨HaB, HcB, ⟨HdV, #HrV⟩, ⟨HdN, #HrN⟩⟩, Hst, Hft, HT, Hs0, Hs1, Hin, Htab, Ho, HO⟩ Hk
  unfold each
  icases Hst with ⟨S0, S1, S2, S3⟩
  icases Hft with ⟨F0, F1, F2, F3⟩
  icases Hs0 with ⟨A0, A1, A2, A3⟩
  icases Hs1 with ⟨B0, B1, B2, B3⟩
  ihave S0 := (start_reached (F := F) c 0) $$ S0
  icases S0 with ⟨S0, #R0⟩
  ihave S1 := (start_reached (F := F) c 1) $$ S1
  icases S1 with ⟨S1, #R1⟩
  ihave S2 := (start_reached (F := F) c 2) $$ S2
  icases S2 with ⟨S2, #R2⟩
  ihave S3 := (start_reached (F := F) c 3) $$ S3
  icases S3 with ⟨S3, #R3⟩
  iapply (signal_cell xv wv κ c (pv c) .bar rfl rfl 0 0 true (by decide) (owedB c + tallyAt (cell (nx c) .bar) 0 1)) $$ [HO HdV B0 B1]
  · isplitr; · iexact He
    isplitl [HO]; · iexact HO
    isplitl [HdV]; · iexact HdV
    isplitl [B0 B1]
    · iapply (show barPay (F := F) (pv c) true ⊢ payR xv wv (pv c) .bar 0 true from BI.Entails.refl _)
      unfold barPay
      rw [show nbr true (pv c) = c from nx_pv c]
      isplitl [B0]
      · isplitl [B0]; · iexact B0
        iexact R0
      isplitl [B1]; · iexact B1
      iexact R1
    iexact HrV
  iintro HO
  iapply (signal_cell xv wv κ c (nx c) .bar rfl rfl 0 0 false (by decide) (owedB c)) $$ [HO HdN B2 B3]
  · isplitr; · iexact He
    isplitl [HO]; · iexact HO
    isplitl [HdN]; · iexact HdN
    isplitl [B2 B3]
    · iapply (show barPay (F := F) (nx c) false ⊢ payR xv wv (nx c) .bar 0 false from BI.Entails.refl _)
      unfold barPay
      rw [show nbr false (nx c) = c from pv_nx c]
      isplitl [B2]
      · isplitl [B2]; · iexact B2
        iexact R2
      isplitl [B3]; · iexact B3
      iexact R3
    iexact HrN
  iintro HO
  iapply (wait_bar xv wv κ c (above_owedB c)) $$ [HcB HO HaB]
  · isplitr; · iexact He
    isplitl [HcB]; · iexact HcB
    isplitl [HO]; · iexact HO
    iexact HaB
  iintro ⟨HO, HaB, P1, P2⟩
  unfold barPay
  icases P1 with ⟨P0, P1⟩
  icases P2 with ⟨P2, P3⟩
  iapply (wp_assume 𝒱₀ (c : Thread nD τ) none Set.univ (rowOk_word (pv c)))
  iapply (wp_assume 𝒱₀ (c : Thread nD τ) none Set.univ (rowOk_word (nx c)))
  iapply (first_wp xv wv c X Wt fx fw hX hW 0 (word (pv c)) _ rfl) $$ [Hin A0]
  · isplitl [Hin]; · iexact Hin
    iexact A0
  iintro ⟨Hin, A0⟩
  iapply (first_wp xv wv c X Wt fx fw hX hW 1 (word (pv c)) _ rfl) $$ [Hin A1]
  · isplitl [Hin]; · iexact Hin
    iexact A1
  iintro ⟨Hin, A1⟩
  iapply (first_wp xv wv c X Wt fx fw hX hW 2 (word (nx c)) _ rfl) $$ [Hin A2]
  · isplitl [Hin]; · iexact Hin
    iexact A2
  iintro ⟨Hin, A2⟩
  iapply (first_wp xv wv c X Wt fx fw hX hW 3 (word (nx c)) _ rfl) $$ [Hin A3]
  · isplitl [Hin]; · iexact Hin
    iexact A3
  iintro ⟨Hin, A3⟩
  unfold owedB
  iapply (first_send xv wv κ c 0 (rem c 120 + recvT c 3 0 + recvT c 2 0 + recvT c 1 0)) $$ [S0 F0 A0 P0 HO]
  · isplitr; · iexact He
    isplitl [S0]; · iexact S0
    isplitl [F0]; · iexact F0
    isplitl [A0]; · iexact A0
    isplitl [P0]; · iexact P0
    iexact HO
  iintro ⟨S0, HO⟩
  iapply (first_send xv wv κ c 1 (rem c 120 + recvT c 3 0 + recvT c 2 0)) $$ [S1 F1 A1 P1 HO]
  · isplitr; · iexact He
    isplitl [S1]; · iexact S1
    isplitl [F1]; · iexact F1
    isplitl [A1]; · iexact A1
    isplitl [P1]; · iexact P1
    iexact HO
  iintro ⟨S1, HO⟩
  iapply (first_send xv wv κ c 2 (rem c 120 + recvT c 3 0)) $$ [S2 F2 A2 P2 HO]
  · isplitr; · iexact He
    isplitl [S2]; · iexact S2
    isplitl [F2]; · iexact F2
    isplitl [A2]; · iexact A2
    isplitl [P2]; · iexact P2
    iexact HO
  iintro ⟨S2, HO⟩
  iapply (first_send xv wv κ c 3 (rem c 120)) $$ [S3 F3 A3 P3 HO]
  · isplitr; · iexact He
    isplitl [S3]; · iexact S3
    isplitl [F3]; · iexact F3
    isplitl [A3]; · iexact A3
    isplitl [P3]; · iexact P3
    iexact HO
  iintro ⟨S3, HO⟩
  iapply (next_part xv wv c X Wt fx fw hX hW 0 0 (by decide)) $$ [Hin]
  · iexact Hin
  iintro Hin
  iapply (next_part xv wv c X Wt fx fw hX hW 1 0 (by decide)) $$ [Hin]
  · iexact Hin
  iintro Hin
  iapply (next_part xv wv c X Wt fx fw hX hW 2 0 (by decide)) $$ [Hin]
  · iexact Hin
  iintro Hin
  iapply (next_part xv wv c X Wt fx fw hX hW 3 0 (by decide)) $$ [Hin]
  · iexact Hin
  iintro Hin
  iapply (hops_wp xv wv κ c X Wt fx fw hX hW _ Q 30 0 0 1 rfl (by decide) (by decide)) $$ [S0 S1 S2 S3 HT Hin HO]
  · isplitr; · iexact He
    isplitl [S0 S1 S2 S3]
    · unfold each
      isplitl [S0]; · iexact S0
      isplitl [S1]; · iexact S1
      isplitl [S2]; · iexact S2
      iexact S3
    isplitl [HT]; · iexact HT
    isplitl [Hin]; · iexact Hin
    iexact HO
  unfold each
  iintro ⟨⟨S0, S1, S2, S3⟩, Hin, HO⟩
  iapply (last_wp' xv wv κ c Om 0) $$ [S0 Ho HO]
  · isplitr; · iexact He
    isplitl [S0]; · iexact S0
    isplitl [Ho]; · iexact Ho
    iexact HO
  iintro ⟨S0, HO, Ho⟩
  iapply (last_wp' xv wv κ c Om 1) $$ [S1 Ho HO]
  · isplitr; · iexact He
    isplitl [S1]; · iexact S1
    isplitl [Ho]; · iexact Ho
    iexact HO
  iintro ⟨S1, HO, Ho⟩
  iapply (last_wp' xv wv κ c Om 2) $$ [S2 Ho HO]
  · isplitr; · iexact He
    isplitl [S2]; · iexact S2
    isplitl [Ho]; · iexact Ho
    iexact HO
  iintro ⟨S2, HO, Ho⟩
  iapply (last_wp' xv wv κ c Om 3) $$ [S3 Ho HO]
  · isplitr; · iexact He
    isplitl [S3]; · iexact S3
    isplitl [Ho]; · iexact Ho
    iexact HO
  iintro ⟨S3, HO, Ho⟩
  simp only [wp_ret]
  imodintro
  iapply Hk
  isplitl [HaB]; · iexact HaB
  isplitl [S0 S1 S2 S3]
  · isplitl [S0]; · iexact S0
    isplitl [S1]; · iexact S1
    isplitl [S2]; · iexact S2
    iexact S3
  isplitl [Hin]; · iexact Hin
  isplitl [Htab]; · iexact Htab
  isplitl [Ho]; · iexact Ho
  iexact HO

include hX hW in
/-- The same with the neighbours' devices under other names. -/
theorem devs_wp (dn dp : Dev nD) (en : dn = nx c) (ep : dp = pv c) (Q : PUnit → sProp 𝕄) :
    bodyPre xv wv κ c X Wt Rg Ps Om fx fw fr fp
      ⊢ iprop((bodyPost xv wv c X Wt Rg Ps Om fx fw fr fp -∗ Q ⟨⟩)
        -∗ WP c (bodyRing X Wt Om St ringT (word (posOf c)) (word (nx c)) (word (pv c)) dn dp) Q) := by
  subst en ep
  exact ring_wp xv wv κ c X Wt Rg Ps Om fx fw fr fp hX hW Q

include hX hW in
/-- The body once its words are checked. -/
theorem words_wp (p n v : BitVec 32) (ep : p = word (posOf c)) (en : n = word (nx c)) (ev : v = word (pv c)) (Q : PUnit → sProp 𝕄) :
    bodyPre xv wv κ c X Wt Rg Ps Om fx fw fr fp
      ⊢ iprop((bodyPost xv wv c X Wt Rg Ps Om fx fw fr fp -∗ Q ⟨⟩) -∗ WP c (bodyWords X Wt Om St ringT p n v) Q) := by
  subst ep en ev
  unfold bodyWords
  iintro H Hk
  iapply (wp_assume 𝒱₀ (c : Thread nD τ) none Set.univ (chk2_word (nx c)))
  iapply (wp_assume 𝒱₀ (c : Thread nD τ) none Set.univ (chk1_word (pv c)))
  iapply (devs_wp xv wv κ c X Wt Rg Ps Om fx fw fr fp hX hW _ _ (Fin.ext (devW_word (nx c))) (Fin.ext (devW_word (pv c))) Q) $$ [H]
  · iexact H
  iexact Hk

include hX hW in
/-- The body once the tables are read. -/
theorem tabs_wp (r p : IVec S1x32 32) (er : r = ringT) (ep : p = posT) (Q : PUnit → sProp 𝕄) :
    bodyPre xv wv κ c X Wt Rg Ps Om fx fw fr fp
      ⊢ iprop((bodyPost xv wv c X Wt Rg Ps Om fx fw fr fp -∗ Q ⟨⟩) -∗ WP c (bodyTabs X Wt Om St r p c) Q) := by
  subst er ep
  have ep : posRd posT c = word (posOf c) := tabAt_pos c
  exact words_wp xv wv κ c X Wt Rg Ps Om fx fw fr fp hX hW _ _ _ ep
    (by rw [ep]; exact word_nxt c) (by rw [ep]; exact word_prv c) Q

include hX hW hR hP in
/-- The kernel's body. -/
theorem body_wp (Q : PUnit → sProp 𝕄) :
    bodyPre xv wv κ c X Wt Rg Ps Om fx fw fr fp
      ⊢ iprop((bodyPost xv wv c X Wt Rg Ps Om fx fw fr fp -∗ Q ⟨⟩) -∗ WP c (body X Wt Rg Ps Om St) Q) := by
  unfold body
  iintro H Hk
  simp only [wp_deviceId]
  unfold bodyPre tabs
  icases H with ⟨#He, Hb, Hst, Hft, HT, Hs0, Hs1, Hin, ⟨Hr, Hp⟩, Ho, HO⟩
  iapply (wp_load_rect 𝒱₀ (c : Thread nD τ) none Set.univ (m := Rg) (r := tabRect)
    (S := Rg.view.set) (q := fullShare) (f := fr) (View.set_slice_subset _ _)) $$ [Hr]
  · iexact Hr
  iintro Hr
  iapply (wp_load_rect 𝒱₀ (c : Thread nD τ) none Set.univ (m := Ps) (r := tabRect)
    (S := Ps.view.set) (q := fullShare) (f := fp) (View.set_slice_subset _ _)) $$ [Hp]
  · iexact Hp
  iintro Hp
  iapply (tabs_wp xv wv κ c X Wt Rg Ps Om fx fw fr fp hX hW _ _ ((tab_read Rg fr).trans hR) ((tab_read Ps fp).trans hP) Q) $$ [Hb Hst Hft HT Hs0 Hs1 Hin Hr Hp Ho HO]
  · unfold bodyPre tabs
    isplitr; · iexact He
    isplitl [Hb]; · iexact Hb
    isplitl [Hst]; · iexact Hst
    isplitl [Hft]; · iexact Hft
    isplitl [HT]; · iexact HT
    isplitl [Hs0]; · iexact Hs0
    isplitl [Hs1]; · iexact Hs1
    isplitl [Hin]; · iexact Hin
    isplitl [Hr Hp]
    · isplitl [Hr]; · iexact Hr
      iexact Hp
    isplitl [Ho]; · iexact Ho
    iexact HO
  iexact Hk
end

end Cert.KernelIdeal.Ring

end
-- ==== Proof.Ring.KernelIdeal.Cells.lean ====
/- The scratch semaphores and the landing buffers as the region hands them to the body and takes them back. -/
module

public import proofs.«01_k».proof.Proof.Ring.KernelIdeal.Run
public import Idealize.ShloMosaic.Lib.Pipeline.RegionTalk

@[expose] public section

set_option maxRecDepth 20000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (xv : Dev nD → Vec F S4096x128 .f32) (wv : Dev nD → Vec F S128x8192 .f32)
variable (κ : GSem nD τ sig → ℕ) (c : Dev nD)

/-! ## By stream -/

theorem each_eq (Φ : Fin 4 → sProp 𝕄) : each Φ = bigSep Finset.univ Φ :=
  (bigSep_univ_eq_bigSepL [(0 : Fin 4), 1, 2, 3] (by decide) (by decide) Φ).symm
theorem each_mono {Φ Ψ : Fin 4 → sProp 𝕄} (h : ∀ k, Φ k ⊢ Ψ k) : each Φ ⊢ each Ψ := by
  rw [each_eq, each_eq]; exact bigSep_mono fun k _ => h k
theorem each_sep (Φ Ψ : Fin 4 → sProp 𝕄) : each (fun k => iprop(Φ k ∗ Ψ k)) = iprop(each Φ ∗ each Ψ) := by
  rw [each_eq, each_eq, each_eq, bigSep_sep']

/-- Something for each of the twenty scratch semaphores is, for each stream, something for its five. -/
theorem own_eq (Φ : Role → sProp 𝕄) :
    bigSep Finset.univ (fun i : Fin 20 => Φ (ownRole i))
      = each fun k => iprop(Φ (.cred k) ∗ Φ (.send k 0) ∗ Φ (.send k 1) ∗ Φ (.recv k 0) ∗ Φ (.recv k 1)) := by
  rw [bigSep_univ_equiv (finProdFinEquiv : Fin 4 × Fin 5 ≃ Fin 20), bigSep_univ_prod, each_eq]
  refine bigSep_congr fun k _ => ?_
  rw [bigSep_congr (Ψ := fun j : Fin 5 => Φ (streamRole k j)) fun j _ => congrArg Φ (ownRole_pair k j)]
  exact bigSep_univ_eq_bigSepL [(0 : Fin 5), 1, 2, 3, 4] (by decide) (by decide) _

/-! ## Opening and closing the semaphores -/

/-- The scratch semaphores. -/
abbrev osem : Fin 20 → SemLoc sig := fun i => semOf (ownRole i)

theorem ownSems_eq : (Pipeline.ownSems0 osem c : sProp 𝕄) = bigSep Finset.univ fun i : Fin 20 => semVal (cell c (ownRole i)) 0 := rfl

/-- A scratch semaphore at zero with the right to open it gives its first position. -/
theorem open_cell (ρ : Role) :
    iprop(env xv wv κ ∗ openTok ER (cell c ρ) ∗ semVal (cell c ρ) 0)
      ⊢ (|={Set.univ}=> (atPos ER (cell c ρ) 0 ∅ 0 ∗ reached ER (cell c ρ) 0) : sProp 𝕄) := by
  iintro ⟨#He, H⟩
  iapply (Rounds.cell_open ER (rd xv wv) (g := cell c ρ) (Set.mem_univ (κ (cell c ρ))))
  isplitr; · iapply (env_inv xv wv κ c ρ); iexact He
  iexact H

/-- After its last round a semaphore's counter is back, at zero. -/
theorem close_cell (ρ : Role) :
    iprop(env xv wv κ ∗ atPos ER (cell c ρ) (lenR ρ) ∅ 0) ⊢ (|={Set.univ}=> semVal (cell c ρ) 0 : sProp 𝕄) := by
  iintro ⟨#He, H⟩
  iapply (Rounds.cell_close ER (rd xv wv) (g := cell c ρ) (Set.mem_univ (κ (cell c ρ))) (fun h => h) (R := lenR ρ) (duties_end xv wv c ρ))
  isplitr; · iapply (env_inv xv wv κ c ρ); iexact He
  iexact H

/-- An update for each scratch semaphore is one for all. -/
theorem own_update {Φ Ψ : Role → sProp 𝕄} (h : ∀ ρ, iprop(env xv wv κ ∗ Φ ρ) ⊢ (|={Set.univ}=> Ψ ρ : sProp 𝕄)) :
    iprop(env xv wv κ ∗ bigSep Finset.univ fun i : Fin 20 => Φ (ownRole i))
      ⊢ (|={Set.univ}=> bigSep Finset.univ fun i : Fin 20 => Ψ (ownRole i) : sProp 𝕄) := by
  refine BIBase.Entails.trans ?_ (bigSep_fupd Finset.univ fun i : Fin 20 => Ψ (ownRole i))
  exact bigSep_with_persistent fun i _ => h (ownRole i)

/-- The rights to open a device's scratch semaphores. -/
def dorm : sProp 𝕄 := bigSep Finset.univ fun i : Fin 20 => openTok ER (cell c (ownRole i))

/-- All of a device's scratch semaphores are opened, -/
theorem open_all :
    iprop(env xv wv κ ∗ dorm (F := F) c ∗ Pipeline.ownSems0 osem c)
      ⊢ (|={Set.univ}=> each (fun k => streamStart (F := F) c k) : sProp 𝕄) := by
  rw [ownSems_eq]
  unfold dorm
  iintro ⟨#He, Hd, Hs⟩
  ihave H := (Entails.of_eq (bigSep_sep' Finset.univ (fun i : Fin 20 => (openTok ER (cell c (ownRole i)) : sProp 𝕄)) fun i => semVal (cell c (ownRole i)) 0).symm) $$ [Hd Hs]
  · isplitl [Hd]; · iexact Hd
    iexact Hs
  imod (own_update xv wv κ (Φ := fun ρ => iprop(openTok ER (cell c ρ) ∗ semVal (cell c ρ) 0)) (Ψ := fun ρ => iprop(atPos ER (cell c ρ) 0 ∅ 0 ∗ reached ER (cell c ρ) 0)) (open_cell xv wv κ c)) $$ [H] with H
  · isplitr; · iexact He
    iexact H
  imodintro
  ihave H := (Entails.of_eq (own_eq fun ρ => (iprop(atPos ER (cell c ρ) 0 ∅ 0 ∗ reached ER (cell c ρ) 0) : sProp 𝕄))) $$ H
  iapply (each_mono fun k => (show iprop((atPos ER (cell c (.cred k)) 0 ∅ 0 ∗ reached ER (cell c (.cred k)) 0)
      ∗ (atPos ER (cell c (.send k 0)) 0 ∅ 0 ∗ reached ER (cell c (.send k 0)) 0)
      ∗ (atPos ER (cell c (.send k 1)) 0 ∅ 0 ∗ reached ER (cell c (.send k 1)) 0)
      ∗ (atPos ER (cell c (.recv k 0)) 0 ∅ 0 ∗ reached ER (cell c (.recv k 0)) 0)
      ∗ (atPos ER (cell c (.recv k 1)) 0 ∅ 0 ∗ reached ER (cell c (.recv k 1)) 0)) ⊢ (streamStart (F := F) c k : sProp 𝕄) by
    unfold streamStart
    iintro ⟨H5, H1, H2, H3, H4⟩
    isplitl [H1]; · iexact H1
    isplitl [H2]; · iexact H2
    isplitl [H3]; · iexact H3
    isplitl [H4]; · iexact H4
    iexact H5))
  iexact H

/-- and closed at the end, where the slots are free. -/
theorem close_all :
    iprop(env xv wv κ ∗ each (fun k => streamEnd (F := F) c k))
      ⊢ (|={Set.univ}=> (Pipeline.ownSems0 osem c
          ∗ each (fun k => iprop(slotAny (F := F) c k 0 ∗ slotAny (F := F) c k 1))) : sProp 𝕄) := by
  rw [ownSems_eq]
  iintro ⟨#He, H⟩
  ihave H := ((each_mono fun k => (show (streamEnd (F := F) c k : sProp 𝕄) ⊢ iprop(
        (atPos ER (cell c (.cred k)) (lenR (.cred k)) ∅ 0 ∗ atPos ER (cell c (.send k 0)) (lenR (.send k 0)) ∅ 0
          ∗ atPos ER (cell c (.send k 1)) (lenR (.send k 1)) ∅ 0 ∗ atPos ER (cell c (.recv k 0)) (lenR (.recv k 0)) ∅ 0
          ∗ atPos ER (cell c (.recv k 1)) (lenR (.recv k 1)) ∅ 0)
        ∗ (slotAny (F := F) c k 0 ∗ slotAny (F := F) c k 1)) by
    unfold streamEnd
    iintro ⟨⟨H1, H2⟩, ⟨H3, H4⟩, H5, A, B⟩
    isplitl [H1 H2 H3 H4 H5]
    · isplitl [H5]; · iexact H5
      isplitl [H1]; · iexact H1
      isplitl [H2]; · iexact H2
      isplitl [H3]; · iexact H3
      iexact H4
    isplitl [A]; · iexact A
    iexact B)).trans (Entails.of_eq (each_sep _ _))) $$ H
  icases H with ⟨H, Hs⟩
  ihave H := (Entails.of_eq (own_eq fun ρ => (atPos ER (cell c ρ) (lenR ρ) ∅ 0 : sProp 𝕄)).symm) $$ H
  imod (own_update xv wv κ (Φ := fun ρ => atPos ER (cell c ρ) (lenR ρ) ∅ 0) (Ψ := fun ρ => semVal (cell c ρ) 0) (close_cell xv wv κ c)) $$ [H] with H
  · isplitr; · iexact He
    iexact H
  imodintro
  isplitl [H]; · iexact H
  iexact Hs

/-! ## The landing buffers -/

/-- A stream's landing buffer, whole at some contents, -/
def commAny (k : Fin 4) : sProp 𝕄 :=
  iprop(∃ f : Buf (Elt F) ((St k).comm.view.loc (c : Thread nD τ)), (St k).comm.view.loc (c : Thread nD τ) ↦{fullShare} f)

theorem slots_disjoint (k : Fin 4) (s s' : Fin 2) (h : s ≠ s') : Disjoint (slotL k s).view.set (slotL k s').view.set := by
  have e (s : Fin 2) : (slotL k s).view.set = (slotRect s).set.map (St k).comm.view.emb :=
    (View.set_reshape _ _).trans (View.set_slice _ _)
  rw [e, e]
  exact (Finset.disjoint_map _).mpr (Idealize.ShloMosaic.Ring.lead_disjoint (s := S2x128x2048) (NB := 2) 0 1 (fun s => ![s.val, 0, 0]) S1x128x2048.size inb_slot
    (fun b => (Nat.one_mul _).symm) rfl s s' h)
theorem slots_cover (k : Fin 4) : (Finset.univ.biUnion fun s : Fin 2 => (slotL k s).view.set) = (St k).comm.view.set := by
  have e (s : Fin 2) : (slotL k s).view.set = (slotRect s).set.map (St k).comm.view.emb :=
    (View.set_reshape _ _).trans (View.set_slice _ _)
  have h := Idealize.ShloMosaic.Ring.lead_cover (s := S2x128x2048) (NB := 2) 0 1 (fun s => ![s.val, 0, 0]) S1x128x2048.size inb_slot
    (fun b => (Nat.one_mul _).symm) (fun b a ha => by fin_cases a; · exact absurd rfl ha
                                                      · rfl
                                                      · rfl) rfl (fun a ha => by fin_cases a; · exact absurd rfl ha
                                                                                 · rfl
                                                                                 · rfl) rfl
  rw [show (fun s : Fin 2 => (slotL k s).view.set) = fun s => (slotRect s).set.map (St k).comm.view.emb from funext e]
  ext x
  simp only [Finset.mem_biUnion, Finset.mem_univ, true_and, View.set, Finset.mem_map]
  constructor
  · rintro ⟨s, i, -, hx⟩; exact ⟨i, hx⟩
  · rintro ⟨i, hx⟩
    obtain ⟨s, -, hi⟩ := Finset.mem_biUnion.mp (h ▸ Finset.mem_univ i)
    exact ⟨s, i, hi, hx⟩
theorem comm_univ (k : Fin 4) : (St k).comm.view.set = Finset.univ := by
  fin_cases k <;> exact View.set_whole _

/-- is its two slots, -/
theorem comm_split (k : Fin 4) : (commAny (F := F) c k : sProp 𝕄) ⊢ iprop(slotAny (F := F) c k 0 ∗ slotAny (F := F) c k 1) := by
  unfold commAny slotAny slotPts
  exact Idealize.ShloMosaic.Ring.slots2_split (ℓ := (St k).comm.view.loc (c : Thread nD τ)) (fun s => (slotL k s).view.set)
    (slots_disjoint k) ((slots_cover k).trans (comm_univ k)) _ _ (fun _ => rfl) (fun _ => rfl)
/-- and back. -/
theorem comm_join (k : Fin 4) : iprop(slotAny (F := F) c k 0 ∗ slotAny (F := F) c k 1) ⊢ (commAny (F := F) c k : sProp 𝕄) := by
  unfold commAny slotAny slotPts
  exact Idealize.ShloMosaic.Ring.slots2_join (ℓ := (St k).comm.view.loc (c : Thread nD τ)) (fun s => (slotL k s).view.set)
    (slots_disjoint k) ((slots_cover k).trans (comm_univ k)) _ _ (fun _ => rfl) (fun _ => rfl)

/-- The landing buffers are all the scoped buffers no window stages. -/
theorem comm_eq : (Pipeline.scopedRest (Ix := ℕ) (Name := ℕ) (U := UU) (Lvl := ℕ) (Val := Elt F) spec0 c : sProp 𝕄) = each fun k => commAny (F := F) c k :=
  scopedRest0_eq c

end Cert.KernelIdeal.Ring

end
-- ==== Proof.Ring.KernelIdeal.Region.lean ====
/- The region's proof data: what its windows hold before and after its one point. -/
module

public import proofs.«01_k».proof.Proof.Ring.KernelIdeal.Cells
public import proofs.«01_k».proof.Proof.Gen.KernelIdeal.Frame
public import Idealize.ShloMosaic.Lib.Pipeline.Value

@[expose] public section

set_option maxRecDepth 20000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The buffers -/

/-- A device's buffers at launch, -/
def V₀ (c : Dev nD) : Valuation τ sig (Elt F) := fun b => m (c, b)
/-- and after the host operations. -/
def V₁ (c : Dev nD) : Valuation τ sig (Elt F) := StableHlo.after hostOps0 (V₀ m c)
/-- The operands. -/
def xOf (c : Dev nD) : Vec F S4096x128 .f32 := m ((c : Thread nD τ).loc main_arg0)
def wOf (c : Dev nD) : Vec F S128x8192 .f32 := m ((c : Thread nD τ).loc main_arg1)
/-- What the kernel leaves as its result. -/
def res (c : Dev nD) : Vec F S128x8192 .f32 := outAll (xOf m) (wOf m) c
/-- The buffers after the kernel. -/
def V₂ (c : Dev nD) : Valuation τ sig (Elt F) := Function.update (V₁ m c) (Proc.devRef .tc main_v3) (res m c)

theorem V₁_arg0 (c : Dev nD) : V₁ m c (Proc.devRef .tc main_arg0) = xOf m c := V_main_arg0 m c
theorem V₁_arg1 (c : Dev nD) : V₁ m c (Proc.devRef .tc main_arg1) = wOf m c := V_main_arg1 m c
theorem V₁_v1 (c : Dev nD) : V₁ m c (Proc.devRef .tc main_v1) = ringT := by
  show StableHlo.after hostOps0 (V₀ m c) (Proc.devRef .tc main_v1) = _
  after_results
  exact (shapeCast_self (s := S1x32) _ _).symm
theorem V₁_v2 (c : Dev nD) : V₁ m c (Proc.devRef .tc main_v2) = posT := by
  show StableHlo.after hostOps0 (V₀ m c) (Proc.devRef .tc main_v2) = _
  after_results
  exact (shapeCast_self (s := S1x32) _ _).symm

/-! ## The windows -/

/-- What the region's windows hold after its point. -/
def left (c : Dev nD) : (w : Fin 5) → (win0 w).block.Idx → Elt F (win0 w).elt := fun
  | 0 => xOf m c | 1 => wOf m c | 2 => ringT | 3 => posT | 4 => res m c
  | ⟨_ + 5, h⟩ => absurd h (Nat.not_lt.2 (Nat.le_add_left _ _))

/-- What the region starts from beside the windows: the protocol's state, and the generator register. -/
def phi0 (c : Dev nD) : sProp 𝕄 :=
  iprop((∃ κ, env (xOf m) (wOf m) κ) ∗ barToks (F := F) c ∗ each (fun k => streamStart (F := F) c k) ∗ each (fun k => firstToks (F := F) c k)
    ∗ (bigSep (Ring.rangeSet 30 0 30) fun j => each fun k => toks (F := F) c k j.val)
    ∗ each (fun k => commAny (F := F) c k) ∗ ∃ r, prngReg c r)
/-- What it ends with: every semaphore at zero. -/
def phi1 (c : Dev nD) : sProp 𝕄 :=
  iprop(semVal (cell c .bar) 0 ∗ Pipeline.ownSems0 osem c ∗ each (fun k => commAny (F := F) c k) ∗ ∃ r, prngReg c r)

/-- The region's proof data. -/
def dat0 (c : Dev nD) : Dat τ (Elt F) ℕ ℕ UU ℕ cfg0 c where
  A w := V₁ m c (Proc.devRef .tc (Pipeline.arrRef spec0 w))
  after w _ := left m c w
  Φ t := if t.val = 0 then phi0 m c else phi1 c
  q _ := fullShare
  owed t := if t.val = 0 then O₀ c else 0

theorem before_0 (c : Dev nD) (t : Fin cfg0.N) (d) : (dat0 m c).before 0 t d = xOf m c := by
  refine ((dat0 m c).before_fetched 0 t (fetch0_0 t) d).trans ?_
  refine Eq.trans (funext fun i => ?_) (V₁_arg0 m c)
  show V₁ m c (Proc.devRef .tc main_arg0) ((win0_0.rect t).emb i) = V₁ m c (Proc.devRef .tc main_arg0) i
  exact congrArg _ (funext fun a => Fin.ext (win0_0.rect_emb_val_of_index_zero t a rfl i))
theorem before_1 (c : Dev nD) (t : Fin cfg0.N) (d) : (dat0 m c).before 1 t d = wOf m c := by
  refine ((dat0 m c).before_fetched 1 t (fetch0_1 t) d).trans ?_
  refine Eq.trans (funext fun i => ?_) (V₁_arg1 m c)
  show V₁ m c (Proc.devRef .tc main_arg1) ((win0_1.rect t).emb i) = V₁ m c (Proc.devRef .tc main_arg1) i
  exact congrArg _ (funext fun a => Fin.ext (win0_1.rect_emb_val_of_index_zero t a rfl i))
theorem before_2 (c : Dev nD) (t : Fin cfg0.N) (d) : (dat0 m c).before 2 t d = ringT := by
  refine ((dat0 m c).before_fetched 2 t (fetch0_2 t) d).trans ?_
  refine Eq.trans (funext fun i => ?_) (V₁_v1 m c)
  show V₁ m c (Proc.devRef .tc main_v1) ((win0_2.rect t).emb i) = V₁ m c (Proc.devRef .tc main_v1) i
  exact congrArg _ (funext fun a => Fin.ext (win0_2.rect_emb_val_of_index_zero t a rfl i))
theorem before_3 (c : Dev nD) (t : Fin cfg0.N) (d) : (dat0 m c).before 3 t d = posT := by
  refine ((dat0 m c).before_fetched 3 t (fetch0_3 t) d).trans ?_
  refine Eq.trans (funext fun i => ?_) (V₁_v2 m c)
  show V₁ m c (Proc.devRef .tc main_v2) ((win0_3.rect t).emb i) = V₁ m c (Proc.devRef .tc main_v2) i
  exact congrArg _ (funext fun a => Fin.ext (win0_3.rect_emb_val_of_index_zero t a rfl i))

/-- The result array after the region. -/
theorem arr_out (c : Dev nD) : (dat0 m c).arrAt 4 cfg0.N = res m c := by
  refine (dat0 m c).arrAt_eq_of_cover 4 (res m c) (fun t _ => funext fun i => ?_) (fun i => ⟨t0_0, flush0_4 _, ?_⟩)
  · show res m c i = res m c ((win0_4.rect t).emb i)
    exact congrArg (res m c) (funext fun a => Fin.ext (win0_4.rect_emb_val_of_index_zero t a rfl i).symm)
  · refine Finset.mem_map.mpr ⟨i, Finset.mem_univ _, ?_⟩
    exact funext fun a => Fin.ext (win0_4.rect_emb_val_of_index_zero t0_0 a rfl i)

/-! ## The body's obligation -/

theorem owed_first (c : Dev nD) : (dat0 m c).owed t0_0.castSucc = O₀ c := by
  show (if (t0_0.castSucc : Fin (cfg0.N + 1)).val = 0 then O₀ c else 0) = O₀ c
  exact if_pos rfl
theorem owed_zero (c : Dev nD) : (dat0 m c).owed 0 = O₀ c := by
  show (if (0 : Fin (cfg0.N + 1)).val = 0 then O₀ c else 0) = O₀ c
  exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

/-- The debt a region's data states, from a thread's record, -/
theorem owes_in (c : Dev nD) (t : Fin (cfg0.N + 1)) (O) (h : (dat0 m c).owed t = O) :
    (owesA c O : sProp 𝕄) ⊢ (dat0 m c).owesAt 0 t := by
  unfold owesA Dat.owesAt Pipeline.owesWithin Dat.bound
  rw [h]
  iintro ⟨%W, HO⟩
  iexists W
  isplitr
  · ipureintro; exact fun _ _ => Or.inl trivial
  iexact HO
/-- and back. -/
theorem owes_out (c : Dev nD) (t : Fin (cfg0.N + 1)) (O) (h : (dat0 m c).owed t = O) :
    ((dat0 m c).owesAt 0 t : sProp 𝕄) ⊢ owesA c O := by
  unfold owesA Dat.owesAt Pipeline.owesWithin
  rw [h]
  iintro ⟨%W, -, HO⟩
  iexists W; iexact HO

/-- The region's body is the kernel's body on the windows' buffers. -/
theorem row_eq (c : Dev nD) : defs₀ (F := F) .tc cfg0.body (cfg0.bodyArgs t0_0 (cfg0.slots t0_0))
    = body (st0_0 t0_0) (st0_1 t0_0) (st0_2 t0_0) (st0_3 t0_0) (st0_4 t0_0) St :=
  Eq.trans (b := bodyAt0 t0_0) rfl (cc0_body_eq ..)

/-- The body, from what the region starts with to what it ends with. -/
theorem body0 (c : Dev nD) : BodyObligation (dat0 m c) defs₀ 𝒱₀ 0 Set.univ := fun t => by
  obtain rfl := fin_N0 t
  rw [bigSep_W0, bigSep_W0]
  rw [show (dat0 m c).Φ t0_0.castSucc = phi0 m c from rfl, show (dat0 m c).Φ t0_0.succ = phi1 c from rfl]
  unfold phi0 phi1
  iintro ⟨⟨⟨%κ, #He⟩, Hb, Hst, Hft, HT, Hcm, Hreg⟩, HO, ⟨%d0, H0⟩, ⟨%d1, H1⟩, ⟨%d2, H2⟩, ⟨%d3, H3⟩, ⟨%d4, H4⟩⟩
  rw [before_0, before_1, before_2, before_3]
  unfold owns
  icases H0 with ⟨%fx, %hx, H0⟩
  icases H1 with ⟨%fw, %hw, H1⟩
  icases H2 with ⟨%fr, %hr, H2⟩
  icases H3 with ⟨%fp, %hp, H3⟩
  icases H4 with ⟨%fo, -, H4⟩
  ihave HO := (owes_out m c _ (O₀ c) (owed_first m c)) $$ HO
  ihave Hs := ((each_mono fun k => comm_split (F := F) c k).trans (Entails.of_eq (each_sep _ _))) $$ Hcm
  icases Hs with ⟨Hs0, Hs1⟩
  rw [row_eq c]
  iapply (wp_fupd _ _ _ _ _)
  iapply (body_wp (xOf m) (wOf m) κ c (st0_0 t0_0) (st0_1 t0_0) (st0_2 t0_0) (st0_3 t0_0) (st0_4 t0_0) fx fw fr fp hx hw hr hp _) $$ [Hb Hst Hft HT Hs0 Hs1 H0 H1 H2 H3 H4 HO]
  · unfold bodyPre inp tabs outN
    isplitr; · iexact He
    isplitl [Hb]; · iexact Hb
    isplitl [Hst]; · iexact Hst
    isplitl [Hft]; · iexact Hft
    isplitl [HT]; · iexact HT
    isplitl [Hs0]; · iexact Hs0
    isplitl [Hs1]; · iexact Hs1
    isplitl [H0 H1]; · isplitl [H0] <;> iassumption
    isplitl [H2 H3]; · isplitl [H2] <;> iassumption
    isplitl [H4]
    · iexists fo
      isplitr
      · ipureintro; exact fun k hk => absurd hk (Nat.not_lt_zero _)
      iexact H4
    iexact HO
  unfold bodyPost inp tabs outN
  iintro ⟨Hb, Hse, ⟨H0, H1⟩, ⟨H2, H3⟩, ⟨%fo', %hd, H4⟩, HO⟩
  imod (close_cell (xOf m) (wOf m) κ c .bar) $$ [Hb] with Hb
  · isplitr; · iexact He
    iexact Hb
  imod (close_all (xOf m) (wOf m) κ c) $$ [Hse] with ⟨Hos, Hs⟩
  · isplitr; · iexact He
    iexact Hse
  imodintro
  ihave Hcm := (each_mono fun k => comm_join (F := F) c k) $$ Hs
  isplitl [Hb Hos Hcm Hreg]
  · isplitl [Hb]; · iexact Hb
    isplitl [Hos]; · iexact Hos
    isplitl [Hcm] <;> iassumption
  isplitl [HO]; · iapply (owes_in m c _ 0 (owed_last m c)); iexact HO
  isplitl [H0]; · iexists fx; isplitr; · ipureintro; exact hx
                  iexact H0
  isplitl [H1]; · iexists fw; isplitr; · ipureintro; exact hw
                  iexact H1
  isplitl [H2]; · iexists fr; isplitr; · ipureintro; exact hr
                  iexact H2
  isplitl [H3]; · iexists fp; isplitr; · ipureintro; exact hp
                  iexact H3
  iexists fo'
  isplitr; · ipureintro; exact done_all _ _ _ _ _ hd
  iexact H4

end Cert.KernelIdeal.Ring

end
-- ==== Proof.Ring.KernelIdeal.Deal.lean ====
/- What the launch deals each device: the tokens of the duties it pays, and the credit of what it is owed. -/
module

public import proofs.«01_k».proof.Proof.Ring.KernelIdeal.Cells

@[expose] public section

set_option maxRecDepth 20000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The tokens -/

/-- The duties a device pays: the barrier's two, the two of each stream's first hop, the three of each later hop. -/
abbrev Tok : Type := Bool ⊕ (Fin 4 × Bool) ⊕ (Fin 30 × Fin 4 × Fin 3)
/-- A duty's semaphore, round and name. -/
def tk : Tok → Role × ℕ × Bool
  | .inl b => (.bar, 0, b)
  | .inr (.inl (k, b)) => (if b then .recv k 1 else .send k 0, 0, true)
  | .inr (.inr (j, k, x)) =>
    (![Role.send k (par (j.val + 1)), .recv k (par j.val), .cred k] x, ![(j.val + 1) / 2, (j.val + 1) / 2, j.val] x, true)
/-- The duty of a semaphore's round. -/
def untk : Role × ℕ × Bool → Tok
  | (.bar, _, b) => .inl b
  | (.send k s, r, _) => if hopS s r = 0 then .inr (.inl (k, false)) else .inr (.inr (Fin.ofNat 30 (hopS s r - 1), k, 0))
  | (.recv k t, r, _) => if hopR t r = 0 then .inr (.inl (k, true)) else .inr (.inr (Fin.ofNat 30 (hopR t r - 1), k, 1))
  | (.cred k, r, _) => .inr (.inr (Fin.ofNat 30 r, k, 2))
theorem untk_tk (t : Tok) : untk (tk t) = t := by
  rcases t with b | ⟨k, b⟩ | t
  · rfl
  · revert k b; decide +kernel
  · revert t; decide +kernel
theorem tk_inj : Function.Injective tk := Function.LeftInverse.injective untk_tk

/-- Every device's duties. -/
def allToks : Finset (GSem nD τ sig × ℕ × Bool) :=
  Finset.univ.map ⟨fun ct : Dev nD × Tok => (cell ct.1 (tk ct.2).1, (tk ct.2).2), fun ct ct' h => by
    obtain ⟨h1, h2⟩ := cell_inj (congrArg Prod.fst h)
    have h3 : (tk ct.2).2 = (tk ct'.2).2 := congrArg (fun x : GSem nD τ sig × ℕ × Bool => x.2) h
    exact Prod.ext h1 (tk_inj (Prod.ext h2 h3))⟩

def nxE : Dev nD ≃ Dev nD := ⟨nx, pv, pv_nx, nx_pv⟩
def dstE (k : Fin 4) : Dev nD ≃ Dev nD := ⟨dst k, up k, up_dst k, dst_up k⟩
/-- The device a duty is paid to. -/
def payee : Tok → (Dev nD ≃ Dev nD)
  | .inl b => if b then nxE.symm else nxE
  | .inr (.inl (k, b)) => if b then dstE k else Equiv.refl _
  | .inr (.inr (_, k, x)) => ![Equiv.refl _, dstE k, (dstE k).symm] x

theorem bigSep_bool (Φ : Bool → sProp 𝕄) : bigSep Finset.univ Φ = iprop(Φ true ∗ Φ false) :=
  bigSep_univ_eq_bigSepL [true, false] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

/-- The duties device `c` pays. -/
def pays (c : Dev nD) : sProp 𝕄 :=
  iprop((dutyTok ER (cell (pv c) .bar) 0 true ∗ dutyTok ER (cell (nx c) .bar) 0 false)
    ∗ (each fun k => iprop(dutyTok ER (cell (dst k c) (.recv k 1)) 0 true ∗ dutyTok ER (cell c (.send k 0)) 0 true))
    ∗ bigSep Finset.univ fun j : Fin 30 => each fun k =>
        iprop(dutyTok ER (cell c (.send k (par (j.val + 1)))) ((j.val + 1) / 2) true
          ∗ dutyTok ER (cell (dst k c) (.recv k (par j.val))) ((j.val + 1) / 2) true
          ∗ dutyTok ER (cell (up k c) (.cred k)) j.val true))

/-- All the tokens, dealt to the devices that pay. -/
theorem toks_dealt : bigSep allToks (fun x => (dutyTok ER x.1 x.2.1 x.2.2 : sProp 𝕄)) = bigSep Finset.univ fun c : Dev nD => pays (F := F) c := by
  unfold allToks
  rw [bigSep_map, bigSep_univ_equiv (Equiv.prodCongrLeft payee), bigSep_univ_prod]
  refine bigSep_congr fun c _ => ?_
  rw [bigSep_univ_sum, bigSep_univ_sum, bigSep_univ_prod, bigSep_univ_prod, bigSep_bool]
  unfold pays
  rw [each_eq]
  simp only [bigSep_univ_prod, bigSep_bool, bigSep_three, each_eq]
  rfl

/-! ## The credit -/

theorem cred_first (k : Fin 4) (c : Dev nD) (i : ℕ) (t : Fin 2) :
    (Pipeline.launchCred (fun d => tallyAt (cell (dst k d) (.recv k t)) i N) c : sProp 𝕄) ⊢ cred (tallyAt (cell c (.recv k t)) i N) :=
  Pipeline.launchCred_tallyAt (semOf (.recv k t)) (dst k) (up k) (dst_up k) (up_dst k) i N c
theorem cred_back (k : Fin 4) (c : Dev nD) (i : ℕ) :
    (Pipeline.launchCred (fun d => tallyAt (cell (up k d) (.cred k)) i 1) c : sProp 𝕄) ⊢ cred (tallyAt (cell c (.cred k)) i 1) :=
  Pipeline.launchCred_tallyAt (semOf (.cred k)) (up k) (dst k) (up_dst k) (dst_up k) i 1 c

/-- A step's debts, and what all the steps owe as their sum. -/
def stepT (j : ℕ) (c : Dev nD) : CellTallies nD τ sig ℕ := recvT c (stK j) (stH j + 1) + credT c (stK j) (stH j)
theorem rem_sum (n : ℕ) : (fun c => rem c n) = fun c => ∑ j ∈ Finset.range n, stepT j c := by
  funext c
  induction n with
  | zero => rfl
  | succ n ih => rw [Finset.sum_range_succ, ← ih]; exact add_assoc _ _ _

/-- The steps by hop and stream. -/
def stepE : Fin 30 × Fin 4 ≃ Fin 120 := finProdFinEquiv.trans Fin.revPerm
theorem stepE_at (j : Fin 30) (k : Fin 4) : stK (stepE (j, k)).val = k ∧ stH (stepE (j, k)).val = j.val := by revert j k; decide +kernel

/-- The credit of a step of stream `k`. -/
def stepCred (c : Dev nD) (k : Fin 4) (j : ℕ) : sProp 𝕄 :=
  iprop(cred (tallyAt (cell c (.cred k)) j 1) ∗ cred (tallyAt (cell c (.recv k (par j))) (j + 1) N))

theorem rem_cred (c : Dev nD) :
    (Pipeline.launchCred (fun d => rem d 120) c : sProp 𝕄) ⊢ bigSep Finset.univ fun j : Fin 30 => each fun k => stepCred (F := F) c k j.val := by
  have h : (fun d => rem d 120) = fun d => ∑ j : Fin 120, stepT j.val d :=
    (rem_sum 120).trans (funext fun d => Finset.sum_range fun j => stepT j d)
  rw [h, Pipeline.launchCred_sum Finset.univ fun j : Fin 120 => stepT j.val, bigSep_univ_equiv stepE, bigSep_univ_prod]
  simp only [each_eq]
  refine bigSep_mono fun j _ => bigSep_mono fun k _ => ?_
  unfold stepT
  rw [(stepE_at j k).1, (stepE_at j k).2, Pipeline.launchCred_add]
  unfold stepCred recvT credT
  rw [par_add_two]
  show (iprop(_ ∗ _) : sProp 𝕄) ⊢ iprop(_ ∗ _)
  iintro ⟨Hr, Hc⟩
  isplitl [Hc]; · iapply (cred_back k c j.val); iexact Hc
  iapply (cred_first k c (j.val + 1) (par j.val)); iexact Hr

/-- The credit a device starts with. -/
def owedTo (c : Dev nD) : sProp 𝕄 :=
  iprop(cred (tallyAt (cell c .bar) 0 2) ∗ (each fun k => cred (tallyAt (cell c (.recv k 1)) 0 N))
    ∗ bigSep Finset.univ fun j : Fin 30 => each fun k => stepCred (F := F) c k j.val)

theorem cred_dealt (c : Dev nD) : (Pipeline.launchCred O₀ c : sProp 𝕄) ⊢ owedTo (F := F) c := by
  show Pipeline.launchCred (fun d => rem d 120 + recvT d 3 0 + recvT d 2 0 + recvT d 1 0 + recvT d 0 0 + tallyAt (cell (nx d) .bar) 0 1
    + tallyAt (cell (pv d) .bar) 0 1) c ⊢ _
  rw [Pipeline.launchCred_add, Pipeline.launchCred_add, Pipeline.launchCred_add, Pipeline.launchCred_add, Pipeline.launchCred_add, Pipeline.launchCred_add]
  unfold owedTo
  iintro ⟨⟨⟨⟨⟨⟨Hr, H3⟩, H2⟩, H1⟩, H0⟩, Hn⟩, Hp⟩
  ihave Hn := (Pipeline.launchCred_tallyAt (semOf .bar) nx pv nx_pv pv_nx 0 1 c) $$ Hn
  ihave Hp := (Pipeline.launchCred_tallyAt (semOf .bar) pv nx pv_nx nx_pv 0 1 c) $$ Hp
  isplitl [Hn Hp]
  · rw [show (tallyAt (cell c .bar) 0 2 : CellTallies nD τ sig ℕ) = tallyAt (cell c .bar) 0 1 + tallyAt (cell c .bar) 0 1 from (tallyAt_add _ _ 1 1).symm]
    iapply (cred_add _ _).2
    isplitl [Hn]; · iexact Hn
    iexact Hp
  isplitl [H0 H1 H2 H3]
  · unfold each
    isplitl [H0]; · iapply (cred_first 0 c 0 1); iexact H0
    isplitl [H1]; · iapply (cred_first 1 c 0 1); iexact H1
    isplitl [H2]; · iapply (cred_first 2 c 0 1); iexact H2
    iapply (cred_first 3 c 0 1); iexact H3
  iapply (rem_cred c); iexact Hr

/-! ## What a device starts with -/

/-- What a device is dealt is what its body starts from. -/
theorem dealt (c : Dev nD) :
    iprop((reached ER (cell (pv c) .bar) 0 ∗ reached ER (cell (nx c) .bar) 0) ∗ atPos ER (cell c .bar) 0 ∅ 0 ∗ pays (F := F) c ∗ owedTo (F := F) c)
      ⊢ (iprop(barToks (F := F) c ∗ each (fun k => firstToks (F := F) c k)
        ∗ bigSep (Ring.rangeSet 30 0 30) fun j => each fun k => toks (F := F) c k j.val) : sProp 𝕄) := by
  rw [Idealize.ShloMosaic.Ring.rangeSet_univ]
  unfold pays owedTo barToks
  iintro ⟨⟨Hrp, Hrn⟩, Ha, ⟨⟨Htp, Htn⟩, Hf, Hs⟩, Hb, Hcf, Hcs⟩
  isplitl [Hrp Hrn Ha Htp Htn Hb]
  · isplitl [Ha]; · iexact Ha
    isplitl [Hb]; · iexact Hb
    isplitl [Htp Hrp]; · isplitl [Htp] <;> iassumption
    isplitl [Htn] <;> iassumption
  isplitl [Hf Hcf]
  · ihave H := (Entails.of_eq (each_sep _ _).symm) $$ [Hf Hcf]
    · isplitl [Hf]; · iexact Hf
      iexact Hcf
    iapply (each_mono fun k => (show iprop((dutyTok ER (cell (dst k c) (.recv k 1)) 0 true ∗ dutyTok ER (cell c (.send k 0)) 0 true)
        ∗ cred (tallyAt (cell c (.recv k 1)) 0 N)) ⊢ (firstToks (F := F) c k : sProp 𝕄) by
      unfold firstToks
      iintro ⟨⟨H1, H2⟩, H3⟩
      isplitl [H2]; · iexact H2
      isplitl [H1] <;> iassumption))
    iexact H
  ihave H := (Entails.of_eq (bigSep_sep' Finset.univ _ _).symm) $$ [Hs Hcs]
  · isplitl [Hs]; · iexact Hs
    iexact Hcs
  iapply (show (_ : sProp 𝕄) ⊢ _ from bigSep_mono (s := Finset.univ) fun (j : Fin 30) _ => BIBase.Entails.trans (Entails.of_eq (each_sep _ _).symm)
    (each_mono fun k => (show iprop((dutyTok ER (cell c (.send k (par (j.val + 1)))) ((j.val + 1) / 2) true
          ∗ dutyTok ER (cell (dst k c) (.recv k (par j.val))) ((j.val + 1) / 2) true
          ∗ dutyTok ER (cell (up k c) (.cred k)) j.val true) ∗ stepCred (F := F) c k j.val) ⊢ (toks (F := F) c k j.val : sProp 𝕄) by
      unfold stepCred toks
      iintro ⟨⟨H1, H2, H3⟩, H4, H5⟩
      isplitl [H1]; · iexact H1
      isplitl [H2]; · iexact H2
      isplitl [H3]; · iexact H3
      isplitl [H4] <;> iassumption)))
  iexact H

end Cert.KernelIdeal.Ring

end
-- ==== Proof.Ring.KernelIdeal.Launch.lean ====
/- The launch: the region as a segment of @main, what the launch deals, and the run from any memory. -/
module

public import proofs.«01_k».proof.Proof.Ring.KernelIdeal.Region
public import proofs.«01_k».proof.Proof.Ring.KernelIdeal.Deal

@[expose] public section

set_option maxRecDepth 20000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The buffers and the semaphores outside the region -/

/-- A device's buffers that are not the region's own, -/
def bufs : Finset (DevRef τ sig) := (StableHlo.tcRefs τ sig).filter fun b => ¬ b.isScoped
/-- those its windows stage, -/
abbrev arrs : Finset (DevRef τ sig) := Pipeline.arrRefs (τ := τ) (pcfgs (F := F) 0).spec
/-- and the rest. -/
abbrev rest : Finset (DevRef τ sig) := bufs \ arrs (F := F)

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_c) ↦{fullShare} W (Proc.devRef .tc main_c)) ∗ (((c : Thread nD τ).loc main_c_0) ↦{fullShare} W (Proc.devRef .tc main_c_0))
      ∗ (((c : Thread nD τ).loc main_v1) ↦{fullShare} W (Proc.devRef .tc main_v1)) ∗ (((c : Thread nD τ).loc main_v2) ↦{fullShare} W (Proc.devRef .tc main_v2))
      ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_c, Proc.devRef .tc main_c_0,
    Proc.devRef .tc main_v1, Proc.devRef .tc main_v2, Proc.devRef .tc main_v3] (by decide) (by decide)]
  rfl

theorem arrs_sub : arrs (F := F) ⊆ bufs := by
  show Pipeline.arrRefs (τ := τ) spec0 ⊆ bufs
  decide
theorem held_parts (c : Dev nD) (W : Valuation τ sig (Elt F)) : (StableHlo.held (c : Thread nD τ) bufs W : sProp 𝕄)
    = iprop(StableHlo.held (c : Thread nD τ) (arrs (F := F)) W ∗ StableHlo.held (c : Thread nD τ) (rest (F := F)) W) :=
  StableHlo.held_sub_split (c : Thread nD τ) (arrs_sub (F := F)) W

theorem unscopedSems_eq (c : Dev nD) : (unscopedSems0 c : sProp 𝕄) = semVal (cell c .bar) 0 := by
  unfold unscopedSems0
  rw [show (Finset.univ.filter fun sm : SemLoc sig => ¬ sm.isScoped .tc) = {semOf .bar} from by decide, BI.bigSep_singleton]

/-! ## The segments -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

/-- Every cell's invariant. -/
def invs : sProp 𝕄 := iprop(∃ κ : GSem nD τ sig → ℕ, bigSep (barCells ∪ ownCells) fun g => cellInv ER (rd (xOf m) (wOf m)) (κ g) g)
/-- The tokens and credit of a device's body. -/
def dealtTo (c : Dev nD) : sProp 𝕄 :=
  iprop(barToks (F := F) c ∗ each (fun k => firstToks (F := F) c k)
    ∗ bigSep (Ring.rangeSet 30 0 30) fun j => each fun k => toks (F := F) c k j.val)
/-- What the launch keeps for the region, -/
def Tk (c : Dev nD) : sProp 𝕄 := iprop(invs m ∗ dorm (F := F) c ∗ dealtTo (F := F) c)
/-- what that is once the scratch semaphores are opened, -/
def Xk (c : Dev nD) : sProp 𝕄 :=
  iprop((∃ κ, env (xOf m) (wOf m) κ) ∗ each (fun k => streamStart (F := F) c k) ∗ dealtTo (F := F) c)
/-- and what the region leaves. -/
def Yk (c : Dev nD) : sProp 𝕄 := semVal (cell c .bar) 0
/-- What rides beside the buffers through the host operations. -/
def rides (c : Dev nD) : sProp 𝕄 := iprop(Tk m c ∗ (∃ r, prngReg c r) ∗ ∃ W, owes (c : Thread nD τ) (O₀ c) W)

theorem opens (c : Dev nD) : iprop(Tk m c ∗ Pipeline.ownSems0 osem c ∗ levAts L lv) ⊢ (|={Set.univ}=> Xk m c : sProp 𝕄) := by
  unfold Tk Xk invs
  iintro ⟨⟨⟨%κ, #HI⟩, Hd, Ht⟩, Hs, #HL⟩
  ihave He := (show iprop((bigSep (barCells ∪ ownCells) fun g => cellInv ER (rd (xOf m) (wOf m)) (κ g) g) ∗ levAts L lv)
      ⊢ env (xOf m) (wOf m) κ from BI.Entails.refl _) $$ []
  · isplitr; · iexact HI
    iexact HL
  icases He with #He
  imod (open_all (xOf m) (wOf m) κ c) $$ [Hd Hs] with Hst
  · isplitr; · iexact He
    isplitl [Hd] <;> iassumption
  imodintro
  isplitr; · iexists κ; iexact He
  isplitl [Hst] <;> iassumption

theorem held_none (c : Dev nD) (W : Valuation τ sig (Elt F)) : (StableHlo.held (c : Thread nD τ) ∅ W : sProp 𝕄) = BI.emp := by
  unfold StableHlo.held; exact BI.bigSep_empty

theorem enters (c : Dev nD) :
    iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = phi0 m c from rfl,
    show Pipeline.scopedRest (Ix := ℕ) (Name := ℕ) (U := UU) (Lvl := ℕ) (Val := Elt F) (Pipeline.pin (pcfgs (F := F)) adm 0).spec c = each fun k => commAny (F := F) c k from comm_eq c]
  unfold Xk phi0 dealtTo
  iintro ⟨Hcm, Hreg, -, He, Hst, Hb, Hf, Ht⟩
  isplitl [He]; · iexact He
  isplitl [Hb]; · iexact Hb
  isplitl [Hst]; · iexact Hst
  isplitl [Hf]; · iexact Hf
  isplitl [Ht]; · iexact Ht
  isplitl [Hcm]; · iexact Hcm
  iexact Hreg

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk (F := F) c) := by
  rw [show (pdats m 0 c).Φ (Fin.last (Pipeline.pin (pcfgs (F := F)) adm 0).N) = phi1 c from rfl, held_none,
    show Pipeline.scopedRest (Ix := ℕ) (Name := ℕ) (U := UU) (Lvl := ℕ) (Val := Elt F) (Pipeline.pin (pcfgs (F := F)) adm 0).spec c = each fun k => commAny (F := F) c k from comm_eq c]
  unfold phi1 Yk
  iintro ⟨Hb, Hs, Hcm, Hreg⟩
  isplitl [Hcm]; · iexact Hcm
  isplitl [Hreg]; · iexact Hreg
  isplitr; · iempintro
  isplitl [Hs] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The staging semaphores are below everything owed. -/
theorem stage_role (w : Fin 5) (s : Fin (spec0 w).nbuf) : roleOf (.dma ((spec0 w).sem s)) = none := by revert w s; decide

theorem cut : Pipeline.LevelCutOwed (pcfgs (F := F)) adm (pdats m) 0 L lv 0 fun _ => 0 where
  hι c w s := by rw [L_tc]; exact Finset.mem_range.mpr (by omega)
  hιb c w s := by
    show (match roleOf (.dma ((spec0 w).sem s)) with | some ρ => lvR ρ 0 | none => 0) ≤ 0
    rw [stage_role w s]
  hD c t g i h := by
    have e : (pdats m 0 c).owed t = if t.val = 0 then O₀ c else 0 := rfl
    rw [e] at h
    split at h
    · exact above_O₀ c g i h
    · exact absurd h (Nat.lt_irrefl 0)

/-- Only the result's buffer is new after the kernel. -/
theorem V₂_ne (c : Dev nD) {b : DevRef τ sig} (h : b ≠ Proc.devRef .tc main_v3) : V₂ m c b = V₁ m c b := by
  unfold V₂; exact Function.update_of_ne h _ _
theorem V₂_v3 (c : Dev nD) : V₂ m c (Proc.devRef .tc main_v3) = res m c := by unfold V₂; exact Function.update_self _ _ _
theorem V₂_arg0 (c : Dev nD) : V₂ m c (Proc.devRef .tc main_arg0) = m ((c : Thread nD τ).loc main_arg0) :=
  (V₂_ne m c (by decide)).trans (V₁_arg0 m c)
theorem V₂_arg1 (c : Dev nD) : V₂ m c (Proc.devRef .tc main_arg1) = m ((c : Thread nD τ).loc main_arg1) :=
  (V₂_ne m c (by decide)).trans (V₁_arg1 m c)

theorem arr_first (c : Dev nD) (w : Fin 5) : (dat0 m c).arrAt w 0 = V₁ m c (Proc.devRef .tc (Pipeline.arrRef spec0 w)) := rfl
theorem arr_last (c : Dev nD) (w : Fin 5) : (dat0 m c).arrAt w cfg0.N = V₂ m c (Proc.devRef .tc (Pipeline.arrRef spec0 w)) := by
  have hin (w : Fin 5) (h : (win0 w).isOut = false) (hn : Proc.devRef (τ := τ) .tc (Pipeline.arrRef spec0 w) ≠ Proc.devRef .tc main_v3) :
      (dat0 m c).arrAt w cfg0.N = V₂ m c (Proc.devRef .tc (Pipeline.arrRef spec0 w)) :=
    ((dat0 m c).arrAt_in w h cfg0.N).trans (V₂_ne m c hn).symm
  match w with
  | 0 => exact hin 0 rfl (by decide)
  | 1 => exact hin 1 rfl (by decide)
  | 2 => exact hin 2 rfl (by decide)
  | 3 => exact hin 3 rfl (by decide)
  | 4 => exact (arr_out m c).trans (V₂_v3 m c).symm

theorem rest_same (c : Dev nD) : ∀ b ∈ rest (F := F) \ ∅, V₂ m c b = V₁ m c b := fun b hb => by
  refine V₂_ne m c (fun h => ?_)
  subst h
  have h2 := (Finset.mem_sdiff.mp (Finset.mem_sdiff.mp hb).1).2
  exact h2 (show Proc.devRef .tc main_v3 ∈ Pipeline.arrRefs (τ := τ) spec0 by decide)

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

theorem ops_sub : ∀ op ∈ (hostOps0 : List (HloOp τ sig (Elt F))), op.bufs ⊆ bufs := fun op h => by
  simp only [List.mem_cons, List.not_mem_nil, or_false] at h
  rcases h with rfl | rfl | rfl | rfl
  · show ({Proc.devRef .tc main_c} : Finset (DevRef τ sig)) ⊆ bufs; decide
  · show ({Proc.devRef .tc main_c_0} : Finset (DevRef τ sig)) ⊆ bufs; decide
  · show ({Proc.devRef .tc main_c, Proc.devRef .tc main_v1} : Finset (DevRef τ sig)) ⊆ bufs; decide
  · show ({Proc.devRef .tc main_c_0, Proc.devRef .tc main_v2} : Finset (DevRef τ sig)) ⊆ bufs; decide

/-- The host operations, -/
def seg0 : ℍ := Pipeline.HostSeg.ofOps _ _ _ _ _ bufs hostOps0 ops_sub (List.forall_iff_forall_mem.mp hostOps0_fresh) (V₀ m) (rides m)

set_option backward.isDefEq.respectTransparency.types false in
/-- and the kernel. -/
def reg0 : ℝ𝕊 0 :=
  Pipeline.RegionSeg.ofTalk (pcfgs (F := F)) adm (pdats m) 0 defs₀ 𝒱₀ L lv 0 osem (by decide : Pipeline.OwnSemFacts spec0 osem)
    ∅ (rest (F := F)) (Finset.empty_subset _) kitP rfl (fun c => (body0 m c).loose)
    (fun _ => 0) O₀ (fun c => (owed_zero m c).trans (zero_add _).symm) (owed_last m) (fun _ => rfl)
    (fun c w => (dat0 m c).share_full (fun _ => rfl) w)
    (V₁ m) (V₂ m) (rest_same m)
    (Tk m) Yk (Xk m) Yk (opens m) (enters m) (leaves m)
    (fun c => by iintro H; imodintro; iexact H)
    (fun _ => 0) (cut m)
    (fun _ => iprop(emp))
    (arr_first m) (arr_last m)

theorem reg0_pre (c : Dev nD) : iprop(StableHlo.held (c : Thread nD τ) bufs (V₁ m c) ∗ rides m c) ⊢ (reg0 m).pre c := by
  show _ ⊢ iprop(StableHlo.held (c.tc : Thread nD τ) (arrs (F := F)) (V₁ m c) ∗ (∃ r, prngReg c r)
    ∗ (StableHlo.held (c.tc : Thread nD τ) (rest (F := F)) (V₁ m c) ∗ emp) ∗ Tk m c ∗ ∃ Wd, owes (c : Thread nD τ) (0 + O₀ c) Wd)
  rw [held_parts, zero_add]
  unfold rides
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c
    ⊢ iprop((StableHlo.held (c : Thread nD τ) bufs (V₂ m c) ∗ semVal (cell c .bar) 0)
      ∗ ∃ W, owes (c : Thread nD τ) (0 : CellTallies nD τ sig ℕ) W) := by
  show iprop(StableHlo.held (c.tc : Thread nD τ) (arrs (F := F)) (V₂ m c) ∗ (∃ r, prngReg c r)
    ∗ (StableHlo.held (c.tc : Thread nD τ) (rest (F := F)) (V₂ m c) ∗ emp) ∗ Yk (F := F) c
    ∗ ∃ Wd, owes (c : Thread nD τ) (0 : CellTallies nD τ sig ℕ) Wd) ⊢ _
  rw [held_parts]
  unfold Yk
  iintro ⟨Ha, -, ⟨Hr, -⟩, Hb, HO⟩
  isplitr [HO]
  · isplitl [Ha Hr]; · isplitl [Ha] <;> iassumption
    iexact Hb
  iexact HO

/-- @main as its segments. -/
def segs : List (Pipeline.Seg (pcfgs (F := F)) adm (pdats m) 0 defs₀ 𝒱₀ L lv) := [.host (seg0 m), .region (reg0 m)]
theorem main_eq (c : Dev nD) : main (F := F) c = Pipeline.Seg.run (segs m) :=
  main_segs adm (pdats m) 0 𝒱₀ L lv (seg0 m) (reg0 m) rfl c

/-! ## What the launch deals -/

theorem disjoint_cells : Disjoint (barCells : Finset (GSem nD τ sig)) ownCells := by
  rw [Finset.disjoint_left]
  rintro g h₁ h₂
  obtain ⟨c, -, rfl⟩ := Finset.mem_map.mp h₁
  obtain ⟨ci, -, h⟩ := Finset.mem_map.mp h₂
  exact ownRole_ne_bar ci.2 (cell_inj h).2

/-- The protocol's resources at the launch, -/
def launched : UR₂ := launchOf barCells ownCells allToks
/-- with the staging's. -/
def u₀ : UU :=
  (initOf (Pipeline.cells (Pipeline.pin (pcfgs (F := F)) adm) cellOf_inj) (Pipeline.launchToks (Pipeline.pin (pcfgs (F := F)) adm) cellOf_inj), launched)

/-- The protocol's resources, all with one device until they are dealt. -/
def G (c : Dev nD) : sProp 𝕄 := if c = 0 then BI.own (ER launched) else iprop(emp)
theorem all_G : bigSep Finset.univ (G (F := F)) = BI.own (ER launched) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: the invariants, and that every barrier is at its first round. -/
def known : sProp 𝕄 := iprop(invs m ∗ bigSep barCells fun g => reached ER g 0)
instance known_persistent : BI.Persistent (known m) := by unfold known invs; infer_instance
theorem known_bar (c : Dev nD) : known m ⊢ (reached ER (cell c .bar) 0 : sProp 𝕄) := by
  unfold known
  iintro ⟨-, H⟩
  iapply (show (bigSep barCells fun g => (reached ER g 0 : sProp 𝕄)) ⊢ reached ER (cell c .bar) 0 from
    bigSep_elim (Finset.mem_map_of_mem barEmb (Finset.mem_univ c)))
  iexact H

/-- What is a device's own of the protocol, -/
def own (c : Dev nD) : sProp 𝕄 := iprop(atPos ER (cell c .bar) 0 ∅ 0 ∗ dorm (F := F) c ∗ pays (F := F) c)
/-- and of the rest. -/
def bundle (c : Dev nD) : sProp 𝕄 :=
  iprop(StableHlo.held (c : Thread nD τ) bufs (V₀ m c) ∗ owedTo (F := F) c ∗ (∃ r, prngReg c r) ∗ ∃ W, owes (c : Thread nD τ) (O₀ c) W)

abbrev T₀ (c : Dev nD) : sProp 𝕄 := iprop(StableHlo.held (c : Thread nD τ) bufs (V₀ m c) ∗ rides m c)
abbrev Tₙ (c : Dev nD) : sProp 𝕄 := iprop(StableHlo.held (c : Thread nD τ) bufs (V₂ m c) ∗ semVal (cell c .bar) 0)

theorem T₀_intro (c : Dev nD) : iprop(known m ∗ (own (F := F) c ∗ bundle m c)) ⊢ T₀ m c := by
  unfold own bundle T₀ rides Tk
  iintro ⟨#HK, ⟨Ha, Hd, Hp⟩, Hh, Hc, Hr, HO⟩
  isplitl [Hh]; · iexact Hh
  isplitr [Hr HO]
  · isplitr
    · ihave HK' := (show known m ⊢ iprop(invs m ∗ bigSep barCells fun g => reached ER g 0) from BI.Entails.refl _) $$ HK
      icases HK' with ⟨HI, -⟩
      iexact HI
    isplitl [Hd]; · iexact Hd
    unfold dealtTo
    iapply (dealt c)
    isplitr
    · isplitr; · iapply (known_bar m (pv c)); iexact HK
      iapply (known_bar m (nx c)); iexact HK
    isplitl [Ha]; · iexact Ha
    isplitl [Hp] <;> iassumption
  isplitl [Hr] <;> iassumption

/-- Everything a device holds at launch, dealt. -/
theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c .bar) 0 ∗ G c)) : sProp 𝕄) := by
    rw [show unscopedBufs c (fun b => m ((c : Thread nD τ).loc b)) = StableHlo.held (c : Thread nD τ) bufs (V₀ m c) from unscoped_held c (V₀ m c),
      unscopedSems_eq]
    unfold bundle
    iintro ⟨Hh, Hs, HO, Hcr, Hp, HG⟩
    isplitl [Hh HO Hcr Hp]
    · isplitl [Hh]; · iexact Hh
      isplitl [Hcr]; · iapply (cred_dealt c); iexact Hcr
      isplitl [Hp]; · iexists (ρ c); iexact Hp
      iexists ∅; iexact HO
    isplitl [Hs] <;> iassumption
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => dorm (F := F) c) :=
    Entails.of_eq (by rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => bundle m c) ∗ (bigSep Finset.univ fun c : Dev nD => semVal (cell c .bar) 0)
        ∗ bigSep Finset.univ (G (F := F))) : sProp 𝕄) from by
    rw [← bigSep_sep', ← bigSep_sep']
    exact bigSep_mono fun c _ => hcore c) $$ H
  icases H with ⟨HB, Hv, HG⟩
  ihave Hu := (Entails.of_eq (all_G (F := F))) $$ HG
  unfold launched
  imod (Rounds.fund_launch ER (rd (xOf m) (wOf m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := known m) (Φ := fun c => iprop(own (F := F) c ∗ bundle m c)) fun c _ => T₀_intro m c)
  isplitr
  · unfold known invs
    isplitr; · iexists κ; iexact Hinv
    iexact Hr
  rw [bigSep_sep']
  isplitr [HB]
  · unfold own
    rw [bigSep_sep', bigSep_sep']
    isplitl [Hat]; · iapply hat $$ Hat
    isplitl [Hopen]; · iapply hopen $$ Hopen
    iapply (Entails.of_eq (toks_dealt (F := F))) $$ Htok
  · iexact HB

/-! ## The run -/

theorem unscoped_bar : ∀ sm : SemLoc sig, sm.isScoped .tc = false → sm = semOf .bar := by decide

variable (ρ : Dev nD → PrngReg)

set_option backward.isDefEq.respectTransparency.types false in
/-- From any memory with zero counters every weakly fair execution on the 32 devices ends, with the arguments unchanged,
    the result as stated, and every semaphore at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v3) = res m c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := ⟨fun c => .rfl, fun c => reg0_pre m c, fun c => reg0_post m c⟩)
    (hinit := init m ρ)
    (QY := fun c s => ((s.mem ((c : Thread nD τ).loc main_arg0) = V₂ m c (Proc.devRef .tc main_arg0)
      ∧ s.mem ((c : Thread nD τ).loc main_arg1) = V₂ m c (Proc.devRef .tc main_arg1))
      ∧ s.mem ((c : Thread nD τ).loc main_v3) = V₂ m c (Proc.devRef .tc main_v3)) ∧ s.sem (cell c .bar) = 0)
    (hfin := fun c s' => by
      dsimp only [Tₙ]; rw [bufs_eq]
      iintro ⟨⟨⟨H0, H1, -, -, -, -, H3⟩, Hb⟩, HSI⟩
      icombine HSI H0 gives %h0
      icombine HSI H1 gives %h1
      icombine HSI H3 gives %h3
      icombine HSI Hb gives %hb
      imodintro
      isplitr
      · ipureintro
        exact ⟨⟨⟨Buf.eq_of_forall_mem_univ h0, Buf.eq_of_forall_mem_univ h1⟩, Buf.eq_of_forall_mem_univ h3⟩, by simpa using hb⟩
      iexact HSI)
    (hQ := fun s h hs => ⟨fun c => by
        have hc := (h c).1
        rw [V₂_arg0, V₂_arg1, V₂_v3] at hc
        exact hc,
      sem_eq_zero hs fun c sm hsm => by
        obtain rfl := unscoped_bar sm hsm
        exact (h c).2⟩)

end Cert.KernelIdeal.Ring

end
-- ==== Proof.Ring.KernelIdeal.Value.lean ====
/- The value of the ring: at exact arithmetic the sum along it is the block of the whole product. -/
module

public import proofs.«01_k».proof.Proof.Ring.KernelIdeal.Region
public import proofs.«01_k».proof.Proof.Gen.ReferenceIdeal.Run
public import Idealize.ShloMosaic.Lib.Layout
public import Idealize.ShloMosaic.Lib.Pointwise.Contract
public import Idealize.ShloMosaic.PureOps.Ideal.Laws

@[expose] public section

noncomputable section

namespace Cert.KernelIdeal.Ring

open Idealize.ShloMosaic Idealize.ShloMosaic.TcCoe
open Cert.KernelIdeal Cert.KernelIdeal.Gen

variable (xv : Dev nD → Vec Ideal S4096x128 .f32) (wv : Dev nD → Vec Ideal S128x8192 .f32)

/-- An element of a block's product is the sum of 128 products. -/
theorem part_apply (x : Vec Ideal S128x128 .f32) (w : Vec Ideal S128x2048 .f32) (j : S128x2048.Idx) :
    part x w j = ∑ a : Fin 128, x (Shape.pair (j 0) a) * w (Shape.pair a (j 1)) := by
  unfold part
  rw [shapeCast_self (s := S128x128), shapeCast_self (s := S128x2048)]
  refine (Ideal.matmul_constant_zero_apply _ none x w j).trans ?_
  refine (DotDims.sum_contr₁ _ rfl rfl _).trans ?_
  refine Finset.sum_congr rfl fun a _ => ?_
  refine congrArg₂ (fun p q => x p * w q) ?_ ?_ <;>
  · funext b; fin_cases b <;> rfl

/-- What device `d` adds to the rows of device `r`, in stream `k`'s columns. -/
def share (k : Fin 4) (r d : Dev nD) : S128x2048.Idx → EReal := part (xBlk xv d r) (wCol wv d k)

/-- Going up once and then `i` times is going up `i + 1` times. -/
theorem upN_up (k : Fin 4) (i : ℕ) (c : Dev nD) : upN k i (up k c) = upN k (i + 1) c := by
  induction i with
  | zero => rfl
  | succ i ih => exact congrArg (up k) ih

/-- What a hop sends is the sum of what the devices behind it add to one device's rows. -/
theorem acc_apply (k : Fin 4) (h : ℕ) (hh : h < 32) (c : Dev nD) (j : S128x2048.Idx) :
    acc xv wv k h c j = ∑ i ∈ Finset.range (h + 1), share xv wv k (blk k h c) (upN k i c) j := by
  induction h generalizing c with
  | zero => exact (Finset.sum_range_one fun i => share xv wv k (blk k 0 c) (upN k i c) j).symm
  | succ h ih =>
    rw [Finset.sum_range_succ']
    refine congrArg₂ (fun p q : EReal => p + q) ((ih (by omega) (up k c)).trans ?_) rfl
    refine Finset.sum_congr rfl fun i _ => ?_
    rw [upN_up, blk_up_fin k ⟨h, by omega⟩ c]

/-- After the last hop every device has added its share. -/
theorem acc_last (k : Fin 4) (c : Dev nD) (j : S128x2048.Idx) :
    acc xv wv k 31 c j = ∑ d : Dev nD, share xv wv k c d j := by
  rw [acc_apply xv wv k 31 (by decide) c j, blk_last, Finset.sum_range]
  exact (upN_bij k c).sum_comp fun d => share xv wv k c d j

/-- A sum over 4096 is one over 32 blocks of 128. -/
theorem sum_blocks (f : Fin 4096 → EReal) :
    ∑ n, f n = ∑ d : Fin 32, ∑ a : Fin 128, f ⟨d.val * 128 + a.val, by omega⟩ := by
  rw [← Fintype.sum_prod_type' (f := fun (d : Fin 32) (a : Fin 128) => f ⟨d.val * 128 + a.val, by omega⟩)]
  refine (Fintype.sum_equiv (finProdFinEquiv (m := 32) (n := 128)) _ _ fun p => ?_).symm
  refine congrArg f (Fin.ext ?_)
  show p.1.val * 128 + p.2.val = p.2.val + 128 * p.1.val
  omega

/-- The whole result: the product, cut off below at zero. -/
def whole (X : Vec Ideal Cert.ReferenceIdeal.S4096x4096 .f32) (W : Vec Ideal Cert.ReferenceIdeal.S4096x8192 .f32) :
    Vec Ideal Cert.ReferenceIdeal.S4096x8192 .f32 :=
  maximumf (F := Ideal) (φ := .f32) (Host.dotGeneral (φ₁ := .f32) (φ₂ := .f32) Cert.ReferenceIdeal.dot_S4096x4096_S4096x8192_S4096x8192_1_0_0_1_n_n none X W)
    (broadcastInDim Cert.ReferenceIdeal.S4096x8192 ![] Cert.ReferenceIdeal.Gen.bcast_S_S4096x8192 (constant Cert.ReferenceIdeal.S_ .f32 0x00000000#32))

variable (X : Vec Ideal Cert.ReferenceIdeal.S4096x4096 .f32) (W : Vec Ideal Cert.ReferenceIdeal.S4096x8192 .f32)

/-- An element of the whole result. -/
theorem whole_apply (i : Cert.ReferenceIdeal.S4096x8192.Idx) :
    whole X W i = max (∑ n : Fin 4096, X (Shape.pair (i 0) n) * W (Shape.pair n (i 1))) (Ideal.ofBits .f32 0x00000000#32) := by
  unfold whole
  refine congrArg₂ (fun p q : EReal => max p q) ?_ rfl
  refine (Ideal.dotGeneral_apply _ none _ X W i).trans ?_
  refine (DotDims.sum_contr₁ _ rfl rfl _).trans ?_
  refine Finset.sum_congr rfl fun a _ => ?_
  refine congrArg₂ (fun p q => X p * W q) ?_ ?_ <;>
  · funext b; fin_cases b <;> rfl

/-- When the devices hold the blocks of two whole arrays, the kernel leaves on each its block of the whole result. -/
theorem outAll_block (hx : ∀ d, xv d = Layout.block ⟨2, ![4096, 128]⟩ ⟨2, ![4096, 4096]⟩ 1 32 d X)
    (hw : ∀ d, wv d = Layout.block ⟨2, ![128, 8192]⟩ ⟨2, ![4096, 8192]⟩ 0 32 d W) (c : Dev nD) :
    outAll xv wv c = Layout.block ⟨2, ![128, 8192]⟩ ⟨2, ![4096, 8192]⟩ 0 32 c (whole X W) := by
  funext j
  rw [Layout.block_apply, whole_apply, sum_blocks]
  refine congrArg₂ (fun p q : EReal => max p q) ?_ rfl
  refine (acc_last xv wv (colK j) c (colI j)).trans ?_
  refine Finset.sum_congr rfl fun d _ => ?_
  refine (part_apply _ _ _).trans ?_
  refine Finset.sum_congr rfl fun a _ => ?_
  unfold xBlk wCol
  rw [hx d, hw d, Layout.block_apply, Layout.block_apply]
  refine congrArg₂ (fun p q => X p * W q) ?_ ?_
  · funext b; refine Fin.ext ?_
    fin_cases b
    · show rowW (word c) 0 + 1 * (j 0).val = c.val * 128 + (j 0).val
      rw [rowW_word c]
      show 128 * c.val + 1 * (j 0).val = _
      omega
    · show d.val * 128 + (rowW (word c) 1 + 1 * a.val) = d.val * 128 + a.val
      rw [rowW_word c]
      show d.val * 128 + (0 + 1 * a.val) = _
      omega
  · funext b; refine Fin.ext ?_
    fin_cases b
    · show d.val * 128 + (0 + 1 * a.val) = d.val * 128 + a.val
      omega
    · exact congrArg Fin.val (congrFun (col_emb j) 1)

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Kernel.Launch
public import proofs.«01_k».proof.Proof.Ring.KernelIdeal.Launch
public import proofs.«01_k».proof.Proof.Ring.KernelIdeal.Value
public import Idealize.ShloMosaic.Adequacy
public import Idealize.ShloMosaic.Init

@[expose] public section

noncomputable section

namespace Cert.Proof

open Idealize.ShloMosaic Idealize.SL.Sem Cert.Kernel

/-- The kernel's frame: its run, without the result. -/
theorem frame_kernel : Cert.quiescent_Kernel (hKernel := Cert.Kernel.Gen.facts) := fun m g _ =>
  (θ_run _ _ _).mono (fun _ h => ⟨fun c => (h.1 c).1, h.2⟩) (Cert.Kernel.Ring.run_main m g)

/-- The idealized kernel's frame: its run, without the result. -/
theorem frame_ideal : Cert.quiescent_KernelIdeal (hKernelIdeal := Cert.KernelIdeal.Gen.facts) := fun m g _ =>
  (θ_run _ _ _).mono (fun _ h => ⟨fun c => (h.1 c).1, h.2⟩) (Cert.KernelIdeal.Ring.run_main m g)

/-- The reference's frame: it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The idealized kernel and the reference compute the same: the reference's result is the whole product cut off below
at zero, and each device ends with its block of that. -/
theorem same : Cert.algebraic_KernelIdeal_ReferenceIdeal (hKernelIdeal := Cert.KernelIdeal.Gen.facts)
    (hReferenceIdeal := Cert.ReferenceIdeal.Gen.facts) := fun m g m' g' _ hin =>
  ⟨Cert.KernelIdeal.Ring.whole _ _,
    (θ_run _ _ _).mono (fun _ h c => ⟨(h.1 c).2.trans (Cert.KernelIdeal.Ring.outAll_block _ _ _ _
      (fun d => (hin d).1) (fun d => (hin d).2) c), (h.1 c).1⟩) (Cert.KernelIdeal.Ring.run_main m g),
    (θ_run _ _ _).mono (fun _ h => h 0) (Cert.ReferenceIdeal.Value.run m' g')⟩

/-- Every claim of the certificate. -/
theorem claim : Cert.Claim := ⟨Cert.Kernel.Gen.facts, Cert.KernelIdeal.Gen.facts, Cert.ReferenceIdeal.Gen.facts,
  frame_kernel, frame_ideal, frame_reference, trivial, same⟩

end Cert.Proof

end
